-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v72_0)) (v1 : (c : Dev Cert.KernelIdeal.nD) → Buf (Elt Ideal) ((c.tc : Thread Cert.KernelIdeal.nD Cert.KernelIdeal.τ).loc Cert.KernelIdeal.main_v72_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72_0) = v0 c
          ∧ r.2.mem ((c.tc : Thread Cert.KernelIdeal.nD Cert.KernelIdeal.τ).loc Cert.KernelIdeal.main_v72_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v119_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)) (v7 : (c : Dev Cert.Kernel2Ideal.nD) → Buf (Elt Ideal) ((c.tc : Thread Cert.Kernel2Ideal.nD Cert.Kernel2Ideal.τ).loc Cert.Kernel2Ideal.main_v4_7)) (v8 : (c : Dev Cert.Kernel2Ideal.nD) → Buf (Elt Ideal) ((c.tc : Thread Cert.Kernel2Ideal.nD Cert.Kernel2Ideal.τ).loc Cert.Kernel2Ideal.main_v4_8)) (v9 : (c : Dev Cert.Kernel2Ideal.nD) → Buf (Elt Ideal) ((c.tc : Thread Cert.Kernel2Ideal.nD Cert.Kernel2Ideal.τ).loc Cert.Kernel2Ideal.main_v4_9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_v4_7) = v7 c
          ∧ r.2.mem ((c.tc : Thread Cert.Kernel2Ideal.nD Cert.Kernel2Ideal.τ).loc Cert.Kernel2Ideal.main_v4_8) = v8 c
          ∧ r.2.mem ((c.tc : Thread Cert.Kernel2Ideal.nD Cert.Kernel2Ideal.τ).loc Cert.Kernel2Ideal.main_v4_9) = v9 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_v24) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v28) = v4 c
          ∧ r.2.mem ((c.tc : Thread Cert.Reference2Ideal.nD Cert.Reference2Ideal.τ).loc Cert.Reference2Ideal.main_v30) = v5 c
          ∧ r.2.mem ((c.tc : Thread Cert.Reference2Ideal.nD Cert.Reference2Ideal.τ).loc Cert.Reference2Ideal.main_v31) = v6 c
          ∧ r.2.mem ((c.tc : Thread Cert.Reference2Ideal.nD Cert.Reference2Ideal.τ).loc Cert.Reference2Ideal.main_v32) = v7 c
          ∧ r.2.mem ((c.tc : Thread Cert.Reference2Ideal.nD Cert.Reference2Ideal.τ).loc Cert.Reference2Ideal.main_v33) = v8 c
          ∧ r.2.mem ((c.tc : Thread Cert.Reference2Ideal.nD Cert.Reference2Ideal.τ).loc Cert.Reference2Ideal.main_v35) = v9 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)) (v3 : (c : Dev Cert.Kernel3Ideal.nD) → Buf (Elt Ideal) ((c.tc : Thread Cert.Kernel3Ideal.nD Cert.Kernel3Ideal.τ).loc Cert.Kernel3Ideal.main_v4_3)) (v4 : (c : Dev Cert.Kernel3Ideal.nD) → Buf (Elt Ideal) ((c.tc : Thread Cert.Kernel3Ideal.nD Cert.Kernel3Ideal.τ).loc Cert.Kernel3Ideal.main_v4_4)) (v5 : (c : Dev Cert.Kernel3Ideal.nD) → Buf (Elt Ideal) ((c.tc : Thread Cert.Kernel3Ideal.nD Cert.Kernel3Ideal.τ).loc Cert.Kernel3Ideal.main_v4_6)) (v6 : (c : Dev Cert.Kernel3Ideal.nD) → Buf (Elt Ideal) ((c.tc : Thread Cert.Kernel3Ideal.nD Cert.Kernel3Ideal.τ).loc Cert.Kernel3Ideal.main_v4_7)) (v7 : (c : Dev Cert.Kernel3Ideal.nD) → Buf (Elt Ideal) ((c.tc : Thread Cert.Kernel3Ideal.nD Cert.Kernel3Ideal.τ).loc Cert.Kernel3Ideal.main_v4_8)) (v8 : (c : Dev Cert.Kernel3Ideal.nD) → Buf (Elt Ideal) ((c.tc : Thread Cert.Kernel3Ideal.nD Cert.Kernel3Ideal.τ).loc Cert.Kernel3Ideal.main_v4_9)) (v9 : (c : Dev Cert.Kernel3Ideal.nD) → Buf (Elt Ideal) ((c.tc : Thread Cert.Kernel3Ideal.nD Cert.Kernel3Ideal.τ).loc Cert.Kernel3Ideal.main_v4_10)) (v10 : (c : Dev Cert.Kernel3Ideal.nD) → Buf (Elt Ideal) ((c.tc : Thread Cert.Kernel3Ideal.nD Cert.Kernel3Ideal.τ).loc Cert.Kernel3Ideal.main_v4_11)) (v11 : (c : Dev Cert.Kernel3Ideal.nD) → Buf (Elt Ideal) ((c.tc : Thread Cert.Kernel3Ideal.nD Cert.Kernel3Ideal.τ).loc Cert.Kernel3Ideal.main_v4_12)) (v12 : (c : Dev Cert.Kernel3Ideal.nD) → Buf (Elt Ideal) ((c.tc : Thread Cert.Kernel3Ideal.nD Cert.Kernel3Ideal.τ).loc Cert.Kernel3Ideal.main_v4_13)) (v13 : (c : Dev Cert.Kernel3Ideal.nD) → Buf (Elt Ideal) ((c.tc : Thread Cert.Kernel3Ideal.nD Cert.Kernel3Ideal.τ).loc Cert.Kernel3Ideal.main_v4_14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_v4_3) = v3 c
          ∧ r.2.mem ((c.tc : Thread Cert.Kernel3Ideal.nD Cert.Kernel3Ideal.τ).loc Cert.Kernel3Ideal.main_v4_4) = v4 c
          ∧ r.2.mem ((c.tc : Thread Cert.Kernel3Ideal.nD Cert.Kernel3Ideal.τ).loc Cert.Kernel3Ideal.main_v4_6) = v5 c
          ∧ r.2.mem ((c.tc : Thread Cert.Kernel3Ideal.nD Cert.Kernel3Ideal.τ).loc Cert.Kernel3Ideal.main_v4_7) = v6 c
          ∧ r.2.mem ((c.tc : Thread Cert.Kernel3Ideal.nD Cert.Kernel3Ideal.τ).loc Cert.Kernel3Ideal.main_v4_8) = v7 c
          ∧ r.2.mem ((c.tc : Thread Cert.Kernel3Ideal.nD Cert.Kernel3Ideal.τ).loc Cert.Kernel3Ideal.main_v4_9) = v8 c
          ∧ r.2.mem ((c.tc : Thread Cert.Kernel3Ideal.nD Cert.Kernel3Ideal.τ).loc Cert.Kernel3Ideal.main_v4_10) = v9 c
          ∧ r.2.mem ((c.tc : Thread Cert.Kernel3Ideal.nD Cert.Kernel3Ideal.τ).loc Cert.Kernel3Ideal.main_v4_11) = v10 c
          ∧ r.2.mem ((c.tc : Thread Cert.Kernel3Ideal.nD Cert.Kernel3Ideal.τ).loc Cert.Kernel3Ideal.main_v4_12) = v11 c
          ∧ r.2.mem ((c.tc : Thread Cert.Kernel3Ideal.nD Cert.Kernel3Ideal.τ).loc Cert.Kernel3Ideal.main_v4_13) = v12 c
          ∧ r.2.mem ((c.tc : Thread Cert.Kernel3Ideal.nD Cert.Kernel3Ideal.τ).loc Cert.Kernel3Ideal.main_v4_14) = v13 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v27) = v2 c
          ∧ r.2.mem ((c.tc : Thread Cert.Reference3Ideal.nD Cert.Reference3Ideal.τ).loc Cert.Reference3Ideal.main_v29) = v3 c
          ∧ r.2.mem ((c.tc : Thread Cert.Reference3Ideal.nD Cert.Reference3Ideal.τ).loc Cert.Reference3Ideal.main_v30) = v4 c
          ∧ r.2.mem ((c.tc : Thread Cert.Reference3Ideal.nD Cert.Reference3Ideal.τ).loc Cert.Reference3Ideal.main_v31) = v5 c
          ∧ r.2.mem ((c.tc : Thread Cert.Reference3Ideal.nD Cert.Reference3Ideal.τ).loc Cert.Reference3Ideal.main_v33) = v6 c
          ∧ r.2.mem ((c.tc : Thread Cert.Reference3Ideal.nD Cert.Reference3Ideal.τ).loc Cert.Reference3Ideal.main_v34) = v7 c
          ∧ r.2.mem ((c.tc : Thread Cert.Reference3Ideal.nD Cert.Reference3Ideal.τ).loc Cert.Reference3Ideal.main_v36) = v8 c
          ∧ r.2.mem ((c.tc : Thread Cert.Reference3Ideal.nD Cert.Reference3Ideal.τ).loc Cert.Reference3Ideal.main_v38) = v9 c
          ∧ r.2.mem ((c.tc : Thread Cert.Reference3Ideal.nD Cert.Reference3Ideal.τ).loc Cert.Reference3Ideal.main_v40) = v10 c
          ∧ r.2.mem ((c.tc : Thread Cert.Reference3Ideal.nD Cert.Reference3Ideal.τ).loc Cert.Reference3Ideal.main_v42) = v11 c
          ∧ r.2.mem ((c.tc : Thread Cert.Reference3Ideal.nD Cert.Reference3Ideal.τ).loc Cert.Reference3Ideal.main_v43) = v12 c
          ∧ r.2.mem ((c.tc : Thread Cert.Reference3Ideal.nD Cert.Reference3Ideal.τ).loc Cert.Reference3Ideal.main_v45) = v13 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v31) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)) (v2 : (c : Dev Cert.Kernel6Ideal.nD) → Buf (Elt Ideal) ((c.tc : Thread Cert.Kernel6Ideal.nD Cert.Kernel6Ideal.τ).loc Cert.Kernel6Ideal.main_v4_2)) (v3 : (c : Dev Cert.Kernel6Ideal.nD) → Buf (Elt Ideal) ((c.tc : Thread Cert.Kernel6Ideal.nD Cert.Kernel6Ideal.τ).loc Cert.Kernel6Ideal.main_v4_3)) (v4 : (c : Dev Cert.Kernel6Ideal.nD) → Buf (Elt Ideal) ((c.tc : Thread Cert.Kernel6Ideal.nD Cert.Kernel6Ideal.τ).loc Cert.Kernel6Ideal.main_v4_4)) (v5 : (c : Dev Cert.Kernel6Ideal.nD) → Buf (Elt Ideal) ((c.tc : Thread Cert.Kernel6Ideal.nD Cert.Kernel6Ideal.τ).loc Cert.Kernel6Ideal.main_v4_5)) (v6 : (c : Dev Cert.Kernel6Ideal.nD) → Buf (Elt Ideal) ((c.tc : Thread Cert.Kernel6Ideal.nD Cert.Kernel6Ideal.τ).loc Cert.Kernel6Ideal.main_v4_6)) (v7 : (c : Dev Cert.Kernel6Ideal.nD) → Buf (Elt Ideal) ((c.tc : Thread Cert.Kernel6Ideal.nD Cert.Kernel6Ideal.τ).loc Cert.Kernel6Ideal.main_v4_7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_v4_2) = v2 c
          ∧ r.2.mem ((c.tc : Thread Cert.Kernel6Ideal.nD Cert.Kernel6Ideal.τ).loc Cert.Kernel6Ideal.main_v4_3) = v3 c
          ∧ r.2.mem ((c.tc : Thread Cert.Kernel6Ideal.nD Cert.Kernel6Ideal.τ).loc Cert.Kernel6Ideal.main_v4_4) = v4 c
          ∧ r.2.mem ((c.tc : Thread Cert.Kernel6Ideal.nD Cert.Kernel6Ideal.τ).loc Cert.Kernel6Ideal.main_v4_5) = v5 c
          ∧ r.2.mem ((c.tc : Thread Cert.Kernel6Ideal.nD Cert.Kernel6Ideal.τ).loc Cert.Kernel6Ideal.main_v4_6) = v6 c
          ∧ r.2.mem ((c.tc : Thread Cert.Kernel6Ideal.nD Cert.Kernel6Ideal.τ).loc Cert.Kernel6Ideal.main_v4_7) = v7 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v24) = v2 c
          ∧ r.2.mem ((c.tc : Thread Cert.Reference6Ideal.nD Cert.Reference6Ideal.τ).loc Cert.Reference6Ideal.main_v26) = v3 c
          ∧ r.2.mem ((c.tc : Thread Cert.Reference6Ideal.nD Cert.Reference6Ideal.τ).loc Cert.Reference6Ideal.main_v27) = v4 c
          ∧ r.2.mem ((c.tc : Thread Cert.Reference6Ideal.nD Cert.Reference6Ideal.τ).loc Cert.Reference6Ideal.main_v28) = v5 c
          ∧ r.2.mem ((c.tc : Thread Cert.Reference6Ideal.nD Cert.Reference6Ideal.τ).loc Cert.Reference6Ideal.main_v29) = v6 c
          ∧ r.2.mem ((c.tc : Thread Cert.Reference6Ideal.nD Cert.Reference6Ideal.τ).loc Cert.Reference6Ideal.main_v31) = v7 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)) (v5 : (c : Dev Cert.Kernel7Ideal.nD) → Buf (Elt Ideal) ((c.tc : Thread Cert.Kernel7Ideal.nD Cert.Kernel7Ideal.τ).loc Cert.Kernel7Ideal.main_v4_5)) (v6 : (c : Dev Cert.Kernel7Ideal.nD) → Buf (Elt Ideal) ((c.tc : Thread Cert.Kernel7Ideal.nD Cert.Kernel7Ideal.τ).loc Cert.Kernel7Ideal.main_v4_6)) (v7 : (c : Dev Cert.Kernel7Ideal.nD) → Buf (Elt Ideal) ((c.tc : Thread Cert.Kernel7Ideal.nD Cert.Kernel7Ideal.τ).loc Cert.Kernel7Ideal.main_v4_7)) (v8 : (c : Dev Cert.Kernel7Ideal.nD) → Buf (Elt Ideal) ((c.tc : Thread Cert.Kernel7Ideal.nD Cert.Kernel7Ideal.τ).loc Cert.Kernel7Ideal.main_v4_8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_v4_5) = v5 c
          ∧ r.2.mem ((c.tc : Thread Cert.Kernel7Ideal.nD Cert.Kernel7Ideal.τ).loc Cert.Kernel7Ideal.main_v4_6) = v6 c
          ∧ r.2.mem ((c.tc : Thread Cert.Kernel7Ideal.nD Cert.Kernel7Ideal.τ).loc Cert.Kernel7Ideal.main_v4_7) = v7 c
          ∧ r.2.mem ((c.tc : Thread Cert.Kernel7Ideal.nD Cert.Kernel7Ideal.τ).loc Cert.Kernel7Ideal.main_v4_8) = v8 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_v26) = v2 c
          ∧ r.2.mem ((c.tc : Thread Cert.Reference7Ideal.nD Cert.Reference7Ideal.τ).loc Cert.Reference7Ideal.main_v27) = v3 c
          ∧ r.2.mem ((c.tc : Thread Cert.Reference7Ideal.nD Cert.Reference7Ideal.τ).loc Cert.Reference7Ideal.main_v28) = v4 c
          ∧ r.2.mem ((c.tc : Thread Cert.Reference7Ideal.nD Cert.Reference7Ideal.τ).loc Cert.Reference7Ideal.main_v29) = v5 c
          ∧ r.2.mem ((c.tc : Thread Cert.Reference7Ideal.nD Cert.Reference7Ideal.τ).loc Cert.Reference7Ideal.main_v30) = v6 c
          ∧ r.2.mem ((c.tc : Thread Cert.Reference7Ideal.nD Cert.Reference7Ideal.τ).loc Cert.Reference7Ideal.main_v31) = v7 c
          ∧ r.2.mem ((c.tc : Thread Cert.Reference7Ideal.nD Cert.Reference7Ideal.τ).loc Cert.Reference7Ideal.main_v33) = v8 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4x4096x256 : Shape := ⟨3, ![4, 4096, 256]⟩
abbrev S4x4096x512 : Shape := ⟨3, ![4, 4096, 512]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4x4096x512 : S_.BroadcastsInDim S4x4096x512 (![] : Fin 0 → Fin S4x4096x512.rank)
  reducesTo_S4x4096x512_S_d0_1_2 : S4x4096x512.ReducesTo [0, 1, 2] S_

variable [Facts]

def fn_part1 {F : FTy → Type} [FloatOps F] (main_arg2 : FVec F S4x4096x512 .f32) (main_v12 : IVec S_ 1) (main_v14 : IVec S4x4096x512 1) (main_v15 : FVec F S4x4096x512 .f32) : IVec S_ 1 :=
  let main_v16 : IVec S4x4096x512 1 := cmpf .olt main_arg2 main_v15
  let main_v17 : IVec S4x4096x512 1 := andi main_v14 main_v16
  let main_c_6 : IVec S_ 1 := constantI S_ 1 1#1
  let main_v18 : IVec S_ 1 := (fun x v => Host.reduce IntOp.andi x v reducesTo_S4x4096x512_S_d0_1_2 h_S_) main_v17 main_c_6
  let main_v19 : IVec S_ 1 := andi main_v12 main_v18
  main_v19

def fn {F : FTy → Type} [FloatOps F] (main_arg0 : FVec F S4x4096x256 .f32) (main_arg1 : FVec F S4x4096x256 .f32) (main_arg2 : FVec F S4x4096x512 .f32) : IVec S_ 1 :=
  let main_cst : FVec F S_ .f32 := constant S_ .f32 0xFF800000#32
  let main_v0 : FVec F S4x4096x256 .f32 := broadcastInDim S4x4096x256 ![] bcast_S_S4x4096x256 main_cst
  let main_v1 : IVec S4x4096x256 1 := cmpf .ogt main_arg0 main_v0
  let main_cst_0 : FVec F S_ .f32 := constant S_ .f32 0x7F800000#32
  let main_v2 : FVec F S4x4096x256 .f32 := broadcastInDim S4x4096x256 ![] bcast_S_S4x4096x256 main_cst_0
  let main_v3 : IVec S4x4096x256 1 := cmpf .olt main_arg0 main_v2
  let main_v4 : IVec S4x4096x256 1 := andi main_v1 main_v3
  let main_c : IVec S_ 1 := constantI S_ 1 1#1
  let main_v5 : IVec S_ 1 := (fun x v => Host.reduce IntOp.andi x v reducesTo_S4x4096x256_S_d0_1_2 h_S_) main_v4 main_c
  let main_cst_1 : FVec F S_ .f32 := constant S_ .f32 0xFF800000#32
  let main_v6 : FVec F S4x4096x256 .f32 := broadcastInDim S4x4096x256 ![] bcast_S_S4x4096x256 main_cst_1
  let main_v7 : IVec S4x4096x256 1 := cmpf .ogt main_arg1 main_v6
  let main_cst_2 : FVec F S_ .f32 := constant S_ .f32 0x7F800000#32
  let main_v8 : FVec F S4x4096x256 .f32 := broadcastInDim S4x4096x256 ![] bcast_S_S4x4096x256 main_cst_2
  let main_v9 : IVec S4x4096x256 1 := cmpf .olt main_arg1 main_v8
  let main_v10 : IVec S4x4096x256 1 := andi main_v7 main_v9
  let main_c_3 : IVec S_ 1 := constantI S_ 1 1#1
  let main_v11 : IVec S_ 1 := (fun x v => Host.reduce IntOp.andi x v reducesTo_S4x4096x256_S_d0_1_2 h_S_) main_v10 main_c_3
  let main_v12 : IVec S_ 1 := andi main_v5 main_v11
  let main_cst_4 : FVec F S_ .f32 := constant S_ .f32 0xFF800000#32
  let main_v13 : FVec F S4x4096x512 .f32 := broadcastInDim S4x4096x512 ![] bcast_S_S4x4096x512 main_cst_4
  let main_v14 : IVec S4x4096x512 1 := cmpf .ogt main_arg2 main_v13
  let main_cst_5 : FVec F S_ .f32 := constant S_ .f32 0x7F800000#32
  let main_v15 : FVec F S4x4096x512 .f32 := broadcastInDim S4x4096x512 ![] bcast_S_S4x4096x512 main_cst_5
  fn_part1 (F := F) main_arg2 main_v12 main_v14 main_v15
-- ==== Kernel.lean ====
abbrev S4x4096x256 : Shape := ⟨3, ![4, 4096, 256]⟩
abbrev S4x4096x512 : Shape := ⟨3, ![4, 4096, 512]⟩
abbrev S_ : Shape := ⟨0, ![]⟩
abbrev S4x4x64x128 : Shape := ⟨4, ![4, 4, 64, 128]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x8x32 : Shape := ⟨4, ![1, 4096, 8, 32]⟩
abbrev S4096x256 : Shape := ⟨2, ![4096, 256]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S1x4 : Shape := ⟨2, ![1, 4]⟩
abbrev S256x4 : Shape := ⟨2, ![256, 4]⟩
abbrev S256x4x64 : Shape := ⟨3, ![256, 4, 64]⟩
abbrev S4x1x128 : Shape := ⟨3, ![4, 1, 128]⟩
abbrev S1x256x512 : Shape := ⟨3, ![1, 256, 512]⟩
abbrev S1x4x64x128 : Shape := ⟨4, ![1, 4, 64, 128]⟩
abbrev S4x64x128 : Shape := ⟨3, ![4, 64, 128]⟩
abbrev S256x512 : Shape := ⟨2, ![256, 512]⟩
abbrev S1x64x128 : Shape := ⟨3, ![1, 64, 128]⟩
abbrev S64x128 : Shape := ⟨2, ![64, 128]⟩
abbrev S256x64 : Shape := ⟨2, ![256, 64]⟩
abbrev S256x128 : Shape := ⟨2, ![256, 128]⟩
abbrev S1x256x128 : Shape := ⟨3, ![1, 256, 128]⟩
abbrev S1x1x128 : Shape := ⟨3, ![1, 1, 128]⟩
abbrev S1x128 : Shape := ⟨2, ![1, 128]⟩

abbrev nBuf : Space → Nat
  | .hbm => 91
  | .vmem => 21
  | .smem => 0
  | _ => 0

abbrev bufTy : (tb : Table) → Fin (tcTables nBuf tb) → BufTy
  | .hbm, ⟨0, _⟩ => ⟨S4x4096x256, .f32⟩
  | .hbm, ⟨1, _⟩ => ⟨S4x4096x256, .f32⟩
  | .hbm, ⟨2, _⟩ => ⟨S4x4096x512, .f32⟩
  | .hbm, ⟨3, _⟩ => ⟨S_, .f32⟩
  | .hbm, ⟨4, _⟩ => ⟨S4x4x64x128, .f32⟩
  | .hbm, ⟨5, _⟩ => ⟨S4096, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S4096, .f32⟩
  | .hbm, ⟨15, _⟩ => ⟨S4096x1, .f32⟩
  | .hbm, ⟨16, _⟩ => ⟨S1x32, .f32⟩
  | .hbm, ⟨17, _⟩ => ⟨S4096x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S1x4096x1x32, .f32⟩
  | .hbm, ⟨22, _⟩ => ⟨S1x4096x8x32, .f32⟩
  | .hbm, ⟨23, _⟩ => ⟨S4096x256, .f32⟩
  | .hbm, ⟨24, _⟩ => ⟨S4096x32, .f32⟩
  | .hbm, ⟨25, _⟩ => ⟨S1x4096x1x32, .f32⟩
  | .hbm, ⟨26, _⟩ => ⟨S1x4096x8x32, .f32⟩
  | .hbm, ⟨27, _⟩ => ⟨S4096x256, .f32⟩
  | .hbm, ⟨28, _⟩ => ⟨S4, .f32⟩
  | .hbm, ⟨29, _⟩ => ⟨S_, .f32⟩
  | .hbm, ⟨30, _⟩ => ⟨S4, .f32⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S256, .f32⟩
  | .hbm, ⟨39, _⟩ => ⟨S256x1, .f32⟩
  | .hbm, ⟨40, _⟩ => ⟨S1x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S_, .f32⟩
  | .hbm, ⟨45, _⟩ => ⟨S256x256, .f32⟩
  | .hbm, ⟨46, _⟩ => ⟨S256x256, .i1⟩
  | .hbm, ⟨47, _⟩ => ⟨S4x1x1, .f32⟩
  | .hbm, ⟨48, _⟩ => ⟨S_, .f32⟩
  | .hbm, ⟨49, _⟩ => ⟨S256x256, .f32⟩
  | .hbm, ⟨50, _⟩ => ⟨S256x256, .f32⟩
  | .hbm, ⟨51, _⟩ => ⟨S1x256x256, .f32⟩
  | .hbm, ⟨52, _⟩ => ⟨S4x256x256, .f32⟩
  | .hbm, ⟨53, _⟩ => ⟨S4x256x256, .f32⟩
  | .hbm, ⟨54, _⟩ => ⟨S4x256x256, .f32⟩
  | .hbm, ⟨55, _⟩ => ⟨S4x256x256, .f32⟩
  | .hbm, ⟨56, _⟩ => ⟨S_, .f32⟩
  | .hbm, ⟨57, _⟩ => ⟨S_, .f32⟩
  | .hbm, ⟨58, _⟩ => ⟨S4x256x256, .i1⟩
  | .hbm, ⟨59, _⟩ => ⟨S4x256x256, .f32⟩
  | .hbm, ⟨60, _⟩ => ⟨S4x256x256, .f32⟩
  | .hbm, ⟨61, _⟩ => ⟨S1x4, .f32⟩
  | .hbm, ⟨62, _⟩ => ⟨S256x1, .f32⟩
  | .hbm, ⟨63, _⟩ => ⟨S_, .f32⟩
  | .hbm, ⟨64, _⟩ => ⟨S256x1, .f32⟩
  | .hbm, ⟨65, _⟩ => ⟨S256x1, .f32⟩
  | .hbm, ⟨66, _⟩ => ⟨S256x4, .f32⟩
  | .hbm, ⟨67, _⟩ => ⟨S256x4, .f32⟩
  | .hbm, ⟨68, _⟩ => ⟨S256x4, .f32⟩
  | .hbm, ⟨69, _⟩ => ⟨S256x4, .f32⟩
  | .hbm, ⟨70, _⟩ => ⟨S256x4x64, .f32⟩
  | .hbm, ⟨71, _⟩ => ⟨S256x256, .f32⟩
  | .hbm, ⟨72, _⟩ => ⟨S1x4, .f32⟩
  | .hbm, ⟨73, _⟩ => ⟨S256x1, .f32⟩
  | .hbm, ⟨74, _⟩ => ⟨S_, .f32⟩
  | .hbm, ⟨75, _⟩ => ⟨S256x1, .f32⟩
  | .hbm, ⟨76, _⟩ => ⟨S256x1, .f32⟩
  | .hbm, ⟨77, _⟩ => ⟨S256x4, .f32⟩
  | .hbm, ⟨78, _⟩ => ⟨S256x4, .f32⟩
  | .hbm, ⟨79, _⟩ => ⟨S256x4, .f32⟩
  | .hbm, ⟨80, _⟩ => ⟨S256x4, .f32⟩
  | .hbm, ⟨81, _⟩ => ⟨S256x4x64, .f32⟩
  | .hbm, ⟨82, _⟩ => ⟨S256x256, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4x1x1, .f32⟩
  | .hbm, ⟨88, _⟩ => ⟨S4x1x128, .f32⟩
  | .hbm, ⟨89, _⟩ => ⟨S4x4096x512, .bf16⟩
  | .hbm, ⟨90, _⟩ => ⟨S4x4x64x128, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S4x256x256, .f32⟩
  | .local _ .vmem, ⟨13, _⟩ => ⟨S4x1x128, .f32⟩
  | .local _ .vmem, ⟨14, _⟩ => ⟨S1x4x64x128, .f32⟩
  | .local _ .vmem, ⟨15, _⟩ => ⟨S1x4x64x128, .f32⟩
  | .local _ .vmem, ⟨16, _⟩ => ⟨S1x256x512, .bf16⟩
  | .local _ .vmem, ⟨17, _⟩ => ⟨S1x256x512, .bf16⟩
  | .local _ .vmem, ⟨18, _⟩ => ⟨S1x4x64x128, .f32⟩
  | .local _ .vmem, ⟨19, _⟩ => ⟨S1x4x64x128, .f32⟩
  | .local _ .vmem, ⟨20, _⟩ => ⟨S4x64x128, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_9 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72_0 : Ref sig .tc := ⟨.hbm, 89, rfl⟩
abbrev main_v72_1 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v169 : BitVec 1 := Scalar.cmpi .eq arg1 c15_i32
  let v170 : BitVec 32 := Scalar.extui v169
  let c0_i32_93 : BitVec 32 := 0#32
  let v171 : BitVec 1 := Scalar.cmpi .ne v170 c0_i32_93
  v171

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S4x4096x256 : Shape := ⟨3, ![4, 4096, 256]⟩
abbrev S4x4096x512 : Shape := ⟨3, ![4, 4096, 512]⟩
abbrev S4096 : Shape := ⟨1, ![4096]⟩
abbrev S_ : Shape := ⟨0, ![]⟩
abbrev S4x4x64x128 : Shape := ⟨4, ![4, 4, 64, 128]⟩
abbrev S4x4096x4x64 : Shape := ⟨4, ![4, 4096, 4, 64]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S4x4096x4x32 : Shape := ⟨4, ![4, 4096, 4, 32]⟩
abbrev S4x4096x4x128 : Shape := ⟨4, ![4, 4096, 4, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S4x32x128x4x64 : Shape := ⟨5, ![4, 32, 128, 4, 64]⟩
abbrev S32x4x128x4x64 : Shape := ⟨5, ![32, 4, 128, 4, 64]⟩
abbrev S4x32x128x4x128 : Shape := ⟨5, ![4, 32, 128, 4, 128]⟩
abbrev S32x4x128x4x128 : Shape := ⟨5, ![32, 4, 128, 4, 128]⟩
abbrev S1x4x128x4x64 : Shape := ⟨5, ![1, 4, 128, 4, 64]⟩
abbrev S4x128x4x64 : Shape := ⟨4, ![4, 128, 4, 64]⟩
abbrev S1x4x128x4x128 : Shape := ⟨5, ![1, 4, 128, 4, 128]⟩
abbrev S4x128x4x128 : Shape := ⟨4, ![4, 128, 4, 128]⟩
abbrev S4x4x128x128 : Shape := ⟨4, ![4, 4, 128, 128]⟩
abbrev S1x4x128x128 : Shape := ⟨4, ![1, 4, 128, 128]⟩

abbrev nBuf : Space → Nat
  | .hbm => 200
  | .vmem => 0
  | .smem => 0
  | _ => 0

abbrev hbmTy0_0 (i : Nat) : BufTy := match i % 128 with
  | 0 => ⟨S4x4096x256, .f32⟩
  | 1 => ⟨S4x4096x256, .f32⟩
  | 2 => ⟨S4x4096x512, .f32⟩
  | 3 => ⟨S4096, .i32⟩
  | 4 => ⟨S_, .f32⟩
  | 5 => ⟨S4x4x64x128, .f32⟩
  | 6 => ⟨S4x4096x4x64, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S4096, .f32⟩
  | 16 => ⟨S4096x1, .f32⟩
  | 17 => ⟨S1x32, .f32⟩
  | 18 => ⟨S4096x32, .f32⟩
  | 19 => ⟨S4096x32, .f32⟩
  | 20 => ⟨S4096x32, .f32⟩
  | 21 => ⟨S4096x32, .f32⟩
  | 22 => ⟨S1x4096x1x32, .f32⟩
  | 23 => ⟨S4096x32, .f32⟩
  | 24 => ⟨S1x4096x1x32, .f32⟩
  | 25 => ⟨S4x4096x4x32, .f32⟩
  | 26 => ⟨S4x4096x4x32, .f32⟩
  | 27 => ⟨S4x4096x4x32, .f32⟩
  | 28 => ⟨S4x4096x4x32, .f32⟩
  | 29 => ⟨S4x4096x4x32, .f32⟩
  | 30 => ⟨S4x4096x4x32, .f32⟩
  | 31 => ⟨S4x4096x4x32, .f32⟩
  | 32 => ⟨S4x4096x4x32, .f32⟩
  | 33 => ⟨S4x4096x4x32, .f32⟩
  | 34 => ⟨S4x4096x4x32, .f32⟩
  | 35 => ⟨S4x4096x4x32, .f32⟩
  | 36 => ⟨S4x4096x4x32, .f32⟩
  | 37 => ⟨S4x4096x4x64, .f32⟩
  | 38 => ⟨S4x4096x4x64, .f32⟩
  | 39 => ⟨S32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S4096, .f32⟩
  | 48 => ⟨S4096x1, .f32⟩
  | 49 => ⟨S1x32, .f32⟩
  | 50 => ⟨S4096x32, .f32⟩
  | 51 => ⟨S4096x32, .f32⟩
  | 52 => ⟨S4096x32, .f32⟩
  | 53 => ⟨S4096x32, .f32⟩
  | 54 => ⟨S1x4096x1x32, .f32⟩
  | 55 => ⟨S4096x32, .f32⟩
  | 56 => ⟨S1x4096x1x32, .f32⟩
  | 57 => ⟨S4x4096x4x32, .f32⟩
  | 58 => ⟨S4x4096x4x32, .f32⟩
  | 59 => ⟨S4x4096x4x32, .f32⟩
  | 60 => ⟨S4x4096x4x32, .f32⟩
  | 61 => ⟨S4x4096x4x32, .f32⟩
  | 62 => ⟨S4x4096x4x32, .f32⟩
  | 63 => ⟨S4x4096x4x32, .f32⟩
  | 64 => ⟨S4x4096x4x32, .f32⟩
  | 65 => ⟨S4x4096x4x32, .f32⟩
  | 66 => ⟨S4x4096x4x32, .f32⟩
  | 67 => ⟨S4x4096x4x32, .f32⟩
  | 68 => ⟨S4x4096x4x32, .f32⟩
  | 69 => ⟨S4x4096x4x64, .f32⟩
  | 70 => ⟨S_, .f32⟩
  | 71 => ⟨S4x4096x4x64, .f32⟩
  | 72 => ⟨S4x4096x4x64, .f32⟩
  | 73 => ⟨S4x4096x4x128, .f32⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S4, .f32⟩
  | 82 => ⟨S4, .f32⟩
  | 83 => ⟨S4, .f32⟩
  | 84 => ⟨S128, .f32⟩
  | 85 => ⟨S128x1, .f32⟩
  | 86 => ⟨S1x128, .f32⟩
  | 87 => ⟨S128x128, .f32⟩
  | 88 => ⟨S128x128, .f32⟩
  | 89 => ⟨S128x128, .f32⟩
  | 90 => ⟨S_, .f32⟩
  | 91 => ⟨S128x128, .f32⟩
  | 92 => ⟨S128x128, .i1⟩
  | 93 => ⟨S4x1x1, .f32⟩
  | 94 => ⟨S_, .f32⟩
  | 95 => ⟨S128x128, .f32⟩
  | 96 => ⟨S128x128, .f32⟩
  | 97 => ⟨S1x128x128, .f32⟩
  | 98 => ⟨S4x128x128, .f32⟩
  | 99 => ⟨S4x128x128, .f32⟩
  | 100 => ⟨S4x128x128, .f32⟩
  | 101 => ⟨S4x128x128, .f32⟩
  | 102 => ⟨S_, .f32⟩
  | 103 => ⟨S_, .f32⟩
  | 104 => ⟨S4x128x128, .i1⟩
  | 105 => ⟨S4x128x128, .f32⟩
  | 106 => ⟨S4x128x128, .f32⟩
  | 107 => ⟨S1x4, .f32⟩
  | 108 => ⟨S128x1, .f32⟩
  | 109 => ⟨S_, .f32⟩
  | 110 => ⟨S128x1, .f32⟩
  | 111 => ⟨S128x1, .f32⟩
  | 112 => ⟨S128x4, .f32⟩
  | 113 => ⟨S128x4, .f32⟩
  | 114 => ⟨S128x4, .f32⟩
  | 115 => ⟨S128x4, .f32⟩
  | 116 => ⟨S1x128x4x1, .f32⟩
  | 117 => ⟨S1x4, .f32⟩
  | 118 => ⟨S128x1, .f32⟩
  | 119 => ⟨S_, .f32⟩
  | 120 => ⟨S128x1, .f32⟩
  | 121 => ⟨S128x1, .f32⟩
  | 122 => ⟨S128x4, .f32⟩
  | 123 => ⟨S128x4, .f32⟩
  | 124 => ⟨S128x4, .f32⟩
  | 125 => ⟨S128x4, .f32⟩
  | 126 => ⟨S1x128x4x1, .f32⟩
  | 127 => ⟨S_, .f32⟩
  | _ => ⟨S4x4096x256, .f32⟩

abbrev hbmTy0_1 (i : Nat) : BufTy := match i % 128 with
  | 0 => ⟨S4, .f32⟩
  | 1 => ⟨S4, .f32⟩
  | 2 => ⟨S4, .f32⟩
  | 3 => ⟨S1x4x1x1, .f32⟩
  | 4 => ⟨S4x32x128x4x64, .f32⟩
  | 5 => ⟨S32x4x128x4x64, .f32⟩
  | 6 => ⟨S4x32x128x4x64, .f32⟩
  | 7 => ⟨S32x4x128x4x64, .f32⟩
  | 8 => ⟨S4x32x128x4x128, .f32⟩
  | 9 => ⟨S32x4x128x4x128, .f32⟩
  | 10 => ⟨S_, .f32⟩
  | 11 => ⟨S32x4x128x4x128, .f32⟩
  | 12 => ⟨S_, .i32⟩
  | 13 => ⟨S32x4x128x4x64, .f32⟩
  | 14 => ⟨S32x4x128x4x64, .f32⟩
  | 15 => ⟨S32x4x128x4x128, .f32⟩
  | 16 => ⟨S4x128x128, .f32⟩
  | 17 => ⟨S1x128x4x1, .f32⟩
  | 18 => ⟨S1x4x1x1, .f32⟩
  | 19 => ⟨S1x128x4x1, .f32⟩
  | 20 => ⟨S_, .i32⟩
  | 21 => ⟨S4x4x64x128, .f32⟩
  | 22 => ⟨S32x4x128x4x128, .f32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S1x4x128x4x64, .f32⟩
  | 30 => ⟨S4x128x4x64, .f32⟩
  | 31 => ⟨S_, .i32⟩
  | 32 => ⟨S_, .i32⟩
  | 33 => ⟨S_, .i32⟩
  | 34 => ⟨S_, .i32⟩
  | 35 => ⟨S1x4x128x4x64, .f32⟩
  | 36 => ⟨S4x128x4x64, .f32⟩
  | 37 => ⟨S_, .i32⟩
  | 38 => ⟨S_, .i32⟩
  | 39 => ⟨S_, .i32⟩
  | 40 => ⟨S_, .i32⟩
  | 41 => ⟨S1x4x128x4x128, .f32⟩
  | 42 => ⟨S4x128x4x128, .f32⟩
  | 43 => ⟨S4x4x128x128, .f32⟩
  | 44 => ⟨S1x4x128x128, .f32⟩
  | 45 => ⟨S4x4x128x128, .f32⟩
  | 46 => ⟨S4x4x128x128, .f32⟩
  | 47 => ⟨S4x4x128x128, .f32⟩
  | 48 => ⟨S4x128x4x128, .f32⟩
  | 49 => ⟨S4x4x128x128, .f32⟩
  | 50 => ⟨S4x128x4x128, .f32⟩
  | 51 => ⟨S4x128x4x128, .f32⟩
  | 52 => ⟨S4x128x4x128, .f32⟩
  | 53 => ⟨S4x128x4x128, .f32⟩
  | 54 => ⟨S4x4x64x128, .f32⟩
  | 55 => ⟨S4x4x64x128, .f32⟩
  | 56 => ⟨S4x128x4x64, .f32⟩
  | 57 => ⟨S4x128x4x64, .f32⟩
  | 58 => ⟨S4x4x64x128, .f32⟩
  | 59 => ⟨S4x4x64x128, .f32⟩
  | 60 => ⟨S1x4x128x4x128, .f32⟩
  | 61 => ⟨S_, .i32⟩
  | 62 => ⟨S_, .i32⟩
  | 63 => ⟨S_, .i32⟩
  | 64 => ⟨S_, .i32⟩
  | 65 => ⟨S32x4x128x4x128, .f32⟩
  | 66 => ⟨S_, .i32⟩
  | 67 => ⟨S_, .i32⟩
  | 68 => ⟨S4x32x128x4x128, .f32⟩
  | 69 => ⟨S4x4096x4x128, .f32⟩
  | 70 => ⟨S4x4096x512, .f32⟩
  | 71 => ⟨S4x4096x512, .bf16⟩
  | _ => ⟨S4x4096x256, .f32⟩

abbrev hbmTy (i : Nat) : BufTy := match i / 128 with
  | 0 => hbmTy0_0 i
  | 1 => hbmTy0_1 i
  | _ => ⟨S4x4096x256, .f32⟩

abbrev bufTy : (tb : Table) → Fin (tcTables nBuf tb) → BufTy
  | .hbm, ⟨i, _⟩ => hbmTy i
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_cst_4 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_5 : Ref sig .tc := ⟨.hbm, 75, rfl⟩
abbrev main_v66 : Ref sig .tc := ⟨.hbm, 76, rfl⟩
abbrev main_v67 : Ref sig .tc := ⟨.hbm, 77, rfl⟩
abbrev main_cst_6 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_cst_7 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_cst_8 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_cst_9 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_10 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_cst_11 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_12 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_cst_13 : Ref sig .tc := ⟨.hbm, 138, rfl⟩
abbrev main_v118 : Ref sig .tc := ⟨.hbm, 139, rfl⟩
abbrev main_c : Ref sig .tc := ⟨.hbm, 140, rfl⟩
abbrev main_v119_0 : Ref sig .tc := ⟨.hbm, 141, rfl⟩
abbrev main_v119_1 : Ref sig .tc := ⟨.hbm, 142, rfl⟩
abbrev main_v119_2 : Ref sig .tc := ⟨.hbm, 143, rfl⟩
abbrev main_v119_3 : Ref sig .tc := ⟨.hbm, 144, rfl⟩
abbrev main_v119_4 : Ref sig .tc := ⟨.hbm, 145, rfl⟩
abbrev main_v119_5 : Ref sig .tc := ⟨.hbm, 146, rfl⟩
abbrev main_v119_6 : Ref sig .tc := ⟨.hbm, 147, rfl⟩
abbrev main_v119_7 : Ref sig .tc := ⟨.hbm, 148, rfl⟩
abbrev main_v119_8 : Ref sig .tc := ⟨.hbm, 149, rfl⟩
abbrev main_v119_9 : Ref sig .tc := ⟨.hbm, 150, rfl⟩
abbrev main_while0c_c_23 : Ref sig .tc := ⟨.hbm, 151, rfl⟩
abbrev main_while0c_v124 : Ref sig .tc := ⟨.hbm, 152, rfl⟩
abbrev main_while0b_call1_c : Ref sig .tc := ⟨.hbm, 153, rfl⟩
abbrev main_while0b_call1_c_0 : Ref sig .tc := ⟨.hbm, 154, rfl⟩
abbrev main_while0b_call1_c_1 : Ref sig .tc := ⟨.hbm, 155, rfl⟩
abbrev main_while0b_call1_c_2 : Ref sig .tc := ⟨.hbm, 156, rfl⟩
abbrev main_while0b_call1_v0 : Ref sig .tc := ⟨.hbm, 157, rfl⟩
abbrev main_while0b_v124 : Ref sig .tc := ⟨.hbm, 158, rfl⟩
abbrev main_while0b_call2_c : Ref sig .tc := ⟨.hbm, 159, rfl⟩
abbrev main_while0b_call2_c_0 : Ref sig .tc := ⟨.hbm, 160, rfl⟩
abbrev main_while0b_call2_c_1 : Ref sig .tc := ⟨.hbm, 161, rfl⟩
abbrev main_while0b_call2_c_2 : Ref sig .tc := ⟨.hbm, 162, rfl⟩
abbrev main_while0b_call2_v0 : Ref sig .tc := ⟨.hbm, 163, rfl⟩
abbrev main_while0b_v125 : Ref sig .tc := ⟨.hbm, 164, rfl⟩
abbrev main_while0b_call3_c : Ref sig .tc := ⟨.hbm, 165, rfl⟩
abbrev main_while0b_call3_c_0 : Ref sig .tc := ⟨.hbm, 166, rfl⟩
abbrev main_while0b_call3_c_1 : Ref sig .tc := ⟨.hbm, 167, rfl⟩
abbrev main_while0b_call3_c_2 : Ref sig .tc := ⟨.hbm, 168, rfl⟩
abbrev main_while0b_call3_v0 : Ref sig .tc := ⟨.hbm, 169, rfl⟩
abbrev main_while0b_v126 : Ref sig .tc := ⟨.hbm, 170, rfl⟩
abbrev main_while0b_v127 : Ref sig .tc := ⟨.hbm, 171, rfl⟩
abbrev main_while0b_v128 : Ref sig .tc := ⟨.hbm, 172, rfl⟩
abbrev main_while0b_v129 : Ref sig .tc := ⟨.hbm, 173, rfl⟩
abbrev main_while0b_v130 : Ref sig .tc := ⟨.hbm, 174, rfl⟩
abbrev main_while0b_v131 : Ref sig .tc := ⟨.hbm, 175, rfl⟩
abbrev main_while0b_v132 : Ref sig .tc := ⟨.hbm, 176, rfl⟩
abbrev main_while0b_v133 : Ref sig .tc := ⟨.hbm, 177, rfl⟩
abbrev main_while0b_v134 : Ref sig .tc := ⟨.hbm, 178, rfl⟩
abbrev main_while0b_v135 : Ref sig .tc := ⟨.hbm, 179, rfl⟩
abbrev main_while0b_v136 : Ref sig .tc := ⟨.hbm, 180, rfl⟩
abbrev main_while0b_v137 : Ref sig .tc := ⟨.hbm, 181, rfl⟩
abbrev main_while0b_v138 : Ref sig .tc := ⟨.hbm, 182, rfl⟩
abbrev main_while0b_v139 : Ref sig .tc := ⟨.hbm, 183, rfl⟩
abbrev main_while0b_v140 : Ref sig .tc := ⟨.hbm, 184, rfl⟩
abbrev main_while0b_v141 : Ref sig .tc := ⟨.hbm, 185, rfl⟩
abbrev main_while0b_v142 : Ref sig .tc := ⟨.hbm, 186, rfl⟩
abbrev main_while0b_v143 : Ref sig .tc := ⟨.hbm, 187, rfl⟩
abbrev main_while0b_call4_v0 : Ref sig .tc := ⟨.hbm, 188, rfl⟩
abbrev main_while0b_call4_c : Ref sig .tc := ⟨.hbm, 189, rfl⟩
abbrev main_while0b_call4_c_0 : Ref sig .tc := ⟨.hbm, 190, rfl⟩
abbrev main_while0b_call4_c_1 : Ref sig .tc := ⟨.hbm, 191, rfl⟩
abbrev main_while0b_call4_c_2 : Ref sig .tc := ⟨.hbm, 192, rfl⟩
abbrev main_while0b_v144 : Ref sig .tc := ⟨.hbm, 193, rfl⟩
abbrev main_while0b_c_23 : Ref sig .tc := ⟨.hbm, 194, rfl⟩
abbrev main_while0b_v145 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S4x4096x1024 : Shape := ⟨3, ![4, 4096, 1024]⟩
abbrev S1024 : Shape := ⟨1, ![1024]⟩
abbrev S1024x3584 : Shape := ⟨2, ![1024, 3584]⟩
abbrev S16384x1024 : Shape := ⟨2, ![16384, 1024]⟩
abbrev S3584x1024 : Shape := ⟨2, ![3584, 1024]⟩
abbrev S1x1024 : Shape := ⟨2, ![1, 1024]⟩
abbrev S16384x512 : Shape := ⟨2, ![16384, 512]⟩
abbrev S4x512x2048 : Shape := ⟨3, ![4, 512, 2048]⟩
abbrev S16384x256 : Shape := ⟨2, ![16384, 256]⟩
abbrev S512x1024 : Shape := ⟨2, ![512, 1024]⟩
abbrev S512x512 : Shape := ⟨2, ![512, 512]⟩
abbrev S1x512x512 : Shape := ⟨3, ![1, 512, 512]⟩
abbrev S512x256 : Shape := ⟨2, ![512, 256]⟩
abbrev S512 : Shape := ⟨1, ![512]⟩
abbrev S512x1 : Shape := ⟨2, ![512, 1]⟩
abbrev S256x1024 : Shape := ⟨2, ![256, 1024]⟩

abbrev nBuf : Space → Nat
  | .hbm => 17
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S16384x1024, .f32⟩
  | .hbm, ⟨4, _⟩ => ⟨S3584x1024, .f32⟩
  | .hbm, ⟨5, _⟩ => ⟨S3584x1024, .bf16⟩
  | .hbm, ⟨6, _⟩ => ⟨S1x1024, .f32⟩
  | .hbm, ⟨7, _⟩ => ⟨S16384x512, .f32⟩
  | .hbm, ⟨8, _⟩ => ⟨S16384x512, .f32⟩
  | .hbm, ⟨9, _⟩ => ⟨S16384x512, .f32⟩
  | .hbm, ⟨10, _⟩ => ⟨S4x512x2048, .f32⟩
  | .hbm, ⟨11, _⟩ => ⟨S4x512x2048, .f32⟩
  | .hbm, ⟨12, _⟩ => ⟨S16384x512, .bf16⟩
  | .hbm, ⟨13, _⟩ => ⟨S16384x256, .f32⟩
  | .hbm, ⟨14, _⟩ => ⟨S16384x256, .f32⟩
  | .hbm, ⟨15, _⟩ => ⟨S16384x512, .f32⟩
  | .hbm, ⟨16, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3584x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S512x512, .bf16⟩
  | .local _ .vmem, ⟨15, _⟩ => ⟨S512x512, .bf16⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x512, .f32⟩
  | .local _ .vmem, ⟨21, _⟩ => ⟨S512x512, .f32⟩
  | .local _ .vmem, ⟨22, _⟩ => ⟨S512x512, .bf16⟩
  | .local _ .vmem, ⟨23, _⟩ => ⟨S512x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev main_v4_9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v17 : BitVec 1 := Scalar.cmpi .eq c8_i32 c0_i32
  let c1_i32 : BitVec 32 := 1#32
  let v18 : BitVec 32 := Scalar.select v17 c1_i32 c8_i32
  let v19 : BitVec 32 := Scalar.remsi arg0 v18
  let c0_i32_6 : BitVec 32 := 0#32
  let v21 : BitVec 1 := Scalar.cmpi .slt v19 c0_i32_6
  let c0_i32_7 : BitVec 32 := 0#32
  let v22 : BitVec 1 := Scalar.cmpi .slt v18 c0_i32_7
  let v23 : BitVec 1 := Scalar.xori v21 v22
  let c0_i32_5 : BitVec 32 := 0#32
  let v20 : BitVec 1 := Scalar.cmpi .ne v19 c0_i32_5
  let v24 : BitVec 1 := Scalar.andi v23 v20
  let v25 : BitVec 32 := Scalar.addi v19 v18
  let v26 : BitVec 32 := Scalar.select v24 v25 v19
  let c4_i32 : BitVec 32 := 4#32
  let v41 : BitVec 1 := Scalar.cmpi .sge v26 c4_i32
  let v42 : BitVec 32 := Scalar.extui v41
  let c0_i32_23 : BitVec 32 := 0#32
  let v43 : BitVec 1 := Scalar.cmpi .ne v42 c0_i32_23
  v43

def k0_cond2 (i : grid0.Coords) : BitVec 1 :=
  let arg0 : BitVec 32 := BitVec.ofNat 32 (i 0).val
  let c8_i32 : BitVec 32 := 8#32
  let c0_i32 : BitVec 32 := 0#32
  let v17 : BitVec 1 := Scalar.cmpi .eq c8_i32 c0_i32
  let c1_i32 : BitVec 32 := 1#32
  let v18 : BitVec 32 := Scalar.select v17 c1_i32 c8_i32
  let v19 : BitVec 32 := Scalar.remsi arg0 v18
  let c0_i32_6 : BitVec 32 := 0#32
  let v21 : BitVec 1 := Scalar.cmpi .slt v19 c0_i32_6
  let c0_i32_7 : BitVec 32 := 0#32
  let v22 : BitVec 1 := Scalar.cmpi .slt v18 c0_i32_7
  let v23 : BitVec 1 := Scalar.xori v21 v22
  let c0_i32_5 : BitVec 32 := 0#32
  let v20 : BitVec 1 := Scalar.cmpi .ne v19 c0_i32_5
  let v24 : BitVec 1 := Scalar.andi v23 v20
  let v25 : BitVec 32 := Scalar.addi v19 v18
  let v26 : BitVec 32 := Scalar.select v24 v25 v19
  let c4_i32_26 : BitVec 32 := 4#32
  let v46 : BitVec 1 := Scalar.cmpi .sge v26 c4_i32_26
  let v47 : BitVec 32 := Scalar.extui v46
  let c0_i32_27 : BitVec 32 := 0#32
  let v48 : BitVec 1 := Scalar.cmpi .ne v47 c0_i32_27
  v48

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.subi v26 c4_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.subi v26 c4_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S4x4096x1024 : Shape := ⟨3, ![4, 4096, 1024]⟩
abbrev S1024 : Shape := ⟨1, ![1024]⟩
abbrev S1024x3584 : Shape := ⟨2, ![1024, 3584]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x3584 : Shape := ⟨3, ![4, 4096, 3584]⟩
abbrev S4x4096x512 : Shape := ⟨3, ![4, 4096, 512]⟩
abbrev S4x4096x256 : Shape := ⟨3, ![4, 4096, 256]⟩
abbrev S16384x512 : Shape := ⟨2, ![16384, 512]⟩
abbrev S4x2048x512 : Shape := ⟨3, ![4, 2048, 512]⟩
abbrev S4x512x2048 : Shape := ⟨3, ![4, 512, 2048]⟩
abbrev S16384x256 : Shape := ⟨2, ![16384, 256]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x3584, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x3584, .f32⟩
  | .hbm, ⟨20, _⟩ => ⟨S4x4096x512, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x256, .f32⟩
  | .hbm, ⟨25, _⟩ => ⟨S4x4096x256, .f32⟩
  | .hbm, ⟨26, _⟩ => ⟨S4x4096x512, .f32⟩
  | .hbm, ⟨27, _⟩ => ⟨S4x4096x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S4x2048x512, .f32⟩
  | .hbm, ⟨32, _⟩ => ⟨S4x512x2048, .f32⟩
  | .hbm, ⟨33, _⟩ => ⟨S4x2048x512, .f32⟩
  | .hbm, ⟨34, _⟩ => ⟨S4x512x2048, .f32⟩
  | .hbm, ⟨35, _⟩ => ⟨S16384x512, .f32⟩
  | .hbm, ⟨36, _⟩ => ⟨S16384x512, .bf16⟩
  | .hbm, ⟨37, _⟩ => ⟨S16384x256, .f32⟩
  | .hbm, ⟨38, _⟩ => ⟨S16384x256, .f32⟩
  | .hbm, ⟨39, _⟩ => ⟨S16384x512, .f32⟩
  | .hbm, ⟨40, _⟩ => ⟨S16384x512, .f32⟩
  | .hbm, ⟨41, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x2864 : Shape := ⟨2, ![1024, 2864]⟩
abbrev S16384x1024 : Shape := ⟨2, ![16384, 1024]⟩
abbrev S2864x1024 : Shape := ⟨2, ![2864, 1024]⟩
abbrev S1x1024 : Shape := ⟨2, ![1, 1024]⟩
abbrev S16384x128 : Shape := ⟨2, ![16384, 128]⟩
abbrev S4x128x4096 : Shape := ⟨3, ![4, 128, 4096]⟩
abbrev S16384x256 : Shape := ⟨2, ![16384, 256]⟩
abbrev S4x128x512 : Shape := ⟨3, ![4, 128, 512]⟩
abbrev S4x48x4096 : Shape := ⟨3, ![4, 48, 4096]⟩
abbrev S512x1024 : Shape := ⟨2, ![512, 1024]⟩
abbrev S512x128 : Shape := ⟨2, ![512, 128]⟩
abbrev S1x128x512 : Shape := ⟨3, ![1, 128, 512]⟩
abbrev S512x256 : Shape := ⟨2, ![512, 256]⟩
abbrev S1x48x512 : Shape := ⟨3, ![1, 48, 512]⟩
abbrev S512 : Shape := ⟨1, ![512]⟩
abbrev S512x1 : Shape := ⟨2, ![512, 1]⟩
abbrev S1024x1024 : Shape := ⟨2, ![1024, 1024]⟩
abbrev S128x1024 : Shape := ⟨2, ![128, 1024]⟩
abbrev S128x512 : Shape := ⟨2, ![128, 512]⟩
abbrev S48x1024 : Shape := ⟨2, ![48, 1024]⟩
abbrev S48x512 : Shape := ⟨2, ![48, 512]⟩

abbrev nBuf : Space → Nat
  | .hbm => 22
  | .vmem => 34
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2864, .f32⟩
  | .hbm, ⟨3, _⟩ => ⟨S16384x1024, .f32⟩
  | .hbm, ⟨4, _⟩ => ⟨S2864x1024, .f32⟩
  | .hbm, ⟨5, _⟩ => ⟨S2864x1024, .bf16⟩
  | .hbm, ⟨6, _⟩ => ⟨S1x1024, .f32⟩
  | .hbm, ⟨7, _⟩ => ⟨S16384x1024, .bf16⟩
  | .hbm, ⟨8, _⟩ => ⟨S16384x128, .bf16⟩
  | .hbm, ⟨9, _⟩ => ⟨S4x128x4096, .f32⟩
  | .hbm, ⟨10, _⟩ => ⟨S16384x128, .bf16⟩
  | .hbm, ⟨11, _⟩ => ⟨S4x128x4096, .f32⟩
  | .hbm, ⟨12, _⟩ => ⟨S16384x256, .bf16⟩
  | .hbm, ⟨13, _⟩ => ⟨S4x128x4096, .f32⟩
  | .hbm, ⟨14, _⟩ => ⟨S4x128x4096, .bf16⟩
  | .hbm, ⟨15, _⟩ => ⟨S4x128x4096, .f32⟩
  | .hbm, ⟨16, _⟩ => ⟨S16384x128, .bf16⟩
  | .hbm, ⟨17, _⟩ => ⟨S4x128x512, .f32⟩
  | .hbm, ⟨18, _⟩ => ⟨S4x128x4096, .bf16⟩
  | .hbm, ⟨19, _⟩ => ⟨S4x128x512, .f32⟩
  | .hbm, ⟨20, _⟩ => ⟨S4x48x4096, .f32⟩
  | .hbm, ⟨21, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2864x1024, .bf16⟩
  | .local _ .vmem, ⟨4, _⟩ => ⟨S512x1024, .bf16⟩
  | .local _ .vmem, ⟨5, _⟩ => ⟨S512x1024, .bf16⟩
  | .local _ .vmem, ⟨6, _⟩ => ⟨S512x128, .bf16⟩
  | .local _ .vmem, ⟨7, _⟩ => ⟨S512x128, .bf16⟩
  | .local _ .vmem, ⟨8, _⟩ => ⟨S1x128x512, .f32⟩
  | .local _ .vmem, ⟨9, _⟩ => ⟨S1x128x512, .f32⟩
  | .local _ .vmem, ⟨10, _⟩ => ⟨S512x128, .bf16⟩
  | .local _ .vmem, ⟨11, _⟩ => ⟨S512x128, .bf16⟩
  | .local _ .vmem, ⟨12, _⟩ => ⟨S1x128x512, .f32⟩
  | .local _ .vmem, ⟨13, _⟩ => ⟨S1x128x512, .f32⟩
  | .local _ .vmem, ⟨14, _⟩ => ⟨S512x256, .bf16⟩
  | .local _ .vmem, ⟨15, _⟩ => ⟨S512x256, .bf16⟩
  | .local _ .vmem, ⟨16, _⟩ => ⟨S1x128x512, .f32⟩
  | .local _ .vmem, ⟨17, _⟩ => ⟨S1x128x512, .f32⟩
  | .local _ .vmem, ⟨18, _⟩ => ⟨S1x128x512, .bf16⟩
  | .local _ .vmem, ⟨19, _⟩ => ⟨S1x128x512, .bf16⟩
  | .local _ .vmem, ⟨20, _⟩ => ⟨S1x128x512, .f32⟩
  | .local _ .vmem, ⟨21, _⟩ => ⟨S1x128x512, .f32⟩
  | .local _ .vmem, ⟨22, _⟩ => ⟨S512x128, .bf16⟩
  | .local _ .vmem, ⟨23, _⟩ => ⟨S512x128, .bf16⟩
  | .local _ .vmem, ⟨24, _⟩ => ⟨S1x128x512, .f32⟩
  | .local _ .vmem, ⟨25, _⟩ => ⟨S1x128x512, .f32⟩
  | .local _ .vmem, ⟨26, _⟩ => ⟨S1x128x512, .bf16⟩
  | .local _ .vmem, ⟨27, _⟩ => ⟨S1x128x512, .bf16⟩
  | .local _ .vmem, ⟨28, _⟩ => ⟨S1x128x512, .f32⟩
  | .local _ .vmem, ⟨29, _⟩ => ⟨S1x128x512, .f32⟩
  | .local _ .vmem, ⟨30, _⟩ => ⟨S1x48x512, .f32⟩
  | .local _ .vmem, ⟨31, _⟩ => ⟨S1x48x512, .f32⟩
  | .local _ .vmem, ⟨32, _⟩ => ⟨S512x1024, .bf16⟩
  | .local _ .vmem, ⟨33, _⟩ => ⟨S512x1024, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev main_v4_9 : Ref sig .tc := ⟨.hbm, 16, rfl⟩
abbrev main_v4_10 : Ref sig .tc := ⟨.hbm, 17, rfl⟩
abbrev main_v4_11 : Ref sig .tc := ⟨.hbm, 18, rfl⟩
abbrev main_v4_12 : Ref sig .tc := ⟨.hbm, 19, rfl⟩
abbrev main_v4_13 : Ref sig .tc := ⟨.hbm, 20, rfl⟩
abbrev main_v4_14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c8_i32 : BitVec 32 := 8#32
  let c0_i32 : BitVec 32 := 0#32
  let v17 : BitVec 1 := Scalar.cmpi .eq c8_i32 c0_i32
  let c1_i32 : BitVec 32 := 1#32
  let v18 : BitVec 32 := Scalar.select v17 c1_i32 c8_i32
  let v19 : BitVec 32 := Scalar.remsi arg0 v18
  let c0_i32_6 : BitVec 32 := 0#32
  let v21 : BitVec 1 := Scalar.cmpi .slt v19 c0_i32_6
  let c0_i32_7 : BitVec 32 := 0#32
  let v22 : BitVec 1 := Scalar.cmpi .slt v18 c0_i32_7
  let v23 : BitVec 1 := Scalar.xori v21 v22
  let c0_i32_5 : BitVec 32 := 0#32
  let v20 : BitVec 1 := Scalar.cmpi .ne v19 c0_i32_5
  let v24 : BitVec 1 := Scalar.andi v23 v20
  let v25 : BitVec 32 := Scalar.addi v19 v18
  let v26 : BitVec 32 := Scalar.select v24 v25 v19
  let c7_i32 : BitVec 32 := 7#32
  let v102 : BitVec 1 := Scalar.cmpi .sge v26 c7_i32
  let v103 : BitVec 32 := Scalar.extui v102
  let c0_i32_61 : BitVec 32 := 0#32
  let v104 : BitVec 1 := Scalar.cmpi .ne v103 c0_i32_61
  v104

def k0_cond2 (i : grid0.Coords) : BitVec 1 :=
  let arg0 : BitVec 32 := BitVec.ofNat 32 (i 0).val
  let c8_i32 : BitVec 32 := 8#32
  let c0_i32 : BitVec 32 := 0#32
  let v17 : BitVec 1 := Scalar.cmpi .eq c8_i32 c0_i32
  let c1_i32 : BitVec 32 := 1#32
  let v18 : BitVec 32 := Scalar.select v17 c1_i32 c8_i32
  let v19 : BitVec 32 := Scalar.remsi arg0 v18
  let c0_i32_6 : BitVec 32 := 0#32
  let v21 : BitVec 1 := Scalar.cmpi .slt v19 c0_i32_6
  let c0_i32_7 : BitVec 32 := 0#32
  let v22 : BitVec 1 := Scalar.cmpi .slt v18 c0_i32_7
  let v23 : BitVec 1 := Scalar.xori v21 v22
  let c0_i32_5 : BitVec 32 := 0#32
  let v20 : BitVec 1 := Scalar.cmpi .ne v19 c0_i32_5
  let v24 : BitVec 1 := Scalar.andi v23 v20
  let v25 : BitVec 32 := Scalar.addi v19 v18
  let v26 : BitVec 32 := Scalar.select v24 v25 v19
  let c7_i32_69 : BitVec 32 := 7#32
  let v114 : BitVec 1 := Scalar.cmpi .sge v26 c7_i32_69
  let v115 : BitVec 32 := Scalar.extui v114
  let c0_i32_70 : BitVec 32 := 0#32
  let v116 : BitVec 1 := Scalar.cmpi .ne v115 c0_i32_70
  v116

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_14 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_15 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c7_i32 : BitVec 32 := 7#32
  let v27 : BitVec 32 := Scalar.subi v26 c7_i32
  let c0_i32_10 : BitVec 32 := 0#32
  let v28 : BitVec 32 := Scalar.maxsi v27 c0_i32_10
  let c0_i32_11 : BitVec 32 := 0#32
  let c0_i32_12 : BitVec 32 := 0#32
  ![v16.toNat, c0_i32_11.toNat, v28.toNat]

def cc0_transform_16 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let v27 : BitVec 32 := Scalar.subi v26 c0_i32_10
  let c0_i32_11 : BitVec 32 := 0#32
  let v28 : BitVec 32 := Scalar.maxsi v27 c0_i32_11
  let c0_i32_12 : BitVec 32 := 0#32
  let c0_i32_13 : BitVec 32 := 0#32
  ![v16.toNat, c0_i32_12.toNat, v28.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2864x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x48x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S4x4096x1024 : Shape := ⟨3, ![4, 4096, 1024]⟩
abbrev S1024 : Shape := ⟨1, ![1024]⟩
abbrev S1024x2864 : Shape := ⟨2, ![1024, 2864]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2864 : Shape := ⟨3, ![4, 4096, 2864]⟩
abbrev S4x4096x128 : Shape := ⟨3, ![4, 4096, 128]⟩
abbrev S4x4096x48 : Shape := ⟨3, ![4, 4096, 48]⟩
abbrev S16384x1024 : Shape := ⟨2, ![16384, 1024]⟩
abbrev S16384x128 : Shape := ⟨2, ![16384, 128]⟩
abbrev S4x128x4096 : Shape := ⟨3, ![4, 128, 4096]⟩
abbrev S4x512x128 : Shape := ⟨3, ![4, 512, 128]⟩
abbrev S4x128x512 : Shape := ⟨3, ![4, 128, 512]⟩
abbrev S4x48x4096 : Shape := ⟨3, ![4, 48, 4096]⟩

abbrev nBuf : Space → Nat
  | .hbm => 52
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2864, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x2864, .f32⟩
  | .hbm, ⟨20, _⟩ => ⟨S4x4096x1024, .f32⟩
  | .hbm, ⟨21, _⟩ => ⟨S4x4096x128, .f32⟩
  | .hbm, ⟨22, _⟩ => ⟨S4x4096x128, .f32⟩
  | .hbm, ⟨23, _⟩ => ⟨S4x4096x128, .f32⟩
  | .hbm, ⟨24, _⟩ => ⟨S4x4096x128, .f32⟩
  | .hbm, ⟨25, _⟩ => ⟨S4x4096x128, .f32⟩
  | .hbm, ⟨26, _⟩ => ⟨S4x4096x128, .f32⟩
  | .hbm, ⟨27, _⟩ => ⟨S4x4096x48, .f32⟩
  | .hbm, ⟨28, _⟩ => ⟨S4x4096x1024, .f32⟩
  | .hbm, ⟨29, _⟩ => ⟨S16384x1024, .f32⟩
  | .hbm, ⟨30, _⟩ => ⟨S16384x1024, .bf16⟩
  | .hbm, ⟨31, _⟩ => ⟨S16384x128, .f32⟩
  | .hbm, ⟨32, _⟩ => ⟨S16384x128, .bf16⟩
  | .hbm, ⟨33, _⟩ => ⟨S4x128x4096, .f32⟩
  | .hbm, ⟨34, _⟩ => ⟨S16384x128, .f32⟩
  | .hbm, ⟨35, _⟩ => ⟨S16384x128, .bf16⟩
  | .hbm, ⟨36, _⟩ => ⟨S4x128x4096, .f32⟩
  | .hbm, ⟨37, _⟩ => ⟨S4x128x4096, .f32⟩
  | .hbm, ⟨38, _⟩ => ⟨S4x128x4096, .f32⟩
  | .hbm, ⟨39, _⟩ => ⟨S4x128x4096, .bf16⟩
  | .hbm, ⟨40, _⟩ => ⟨S4x128x4096, .f32⟩
  | .hbm, ⟨41, _⟩ => ⟨S16384x128, .f32⟩
  | .hbm, ⟨42, _⟩ => ⟨S16384x128, .bf16⟩
  | .hbm, ⟨43, _⟩ => ⟨S4x512x128, .f32⟩
  | .hbm, ⟨44, _⟩ => ⟨S4x128x512, .f32⟩
  | .hbm, ⟨45, _⟩ => ⟨S4x128x4096, .f32⟩
  | .hbm, ⟨46, _⟩ => ⟨S4x128x4096, .bf16⟩
  | .hbm, ⟨47, _⟩ => ⟨S4x512x128, .f32⟩
  | .hbm, ⟨48, _⟩ => ⟨S4x128x512, .f32⟩
  | .hbm, ⟨49, _⟩ => ⟨S4x48x4096, .f32⟩
  | .hbm, ⟨50, _⟩ => ⟨S16384x1024, .f32⟩
  | .hbm, ⟨51, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩

abbrev nD : Nat := 1
abbrev τ : Topo := Topo.v7x

variable {F : FTy → Type} [FloatOps F]
-- ==== Kernel4.lean ====
abbrev S4x4096x1024 : Shape := ⟨3, ![4, 4096, 1024]⟩
abbrev S4x4096x8x64 : Shape := ⟨4, ![4, 4096, 8, 64]⟩
abbrev S4x4096x4x128 : Shape := ⟨4, ![4, 4096, 4, 128]⟩
abbrev S4x4096x512 : Shape := ⟨3, ![4, 4096, 512]⟩
abbrev S1024x1024 : Shape := ⟨2, ![1024, 1024]⟩
abbrev S16384x1024 : Shape := ⟨2, ![16384, 1024]⟩
abbrev S16384x512 : Shape := ⟨2, ![16384, 512]⟩
abbrev S1024x512 : Shape := ⟨2, ![1024, 512]⟩
abbrev S512x1024 : Shape := ⟨2, ![512, 1024]⟩
abbrev S1024x128 : Shape := ⟨2, ![1024, 128]⟩
abbrev S1024 : Shape := ⟨1, ![1024]⟩
abbrev S1024x1 : Shape := ⟨2, ![1024, 1]⟩
abbrev S128x1024 : Shape := ⟨2, ![128, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .bf16⟩
  | .hbm, ⟨2, _⟩ => ⟨S4x4096x4x128, .bf16⟩
  | .hbm, ⟨3, _⟩ => ⟨S4x4096x512, .bf16⟩
  | .hbm, ⟨4, _⟩ => ⟨S4x4096x512, .bf16⟩
  | .hbm, ⟨5, _⟩ => ⟨S1024x1024, .f32⟩
  | .hbm, ⟨6, _⟩ => ⟨S16384x1024, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .hbm, ⟨11, _⟩ => ⟨S1024x1024, .bf16⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x1024, .bf16⟩
  | .local _ .vmem, ⟨11, _⟩ => ⟨S1024x1024, .f32⟩
  | .local _ .vmem, ⟨12, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x4096x1024 : Shape := ⟨3, ![4, 4096, 1024]⟩
abbrev S4x4096x8x64 : Shape := ⟨4, ![4, 4096, 8, 64]⟩
abbrev S4x4096x4x128 : Shape := ⟨4, ![4, 4096, 4, 128]⟩
abbrev S4x4096x512 : Shape := ⟨3, ![4, 4096, 512]⟩
abbrev S1024x1024 : Shape := ⟨2, ![1024, 1024]⟩
abbrev S_ : Shape := ⟨0, ![]⟩
abbrev S4x4096x4 : Shape := ⟨3, ![4, 4096, 4]⟩
abbrev S4x4096x4x1 : Shape := ⟨4, ![4, 4096, 4, 1]⟩
abbrev S16384x1024 : Shape := ⟨2, ![16384, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x8x64, .bf16⟩
  | .hbm, ⟨2, _⟩ => ⟨S4x4096x4x128, .bf16⟩
  | .hbm, ⟨3, _⟩ => ⟨S4x4096x512, .bf16⟩
  | .hbm, ⟨4, _⟩ => ⟨S4x4096x512, .bf16⟩
  | .hbm, ⟨5, _⟩ => ⟨S1024x1024, .f32⟩
  | .hbm, ⟨6, _⟩ => ⟨S4x4096x8x64, .f32⟩
  | .hbm, ⟨7, _⟩ => ⟨S4x4096x512, .f32⟩
  | .hbm, ⟨8, _⟩ => ⟨S4x4096x512, .f32⟩
  | .hbm, ⟨9, _⟩ => ⟨S4x4096x512, .f32⟩
  | .hbm, ⟨10, _⟩ => ⟨S4x4096x512, .f32⟩
  | .hbm, ⟨11, _⟩ => ⟨S_, .f32⟩
  | .hbm, ⟨12, _⟩ => ⟨S4x4096x512, .f32⟩
  | .hbm, ⟨13, _⟩ => ⟨S4x4096x512, .f32⟩
  | .hbm, ⟨14, _⟩ => ⟨S_, .f32⟩
  | .hbm, ⟨15, _⟩ => ⟨S4x4096x512, .f32⟩
  | .hbm, ⟨16, _⟩ => ⟨S4x4096x512, .f32⟩
  | .hbm, ⟨17, _⟩ => ⟨S4x4096x512, .f32⟩
  | .hbm, ⟨18, _⟩ => ⟨S4x4096x512, .f32⟩
  | .hbm, ⟨19, _⟩ => ⟨S4x4096x4x128, .f32⟩
  | .hbm, ⟨20, _⟩ => ⟨S_, .f32⟩
  | .hbm, ⟨21, _⟩ => ⟨S4x4096x4, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x128, .f32⟩
  | .hbm, ⟨27, _⟩ => ⟨S4x4096x4x128, .f32⟩
  | .hbm, ⟨28, _⟩ => ⟨S4x4096x4x128, .f32⟩
  | .hbm, ⟨29, _⟩ => ⟨S_, .f32⟩
  | .hbm, ⟨30, _⟩ => ⟨S4x4096x4, .f32⟩
  | .hbm, ⟨31, _⟩ => ⟨S4x4096x4x1, .f32⟩
  | .hbm, ⟨32, _⟩ => ⟨S_, .f32⟩
  | .hbm, ⟨33, _⟩ => ⟨S4x4096x4x1, .f32⟩
  | .hbm, ⟨34, _⟩ => ⟨S4x4096x4x1, .f32⟩
  | .hbm, ⟨35, _⟩ => ⟨S4x4096x4x128, .f32⟩
  | .hbm, ⟨36, _⟩ => ⟨S4x4096x4x128, .f32⟩
  | .hbm, ⟨37, _⟩ => ⟨S_, .f32⟩
  | .hbm, ⟨38, _⟩ => ⟨S4x4096x4x1, .f32⟩
  | .hbm, ⟨39, _⟩ => ⟨S4x4096x4x1, .f32⟩
  | .hbm, ⟨40, _⟩ => ⟨S4x4096x4x1, .f32⟩
  | .hbm, ⟨41, _⟩ => ⟨S4x4096x4x128, .f32⟩
  | .hbm, ⟨42, _⟩ => ⟨S4x4096x4x128, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S4x4096x512, .f32⟩
  | .hbm, ⟨47, _⟩ => ⟨S_, .f32⟩
  | .hbm, ⟨48, _⟩ => ⟨S4x4096x512, .f32⟩
  | .hbm, ⟨49, _⟩ => ⟨S4x4096x512, .f32⟩
  | .hbm, ⟨50, _⟩ => ⟨S_, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S4x4096x1024, .f32⟩
  | .hbm, ⟨56, _⟩ => ⟨S4x4096x1024, .f32⟩
  | .hbm, ⟨57, _⟩ => ⟨S4x4096x1024, .f32⟩
  | .hbm, ⟨58, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_v0 : Ref sig .tc := ⟨.hbm, 45, rfl⟩
abbrev main_call1_v1 : Ref sig .tc := ⟨.hbm, 46, rfl⟩
abbrev main_call1_cst : Ref sig .tc := ⟨.hbm, 47, rfl⟩
abbrev main_call1_v2 : Ref sig .tc := ⟨.hbm, 48, rfl⟩
abbrev main_call1_v3 : Ref sig .tc := ⟨.hbm, 49, rfl⟩
abbrev main_call1_cst_0 : Ref sig .tc := ⟨.hbm, 50, rfl⟩
abbrev main_call1_v4 : Ref sig .tc := ⟨.hbm, 51, rfl⟩
abbrev main_call1_v5 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩

abbrev nD : Nat := 1
abbrev τ : Topo := Topo.v7x

variable {F : FTy → Type} [FloatOps F]
-- ==== Kernel5.lean ====
abbrev S4x4096x1024 : Shape := ⟨3, ![4, 4096, 1024]⟩
abbrev S4x4096x16x64 : Shape := ⟨4, ![4, 4096, 16, 64]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .bf16⟩
  | .hbm, ⟨2, _⟩ => ⟨S4x4096x1024, .bf16⟩
  | .hbm, ⟨3, _⟩ => ⟨S1024x1024, .f32⟩
  | .hbm, ⟨4, _⟩ => ⟨S1024, .f32⟩
  | .hbm, ⟨5, _⟩ => ⟨S16384x1024, .f32⟩
  | .hbm, ⟨6, _⟩ => ⟨S16384x1024, .bf16⟩
  | .hbm, ⟨7, _⟩ => ⟨S16384x1024, .bf16⟩
  | .hbm, ⟨8, _⟩ => ⟨S1024x1024, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4x4096x1024 : Shape := ⟨3, ![4, 4096, 1024]⟩
abbrev S4x4096x16x64 : Shape := ⟨4, ![4, 4096, 16, 64]⟩
abbrev S1024x1024 : Shape := ⟨2, ![1024, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x16x64, .bf16⟩
  | .hbm, ⟨2, _⟩ => ⟨S4x4096x1024, .bf16⟩
  | .hbm, ⟨3, _⟩ => ⟨S1024x1024, .f32⟩
  | .hbm, ⟨4, _⟩ => ⟨S1024, .f32⟩
  | .hbm, ⟨5, _⟩ => ⟨S4x4096x16x64, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S_, .f32⟩
  | .hbm, ⟨28, _⟩ => ⟨S4x4096x1, .f32⟩
  | .hbm, ⟨29, _⟩ => ⟨S4x4096x1, .f32⟩
  | .hbm, ⟨30, _⟩ => ⟨S4x4096x1, .f32⟩
  | .hbm, ⟨31, _⟩ => ⟨S4x4096x1024, .f32⟩
  | .hbm, ⟨32, _⟩ => ⟨S4x4096x1024, .f32⟩
  | .hbm, ⟨33, _⟩ => ⟨S1x1x1024, .f32⟩
  | .hbm, ⟨34, _⟩ => ⟨S4x4096x1024, .f32⟩
  | .hbm, ⟨35, _⟩ => ⟨S4x4096x1024, .f32⟩
  | .hbm, ⟨36, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== Kernel6.lean ====
abbrev S32x4x1024 : Shape := ⟨3, ![32, 4, 1024]⟩
abbrev S1024 : Shape := ⟨1, ![1024]⟩
abbrev S1024x3584 : Shape := ⟨2, ![1024, 3584]⟩
abbrev S128x1024 : Shape := ⟨2, ![128, 1024]⟩
abbrev S3584x1024 : Shape := ⟨2, ![3584, 1024]⟩
abbrev S1x1024 : Shape := ⟨2, ![1, 1024]⟩
abbrev S128x512 : Shape := ⟨2, ![128, 512]⟩
abbrev S128x256 : Shape := ⟨2, ![128, 256]⟩
abbrev S128 : Shape := ⟨1, ![128]⟩
abbrev S128x1 : Shape := ⟨2, ![128, 1]⟩
abbrev S512x1024 : Shape := ⟨2, ![512, 1024]⟩
abbrev S256x1024 : Shape := ⟨2, ![256, 1024]⟩

abbrev nBuf : Space → Nat
  | .hbm => 15
  | .vmem => 11
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3584, .f32⟩
  | .hbm, ⟨3, _⟩ => ⟨S128x1024, .f32⟩
  | .hbm, ⟨4, _⟩ => ⟨S3584x1024, .f32⟩
  | .hbm, ⟨5, _⟩ => ⟨S3584x1024, .bf16⟩
  | .hbm, ⟨6, _⟩ => ⟨S1x1024, .f32⟩
  | .hbm, ⟨7, _⟩ => ⟨S128x512, .f32⟩
  | .hbm, ⟨8, _⟩ => ⟨S128x512, .f32⟩
  | .hbm, ⟨9, _⟩ => ⟨S128x512, .f32⟩
  | .hbm, ⟨10, _⟩ => ⟨S128x512, .bf16⟩
  | .hbm, ⟨11, _⟩ => ⟨S128x256, .f32⟩
  | .hbm, ⟨12, _⟩ => ⟨S128x256, .f32⟩
  | .hbm, ⟨13, _⟩ => ⟨S128x512, .f32⟩
  | .hbm, ⟨14, _⟩ => ⟨S128x512, .bf16⟩
  | .local _ .vmem, ⟨0, _⟩ => ⟨S128x1024, .f32⟩
  | .local _ .vmem, ⟨1, _⟩ => ⟨S1x1024, .f32⟩
  | .local _ .vmem, ⟨2, _⟩ => ⟨S3584x1024, .bf16⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .bf16⟩
  | .local _ .vmem, ⟨7, _⟩ => ⟨S128x256, .f32⟩
  | .local _ .vmem, ⟨8, _⟩ => ⟨S128x256, .f32⟩
  | .local _ .vmem, ⟨9, _⟩ => ⟨S128x512, .f32⟩
  | .local _ .vmem, ⟨10, _⟩ => ⟨S128x512, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S32x4x1024 : Shape := ⟨3, ![32, 4, 1024]⟩
abbrev S1024 : Shape := ⟨1, ![1024]⟩
abbrev S1024x3584 : Shape := ⟨2, ![1024, 3584]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x3584 : Shape := ⟨3, ![32, 4, 3584]⟩
abbrev S32x4x512 : Shape := ⟨3, ![32, 4, 512]⟩
abbrev S32x4x256 : Shape := ⟨3, ![32, 4, 256]⟩
abbrev S128x512 : Shape := ⟨2, ![128, 512]⟩
abbrev S128x256 : Shape := ⟨2, ![128, 256]⟩

abbrev nBuf : Space → Nat
  | .hbm => 38
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x3584, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x3584, .f32⟩
  | .hbm, ⟨20, _⟩ => ⟨S32x4x512, .f32⟩
  | .hbm, ⟨21, _⟩ => ⟨S32x4x512, .f32⟩
  | .hbm, ⟨22, _⟩ => ⟨S32x4x512, .f32⟩
  | .hbm, ⟨23, _⟩ => ⟨S32x4x512, .f32⟩
  | .hbm, ⟨24, _⟩ => ⟨S32x4x256, .f32⟩
  | .hbm, ⟨25, _⟩ => ⟨S32x4x256, .f32⟩
  | .hbm, ⟨26, _⟩ => ⟨S32x4x512, .f32⟩
  | .hbm, ⟨27, _⟩ => ⟨S32x4x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S128x512, .f32⟩
  | .hbm, ⟨32, _⟩ => ⟨S128x512, .bf16⟩
  | .hbm, ⟨33, _⟩ => ⟨S128x256, .f32⟩
  | .hbm, ⟨34, _⟩ => ⟨S128x256, .f32⟩
  | .hbm, ⟨35, _⟩ => ⟨S128x512, .f32⟩
  | .hbm, ⟨36, _⟩ => ⟨S128x512, .f32⟩
  | .hbm, ⟨37, _⟩ => ⟨S128x512, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel7.lean ====
abbrev S32x4x1024 : Shape := ⟨3, ![32, 4, 1024]⟩
abbrev S1024 : Shape := ⟨1, ![1024]⟩
abbrev S1024x2864 : Shape := ⟨2, ![1024, 2864]⟩
abbrev S128x1024 : Shape := ⟨2, ![128, 1024]⟩
abbrev S2864x1024 : Shape := ⟨2, ![2864, 1024]⟩
abbrev S1x1024 : Shape := ⟨2, ![1, 1024]⟩
abbrev S128x128 : Shape := ⟨2, ![128, 128]⟩
abbrev S128x48 : Shape := ⟨2, ![128, 48]⟩
abbrev S128 : Shape := ⟨1, ![128]⟩
abbrev S128x1 : Shape := ⟨2, ![128, 1]⟩
abbrev S1024x1024 : Shape := ⟨2, ![1024, 1024]⟩
abbrev S48x1024 : Shape := ⟨2, ![48, 1024]⟩

abbrev nBuf : Space → Nat
  | .hbm => 16
  | .vmem => 12
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2864, .f32⟩
  | .hbm, ⟨3, _⟩ => ⟨S128x1024, .f32⟩
  | .hbm, ⟨4, _⟩ => ⟨S2864x1024, .f32⟩
  | .hbm, ⟨5, _⟩ => ⟨S2864x1024, .bf16⟩
  | .hbm, ⟨6, _⟩ => ⟨S1x1024, .f32⟩
  | .hbm, ⟨7, _⟩ => ⟨S128x1024, .bf16⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x48, .f32⟩
  | .hbm, ⟨15, _⟩ => ⟨S128x1024, .bf16⟩
  | .local _ .vmem, ⟨0, _⟩ => ⟨S128x1024, .f32⟩
  | .local _ .vmem, ⟨1, _⟩ => ⟨S1x1024, .f32⟩
  | .local _ .vmem, ⟨2, _⟩ => ⟨S2864x1024, .bf16⟩
  | .local _ .vmem, ⟨3, _⟩ => ⟨S128x1024, .bf16⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x48, .f32⟩
  | .local _ .vmem, ⟨11, _⟩ => ⟨S128x1024, .bf16⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev main_v4_5 : Ref sig .tc := ⟨.hbm, 12, rfl⟩
abbrev main_v4_6 : Ref sig .tc := ⟨.hbm, 13, rfl⟩
abbrev main_v4_7 : Ref sig .tc := ⟨.hbm, 14, rfl⟩
abbrev main_v4_8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2864x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x48 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]
-- ==== Reference7Ideal.lean ====
abbrev S32x4x1024 : Shape := ⟨3, ![32, 4, 1024]⟩
abbrev S1024 : Shape := ⟨1, ![1024]⟩
abbrev S1024x2864 : Shape := ⟨2, ![1024, 2864]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S32x4x2864 : Shape := ⟨3, ![32, 4, 2864]⟩
abbrev S32x4x128 : Shape := ⟨3, ![32, 4, 128]⟩
abbrev S32x4x48 : Shape := ⟨3, ![32, 4, 48]⟩
abbrev S128x1024 : Shape := ⟨2, ![128, 1024]⟩
abbrev S128x128 : Shape := ⟨2, ![128, 128]⟩
abbrev S128x48 : Shape := ⟨2, ![128, 48]⟩

abbrev nBuf : Space → Nat
  | .hbm => 40
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024, .f32⟩
  | .hbm, ⟨2, _⟩ => ⟨S1024x2864, .f32⟩
  | .hbm, ⟨3, _⟩ => ⟨S32x4x1024, .f32⟩
  | .hbm, ⟨4, _⟩ => ⟨S_, .f32⟩
  | .hbm, ⟨5, _⟩ => ⟨S32x4, .f32⟩
  | .hbm, ⟨6, _⟩ => ⟨S32x4x1, .f32⟩
  | .hbm, ⟨7, _⟩ => ⟨S_, .f32⟩
  | .hbm, ⟨8, _⟩ => ⟨S32x4x1, .f32⟩
  | .hbm, ⟨9, _⟩ => ⟨S32x4x1, .f32⟩
  | .hbm, ⟨10, _⟩ => ⟨S_, .f32⟩
  | .hbm, ⟨11, _⟩ => ⟨S32x4x1, .f32⟩
  | .hbm, ⟨12, _⟩ => ⟨S32x4x1, .f32⟩
  | .hbm, ⟨13, _⟩ => ⟨S32x4x1, .f32⟩
  | .hbm, ⟨14, _⟩ => ⟨S32x4x1024, .f32⟩
  | .hbm, ⟨15, _⟩ => ⟨S32x4x1024, .f32⟩
  | .hbm, ⟨16, _⟩ => ⟨S1x1x1024, .f32⟩
  | .hbm, ⟨17, _⟩ => ⟨S32x4x1024, .f32⟩
  | .hbm, ⟨18, _⟩ => ⟨S32x4x1024, .f32⟩
  | .hbm, ⟨19, _⟩ => ⟨S32x4x2864, .f32⟩
  | .hbm, ⟨20, _⟩ => ⟨S32x4x1024, .f32⟩
  | .hbm, ⟨21, _⟩ => ⟨S32x4x128, .f32⟩
  | .hbm, ⟨22, _⟩ => ⟨S32x4x128, .f32⟩
  | .hbm, ⟨23, _⟩ => ⟨S32x4x128, .f32⟩
  | .hbm, ⟨24, _⟩ => ⟨S32x4x128, .f32⟩
  | .hbm, ⟨25, _⟩ => ⟨S32x4x128, .f32⟩
  | .hbm, ⟨26, _⟩ => ⟨S32x4x128, .f32⟩
  | .hbm, ⟨27, _⟩ => ⟨S32x4x48, .f32⟩
  | .hbm, ⟨28, _⟩ => ⟨S32x4x1024, .f32⟩
  | .hbm, ⟨29, _⟩ => ⟨S128x1024, .f32⟩
  | .hbm, ⟨30, _⟩ => ⟨S128x1024, .bf16⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S128x128, .f32⟩
  | .hbm, ⟨37, _⟩ => ⟨S128x48, .f32⟩
  | .hbm, ⟨38, _⟩ => ⟨S128x1024, .f32⟩
  | .hbm, ⟨39, _⟩ => ⟨S128x1024, .bf16⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Kernel8.lean ====
abbrev S32x4x1024 : Shape := ⟨3, ![32, 4, 1024]⟩
abbrev S32x4x16x64 : Shape := ⟨4, ![32, 4, 16, 64]⟩
abbrev S1024x1024 : Shape := ⟨2, ![1024, 1024]⟩
abbrev S1024 : Shape := ⟨1, ![1024]⟩
abbrev S128x1024 : Shape := ⟨2, ![128, 1024]⟩
abbrev S1x1024 : Shape := ⟨2, ![1, 1024]⟩
abbrev S128 : Shape := ⟨1, ![128]⟩
abbrev S128x1 : Shape := ⟨2, ![128, 1]⟩

abbrev nBuf : Space → Nat
  | .hbm => 13
  | .vmem => 7
  | .smem => 0
  | _ => 0

abbrev bufTy : (tb : Table) → Fin (tcTables nBuf tb) → BufTy
  | .hbm, ⟨0, _⟩ => ⟨S32x4x1024, .f32⟩
  | .hbm, ⟨1, _⟩ => ⟨S32x4x16x64, .f32⟩
  | .hbm, ⟨2, _⟩ => ⟨S32x4x16x64, .f32⟩
  | .hbm, ⟨3, _⟩ => ⟨S32x4x1024, .bf16⟩
  | .hbm, ⟨4, _⟩ => ⟨S1024x1024, .f32⟩
  | .hbm, ⟨5, _⟩ => ⟨S1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .bf16⟩
  | .hbm, ⟨10, _⟩ => ⟨S1024x1024, .bf16⟩
  | .hbm, ⟨11, _⟩ => ⟨S1x1024, .f32⟩
  | .hbm, ⟨12, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .bf16⟩
  | .local _ .vmem, ⟨4, _⟩ => ⟨S1024x1024, .bf16⟩
  | .local _ .vmem, ⟨5, _⟩ => ⟨S1x1024, .f32⟩
  | .local _ .vmem, ⟨6, _⟩ => ⟨S128x1024, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S32x4x1024 : Shape := ⟨3, ![32, 4, 1024]⟩
abbrev S32x4x16x64 : Shape := ⟨4, ![32, 4, 16, 64]⟩
abbrev S1024x1024 : Shape := ⟨2, ![1024, 1024]⟩
abbrev S1024 : Shape := ⟨1, ![1024]⟩
abbrev S_ : Shape := ⟨0, ![]⟩
abbrev S32x4 : Shape := ⟨2, ![32, 4]⟩
abbrev S32x4x1 : Shape := ⟨3, ![32, 4, 1]⟩
abbrev S1x1x1024 : Shape := ⟨3, ![1, 1, 1024]⟩
abbrev S128x1024 : Shape := ⟨2, ![128, 1024]⟩

abbrev nBuf : Space → Nat
  | .hbm => 38
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S32x4x16x64, .f32⟩
  | .hbm, ⟨2, _⟩ => ⟨S32x4x16x64, .f32⟩
  | .hbm, ⟨3, _⟩ => ⟨S32x4x1024, .bf16⟩
  | .hbm, ⟨4, _⟩ => ⟨S1024x1024, .f32⟩
  | .hbm, ⟨5, _⟩ => ⟨S1024, .f32⟩
  | .hbm, ⟨6, _⟩ => ⟨S32x4x16x64, .f32⟩
  | .hbm, ⟨7, _⟩ => ⟨S32x4x1024, .f32⟩
  | .hbm, ⟨8, _⟩ => ⟨S32x4x1024, .f32⟩
  | .hbm, ⟨9, _⟩ => ⟨S32x4x1024, .f32⟩
  | .hbm, ⟨10, _⟩ => ⟨S32x4x1024, .f32⟩
  | .hbm, ⟨11, _⟩ => ⟨S_, .f32⟩
  | .hbm, ⟨12, _⟩ => ⟨S32x4x1024, .f32⟩
  | .hbm, ⟨13, _⟩ => ⟨S32x4x1024, .f32⟩
  | .hbm, ⟨14, _⟩ => ⟨S_, .f32⟩
  | .hbm, ⟨15, _⟩ => ⟨S32x4x1024, .f32⟩
  | .hbm, ⟨16, _⟩ => ⟨S32x4x1024, .f32⟩
  | .hbm, ⟨17, _⟩ => ⟨S32x4x1024, .f32⟩
  | .hbm, ⟨18, _⟩ => ⟨S32x4x1024, .f32⟩
  | .hbm, ⟨19, _⟩ => ⟨S32x4x1024, .f32⟩
  | .hbm, ⟨20, _⟩ => ⟨S32x4x1024, .f32⟩
  | .hbm, ⟨21, _⟩ => ⟨S32x4x1024, .f32⟩
  | .hbm, ⟨22, _⟩ => ⟨S_, .f32⟩
  | .hbm, ⟨23, _⟩ => ⟨S32x4, .f32⟩
  | .hbm, ⟨24, _⟩ => ⟨S32x4x1, .f32⟩
  | .hbm, ⟨25, _⟩ => ⟨S_, .f32⟩
  | .hbm, ⟨26, _⟩ => ⟨S32x4x1, .f32⟩
  | .hbm, ⟨27, _⟩ => ⟨S32x4x1, .f32⟩
  | .hbm, ⟨28, _⟩ => ⟨S_, .f32⟩
  | .hbm, ⟨29, _⟩ => ⟨S32x4x1, .f32⟩
  | .hbm, ⟨30, _⟩ => ⟨S32x4x1, .f32⟩
  | .hbm, ⟨31, _⟩ => ⟨S32x4x1, .f32⟩
  | .hbm, ⟨32, _⟩ => ⟨S32x4x1024, .f32⟩
  | .hbm, ⟨33, _⟩ => ⟨S32x4x1024, .f32⟩
  | .hbm, ⟨34, _⟩ => ⟨S1x1x1024, .f32⟩
  | .hbm, ⟨35, _⟩ => ⟨S32x4x1024, .f32⟩
  | .hbm, ⟨36, _⟩ => ⟨S32x4x1024, .f32⟩
  | .hbm, ⟨37, _⟩ => ⟨S128x1024, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proof.Retention.Recurrence.lean ====
/- Retention over the reals: every token's output is a decayed sum over the tokens up to it, and a chunk of any length computes it
   from the state before the chunk and the chunk itself. -/
module

public import Mathlib.Algebra.BigOperators.Fin
public import Mathlib.Algebra.BigOperators.Ring.Finset
public import Mathlib.Data.Real.Basic
public import Mathlib.Tactic.Ring

@[expose] public section

namespace Cert.Proof.Retention

open Finset

/-- The state before token `n`, at one key feature and one value feature: every earlier token's product, decayed once a token. -/
noncomputable def state (g : ℝ) (k v : ℕ → ℝ) (n : ℕ) : ℝ := ∑ s ∈ range n, g ^ (n - 1 - s) * (k s * v s)

/-- The output at token `t`, at one value feature: every token's value up to `t`, weighed by its score and decayed. -/
noncomputable def output (g : ℝ) (q k : ℕ → Fin 64 → ℝ) (v : ℕ → ℝ) (t : ℕ) : ℝ :=
  ∑ s ∈ range (t + 1), g ^ (t - s) * (∑ d, q t d * k s d) * v s

theorem state_zero (g : ℝ) (k v : ℕ → ℝ) : state g k v 0 = 0 := by simp [state]

/-- A chunk of `C` tokens moves the state on. -/
theorem state_chunk (g : ℝ) (k v : ℕ → ℝ) (N C : ℕ) (hC : 0 < C) :
    state g k v N * g ^ C + ∑ c : Fin C, k (N + c) * g ^ (C - 1 - c.val) * v (N + c) = state g k v (N + C) := by
  unfold state
  rw [sum_range_add, sum_mul, ← Fin.sum_univ_eq_sum_range (fun x => g ^ (N + C - 1 - (N + x)) * (k (N + x) * v (N + x))) C]
  congr 1
  · refine sum_congr rfl fun s hs => ?_
    have hs := mem_range.mp hs
    rw [show N + C - 1 - s = (N - 1 - s) + C by omega, pow_add]
    ring
  · refine sum_congr rfl fun c _ => ?_
    rw [show N + C - 1 - (N + c.val) = C - 1 - c.val by omega]
    ring

/-- A chunk's row `i` computes the output at token `N + i` from the state before the chunk. -/
theorem output_chunk (g : ℝ) (q k : ℕ → Fin 64 → ℝ) (v : ℕ → ℝ) (N C : ℕ) (i : Fin C) :
    (∑ c : Fin C, (∑ d, q (N + i) d * k (N + c) d) * (if c.val ≤ i.val then g ^ (i.val - c.val) else 0) * v (N + c))
      + (∑ d, q (N + i) d * state g (fun s => k s d) v N) * g ^ (i.val + 1) = output g q k v (N + i) := by
  unfold output state
  rw [show N + i.val + 1 = N + (i.val + 1) by omega, sum_range_add, add_comm]
  congr 1
  · simp only [mul_sum, sum_mul]
    rw [sum_comm]
    refine sum_congr rfl fun s hs => ?_
    have hs := mem_range.mp hs
    refine sum_congr rfl fun d _ => ?_
    rw [show N + i.val - s = (N - 1 - s) + (i.val + 1) by omega, pow_add]
    ring
  · rw [Fin.sum_univ_eq_sum_range (fun c => (∑ d, q (N + i) d * k (N + c) d) * (if c ≤ i.val then g ^ (i.val - c) else 0) * v (N + c)) C]
    rw [← sum_subset (range_mono (show i.val + 1 ≤ C from i.isLt))]
    · refine sum_congr rfl fun c hc => ?_
      have hc := mem_range.mp hc
      rw [if_pos (by omega), show N + i.val - (N + c) = i.val - c by omega]
      ring
    · intro c _ hc
      rw [if_neg (by have := mt mem_range.mpr hc; omega)]
      ring

end Cert.Proof.Retention
-- ==== Proof.Retention.Reals.lean ====
/- What the retention's two sides share over the real numbers: the lanes, the angles, the rotated rows and the decay factors. -/
module

public import Idealize.ShloMosaic.Lib.Pointwise
public import proofs.«01_k».proof.Proof.Retention.Recurrence

@[expose] public section

noncomputable section

namespace Cert.Proof.Retention

open Idealize.ShloMosaic

/-- The extended real of a finite sum is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The frequency of the rotary's pair `i`. -/
def freq (i : ℕ) : ℝ := Real.rpow 10000 (-(i : ℝ) / 32)

/-- The rotary's angle of pair `i` at position `t`. -/
def angle (t i : ℕ) : ℝ := t * freq i

/-- A row of the argument at a position, zero past the end. -/
def row (x : Fin 4 → Fin 4096 → Fin 256 → ℝ) (b : Fin 4) (t : ℕ) (j : Fin 256) : ℝ := if h : t < 4096 then x b ⟨t, h⟩ j else 0

/-- Head `h`'s feature `d` after the rotary. -/
def turned (x : Fin 4 → Fin 4096 → Fin 256 → ℝ) (b h : Fin 4) (t : ℕ) (d : Fin 64) : ℝ :=
  row x b t ⟨64 * h.val + d.val, by omega⟩ * Real.cos (angle t (d.val % 32))
    + (if d.val < 32 then - row x b t ⟨64 * h.val + (d.val + 32) % 64, by omega⟩
        else row x b t ⟨64 * h.val + (d.val + 32) % 64, by omega⟩) * Real.sin (angle t (d.val % 32))

theorem row_at (x : Fin 4 → Fin 4096 → Fin 256 → ℝ) (b : Fin 4) (t : Fin 4096) (j j' : Fin 256) (hj : j'.val = j.val) :
    row x b t.val j = x b t j' := by
  rw [row, dif_pos t.isLt, Fin.ext hj]

theorem turned_lo (x : Fin 4 → Fin 4096 → Fin 256 → ℝ) (b h : Fin 4) (t : Fin 4096) (d : Fin 64) (hd : d.val < 32) :
    turned x b h t.val d = x b t ⟨h.val * 64 + d.val, by omega⟩ * Real.cos (angle t.val d.val)
      - x b t ⟨h.val * 64 + (32 + d.val), by omega⟩ * Real.sin (angle t.val d.val) := by
  rw [turned, if_pos hd, row_at x b t _ ⟨h.val * 64 + d.val, by omega⟩ (by simp only; omega),
    row_at x b t _ ⟨h.val * 64 + (32 + d.val), by omega⟩ (by simp only; omega), show d.val % 32 = d.val by omega]
  ring

theorem turned_hi (x : Fin 4 → Fin 4096 → Fin 256 → ℝ) (b h : Fin 4) (t : Fin 4096) (d : Fin 64) (hd : ¬ d.val < 32) :
    turned x b h t.val d = x b t ⟨h.val * 64 + (d.val - 32), by omega⟩ * Real.sin (angle t.val (d.val - 32))
      + x b t ⟨h.val * 64 + (32 + (d.val - 32)), by omega⟩ * Real.cos (angle t.val (d.val - 32)) := by
  rw [turned, if_neg hd, row_at x b t _ ⟨h.val * 64 + (32 + (d.val - 32)), by omega⟩ (by simp only; omega),
    row_at x b t _ ⟨h.val * 64 + (d.val - 32), by omega⟩ (by simp only; omega), show d.val % 32 = d.val - 32 by omega]
  ring

/-- The keys are scaled by an eighth. -/
def keys (x : Fin 4 → Fin 4096 → Fin 256 → ℝ) (b h : Fin 4) (t : ℕ) (d : Fin 64) : ℝ := turned x b h t d * (1 / 8)

/-- Head `h`'s values. -/
def vals (x : Fin 4 → Fin 4096 → Fin 512 → ℝ) (b h : Fin 4) (t : ℕ) (e : Fin 128) : ℝ :=
  if ht : t < 4096 then x b ⟨t, ht⟩ ⟨128 * h.val + e.val, by omega⟩ else 0

/-- The natural logarithm of two, as the programs write it. -/
def ln2 : ℝ := 11629080 / 16777216

/-- The logarithm of head `h`'s decay. -/
def logDecay (h : ℕ) : ℝ := Real.log (1 - Real.exp (ln2 * (-5 - h)))

/-- Head `h`'s decay. -/
def decay (h : ℕ) : ℝ := Real.exp (logDecay h)

theorem decay_pow (h n : ℕ) : Real.exp (logDecay h * n) = decay h ^ n := by
  rw [decay, ← Real.exp_nat_mul, mul_comm]

/-! The programs' literals, and the tables' entries over the reals. -/

theorem word_10000 : Ideal.ofBits .f32 0x461C4000#32 = ((10000 : ℝ) : EReal) := by
  simp [Ideal.ofBits, Ideal.ieee, -EReal.coe_mul]; norm_num
theorem word_32 : Ideal.ofBits .f32 0x42000000#32 = ((32 : ℝ) : EReal) := by
  simp [Ideal.ofBits, Ideal.ieee, -EReal.coe_mul]; norm_num
theorem word_neg5 : Ideal.ofBits .f32 0xC0A00000#32 = ((-5 : ℝ) : EReal) := by
  simp [Ideal.ofBits, Ideal.ieee, -EReal.coe_mul, ← EReal.coe_neg]; norm_num
theorem word_ln2 : Ideal.ofBits .f32 0x3F317218#32 = (ln2 : EReal) := by
  unfold ln2; simp [Ideal.ofBits, Ideal.ieee, -EReal.coe_mul]; norm_num
theorem word_127 : Ideal.ofBits .f32 0x42FE0000#32 = ((127 : ℝ) : EReal) := by
  simp [Ideal.ofBits, Ideal.ieee, -EReal.coe_mul]; norm_num
theorem word_128 : Ideal.ofBits .f32 0x43000000#32 = ((128 : ℝ) : EReal) := by
  simp [Ideal.ofBits, Ideal.ieee, -EReal.coe_mul]; norm_num
theorem word_255 : Ideal.ofBits .f32 0x437F0000#32 = ((255 : ℝ) : EReal) := by
  simp [Ideal.ofBits, Ideal.ieee, -EReal.coe_mul]; norm_num
theorem word_256 : Ideal.ofBits .f32 0x43800000#32 = ((256 : ℝ) : EReal) := by
  simp [Ideal.ofBits, Ideal.ieee, -EReal.coe_mul]; norm_num
theorem word_eighth : Ideal.ofBits .f32 0x3E000000#32 = ((1 / 8 : ℝ) : EReal) := by
  simp [Ideal.ofBits, Ideal.ieee, -EReal.coe_mul]; norm_num

/-- A small whole number read as a float. -/
theorem whole {n : ℕ} (h : n < 2 ^ 31) : (FloatOps.sitofp (F := Ideal) .f32 (BitVec.ofNat 32 n) : EReal) = ((n : ℝ) : EReal) := by
  show (((BitVec.ofNat 32 n).toInt : ℝ) : EReal) = _
  have hn : (BitVec.ofNat 32 n).toNat = n := by rw [BitVec.toNat_ofNat]; omega
  have : (BitVec.ofNat 32 n).toInt = n := by rw [BitVec.toInt_eq_toNat_of_lt (by omega), hn]
  rw [this]
  simp

theorem freq_at {i : ℕ} (h : i < 32) :
    Ideal.pow (Ideal.ofBits .f32 0x461C4000#32)
      (Ideal.div (-(FloatOps.sitofp (F := Ideal) .f32 (BitVec.ofNat 32 i) : EReal)) (Ideal.ofBits .f32 0x42000000#32)) = (freq i : EReal) := by
  rw [whole (by omega), word_10000, word_32, Ideal.div_coe (by norm_num), ← EReal.coe_neg, ← EReal.coe_mul, Ideal.pow_coe_coe, freq]
  congr 2
  ring

theorem logDecay_at {h : ℕ} (hh : h < 4) :
    Ideal.log1p (-(Ideal.exp (Ideal.ofBits .f32 0x3F317218#32
      * (Ideal.ofBits .f32 0xC0A00000#32 - (FloatOps.sitofp (F := Ideal) .f32 (BitVec.ofNat 32 h) : EReal))))) = (logDecay h : EReal) := by
  rw [whole (by omega), word_ln2, word_neg5, ← EReal.coe_sub, ← EReal.coe_mul, Ideal.exp_coe, ← EReal.coe_neg, Ideal.log1p,
    ← EReal.coe_one, ← EReal.coe_add, Ideal.log_coe, if_neg]
  · rfl
  · have h1 : Real.exp (ln2 * (-5 - (h : ℝ))) < 1 := by
      rw [Real.exp_lt_one_iff]
      have : (0 : ℝ) ≤ h := Nat.cast_nonneg h
      unfold ln2
      nlinarith
    linarith

/-- A decay table's entry: the decay raised to a whole number. -/
theorem pow_at (h n : ℕ) {x : EReal} (hx : x = ((n : ℝ) : EReal)) : Ideal.exp ((logDecay h : EReal) * x) = ((decay h ^ n : ℝ) : EReal) := by
  rw [hx, ← EReal.coe_mul, Ideal.exp_coe, decay_pow]

/-- A mask's entry. -/
theorem mask_entry (h i j : ℕ) {z : EReal} (hz : z = 0) :
    (if (0 : EReal) ≤ ((i : ℝ) : EReal) - ((j : ℝ) : EReal) then
      Ideal.exp ((logDecay h : EReal) * max (((i : ℝ) : EReal) - ((j : ℝ) : EReal)) 0) else z)
    = ((if j ≤ i then decay h ^ (i - j) else 0 : ℝ) : EReal) := by
  have e : (0 : EReal) ≤ ((i : ℝ) : EReal) - ((j : ℝ) : EReal) ↔ j ≤ i := by
    rw [← EReal.coe_sub, ← EReal.coe_zero, EReal.coe_le_coe_iff, sub_nonneg, Nat.cast_le]
  by_cases hji : j ≤ i
  · rw [if_pos (e.mpr hji), if_pos hji, max_eq_left (e.mpr hji)]
    exact pow_at h (i - j) (by rw [← EReal.coe_sub, Nat.cast_sub hji])
  · rw [if_neg (fun h => hji (e.mp h)), if_neg hji, hz, EReal.coe_zero]

end Cert.Proof.Retention
-- ==== Proof.Retention.Loop.lean ====
/- The reference's loop: before chunk `n` its buffers hold the retention's state and outputs. -/
module
public import proofs.«01_k».proof.Proof.Gen.ReferenceIdeal.Run
public import proofs.«01_k».proof.Proof.Retention.Reals
@[expose] public section
set_option maxRecDepth 16384
noncomputable section
open Idealize.ShloMosaic Idealize.ShloMosaic.TcCoe Idealize.SL.Sem Idealize.ShloMosaic.StableHlo
namespace Cert.ReferenceIdeal.Retention
open Cert.Proof.Retention Cert.ReferenceIdeal Cert.ReferenceIdeal.Gen Cert.ReferenceIdeal.Value

/-- Where chunk `n` starts. -/
def start (n : ℕ) : Fin 5 → Int := fun k => ((![constantI S_ 32 (BitVec.ofNat 32 n), constantI S_ 32 0#32, constantI S_ 32 0#32,
  constantI S_ 32 0#32, constantI S_ 32 0#32] : Fin 5 → (⟨S_, .i32⟩ : BufTy).Contents (Elt Ideal)) k (Shape.Idx.first h_S_)).toInt

theorem start_zero : ∀ n : Fin 32, start n.val 0 = n.val := by decide +kernel

theorem start_succ (n : ℕ) (k : Fin 4) : start n k.succ = 0 := by
  match k with
  | ⟨0, _⟩ => rfl
  | ⟨1, _⟩ => rfl
  | ⟨2, _⟩ => rfl
  | ⟨3, _⟩ => rfl

theorem start_le (n : Fin 32) (a : Fin 5) : Host.clampedStart S32x4x128x4x64 S1x4x128x4x64 sliceFits_S32x4x128x4x64_S1x4x128x4x64.1 (start n.val) a
    = if a = 0 then n.val else 0 := by
  refine Host.clampedStart_of_le _ _ _ _ ?_ ?_
  · rcases Fin.eq_zero_or_eq_succ a with rfl | ⟨k, rfl⟩
    · simp [start_zero]
    · simp [start_succ, Fin.succ_ne_zero]
  · revert n a; decide +kernel

theorem q_at (X : FVec Ideal S32x4x128x4x64 .f32) (n : Fin 32) (b : Fin 4) (i : Fin 128) (h : Fin 4) (d : Fin 64) :
    shapeCast S4x128x4x64 (Host.dynamicSlice S1x4x128x4x64 X (start n.val) sliceFits_S32x4x128x4x64_S1x4x128x4x64)
      shapeCasts_S1x4x128x4x64_S4x128x4x64 (ix4 b i h d) = X (ix5 n b i h d) := by
  pointwise
  simp only [start_le]
  pointwise

theorem start_le_v (n : Fin 32) (a : Fin 5) : Host.clampedStart S32x4x128x4x128 S1x4x128x4x128 sliceFits_S32x4x128x4x128_S1x4x128x4x128.1 (start n.val) a
    = if a = 0 then n.val else 0 := by
  refine Host.clampedStart_of_le _ _ _ _ ?_ ?_
  · rcases Fin.eq_zero_or_eq_succ a with rfl | ⟨k, rfl⟩
    · simp [start_zero]
    · simp [start_succ, Fin.succ_ne_zero]
  · revert n a; decide +kernel

theorem v_at (X : FVec Ideal S32x4x128x4x128 .f32) (n : Fin 32) (b : Fin 4) (i : Fin 128) (h : Fin 4) (e : Fin 128) :
    shapeCast S4x128x4x128 (Host.dynamicSlice S1x4x128x4x128 X (start n.val) sliceFits_S32x4x128x4x128_S1x4x128x4x128)
      shapeCasts_S1x4x128x4x128_S4x128x4x128 (ix4 b i h e) = X (ix5 n b i h e) := by
  pointwise
  simp only [start_le_v]
  pointwise

/-- The state after a chunk. -/
def nextS (K : FVec Ideal S4x128x4x64 .f32) (V : FVec Ideal S4x128x4x128 .f32) (S : FVec Ideal S4x4x64x128 .f32)
    (g : FVec Ideal S1x4x1x1 .f32) (kd : FVec Ideal S1x128x4x1 .f32) : FVec Ideal S4x4x64x128 .f32 :=
  addf (mulf S (broadcastInDim S4x4x64x128 ![0, 1, 2, 3] bcast_S1x4x1x1_S4x4x64x128_0_1_2_3 g))
    (Host.dotGeneral dot_S4x128x4x64_S4x128x4x128_S4x4x64x128_1_1_3_3_02_02 none
      (mulf K (broadcastInDim S4x128x4x64 ![0, 1, 2, 3] bcast_S1x128x4x1_S4x128x4x64_0_1_2_3 kd)) V)

/-- A chunk's outputs. -/
def chunkO (Q K : FVec Ideal S4x128x4x64 .f32) (V : FVec Ideal S4x128x4x128 .f32) (S : FVec Ideal S4x4x64x128 .f32)
    (M : FVec Ideal S4x128x128 .f32) (qd : FVec Ideal S1x128x4x1 .f32) : FVec Ideal S4x128x4x128 .f32 :=
  addf (transpose S4x128x4x128 [0, 3, 1, 2]
      (Host.dotGeneral dot_S4x128x4x128_S4x4x128x128_S4x4x128x128_1_3_3_2_02_01 none V
        (mulf (Host.dotGeneral dot_S4x128x4x64_S4x128x4x64_S4x4x128x128_3_3_1_1_02_02 none Q K)
          (broadcastInDim S4x4x128x128 ![0, 1, 2, 3] bcast_S1x4x128x128_S4x4x128x128_0_1_2_3
            (broadcastInDim S1x4x128x128 ![1, 2, 3] bcast_S4x128x128_S1x4x128x128_1_2_3 M))))
      transposes_S4x4x128x128_S4x128x4x128_0_3_1_2)
    (mulf (transpose S4x128x4x128 [0, 3, 1, 2]
        (Host.dotGeneral dot_S4x4x64x128_S4x128x4x64_S4x4x128x128_2_3_3_1_01_02 none S Q) transposes_S4x4x128x128_S4x128x4x128_0_3_1_2)
      (broadcastInDim S4x128x4x128 ![0, 1, 2, 3] bcast_S1x128x4x1_S4x128x4x128_0_1_2_3 qd))

/-- All outputs with chunk `n`'s written in. -/
def nextO (O : FVec Ideal S32x4x128x4x128 .f32) (Y : FVec Ideal S4x128x4x128 .f32) (n : ℕ) : FVec Ideal S32x4x128x4x128 .f32 :=
  Host.dynamicUpdateSlice O (broadcastInDim S1x4x128x4x128 ![1, 2, 3, 4] bcast_S4x128x4x128_S1x4x128x4x128_1_2_3_4 Y) (start n)
    updateFits_S32x4x128x4x128_S1x4x128x4x128

theorem nextS_at (K : FVec Ideal S4x128x4x64 .f32) (V : FVec Ideal S4x128x4x128 .f32) (S : FVec Ideal S4x4x64x128 .f32)
    (g : FVec Ideal S1x4x1x1 .f32) (kd : FVec Ideal S1x128x4x1 .f32) (b h : Fin 4) (d : Fin 64) (e : Fin 128) :
    nextS K V S g kd (ix4 b h d e)
      = S (ix4 b h d e) * g (ix4 0 h 0 0) + ∑ x, K (ix4 b x h d) * kd (ix4 0 x h 0) * V (ix4 b x h e) := by
  pointwise [nextS]

theorem chunkO_at (Q K : FVec Ideal S4x128x4x64 .f32) (V : FVec Ideal S4x128x4x128 .f32) (S : FVec Ideal S4x4x64x128 .f32)
    (M : FVec Ideal S4x128x128 .f32) (qd : FVec Ideal S1x128x4x1 .f32) (b : Fin 4) (i : Fin 128) (h : Fin 4) (e : Fin 128) :
    chunkO Q K V S M qd (ix4 b i h e)
      = ∑ x, V (ix4 b x h e) * ((∑ y, Q (ix4 b i h y) * K (ix4 b x h y)) * M (ix3 h i x))
        + (∑ x, S (ix4 b h x e) * Q (ix4 b i h x)) * qd (ix4 0 i h 0) := by
  pointwise [chunkO]

theorem start_le_out (n : Fin 32) (a : Fin 5) :
    Host.clampedStart S32x4x128x4x128 S1x4x128x4x128 updateFits_S32x4x128x4x128_S1x4x128x4x128.1 (start n.val) a = if a = 0 then n.val else 0 := by
  refine Host.clampedStart_of_le _ _ _ _ ?_ ?_
  · rcases Fin.eq_zero_or_eq_succ a with rfl | ⟨k, rfl⟩
    · simp [start_zero]
    · simp [start_succ, Fin.succ_ne_zero]
  · revert n a; decide +kernel

theorem nextO_at (O : FVec Ideal S32x4x128x4x128 .f32) (Y : FVec Ideal S4x128x4x128 .f32) (n n' : Fin 32) (b : Fin 4) (i : Fin 128)
    (h : Fin 4) (e : Fin 128) :
    nextO O Y n.val (ix5 n' b i h e) = if n' = n then Y (ix4 b i h e) else O (ix5 n' b i h e) := by
  pointwise [nextO]
  simp only [start_le_out]
  by_cases hn : n' = n
  · rw [if_pos hn, dif_pos (by subst hn; simp)]
    simp
  · rw [if_neg hn, dif_neg]
    intro h1
    have := h1.1
    simp at this
    exact hn (Fin.ext (by omega))

/-- What the carried buffers hold before chunk `n`. -/
structure Holds (Q K : Fin 4 → Fin 4 → ℕ → Fin 64 → ℝ) (W : Fin 4 → Fin 4 → ℕ → Fin 128 → ℝ) (g : Fin 4 → ℝ)
    (V0 : Valuation τ sig (Elt Ideal)) (n : ℕ) : Prop where
  q : ∀ c b i h d, (V0 (Proc.devRef .tc main_v119_0) (ix5 c b i h d) : EReal) = ((Q b h (128 * c.val + i.val) d : ℝ) : EReal)
  k : ∀ c b i h d, (V0 (Proc.devRef .tc main_v119_1) (ix5 c b i h d) : EReal) = ((K b h (128 * c.val + i.val) d : ℝ) : EReal)
  v : ∀ c b i h e, (V0 (Proc.devRef .tc main_v119_2) (ix5 c b i h e) : EReal) = ((W b h (128 * c.val + i.val) e : ℝ) : EReal)
  mask : ∀ h i j, (V0 (Proc.devRef .tc main_v119_3) (ix3 h i j) : EReal) = ((if j.val ≤ i.val then g h ^ (i.val - j.val) else 0 : ℝ) : EReal)
  qd : ∀ i h, (V0 (Proc.devRef .tc main_v119_4) (ix4 0 i h 0) : EReal) = ((g h ^ (i.val + 1) : ℝ) : EReal)
  cd : ∀ h, (V0 (Proc.devRef .tc main_v119_5) (ix4 0 h 0 0) : EReal) = ((g h ^ 128 : ℝ) : EReal)
  kd : ∀ i h, (V0 (Proc.devRef .tc main_v119_6) (ix4 0 i h 0) : EReal) = ((g h ^ (128 - 1 - i.val) : ℝ) : EReal)
  at_n : V0 (Proc.devRef .tc main_v119_7) = constantI S_ 32 (BitVec.ofNat 32 n)
  s : ∀ b h d e, (V0 (Proc.devRef .tc main_v119_8) (ix4 b h d e) : EReal)
    = ((state (g h) (fun s => K b h s d) (fun s => W b h s e) (128 * n) : ℝ) : EReal)
  o : ∀ c b i h e, c.val < n → (V0 (Proc.devRef .tc main_v119_9) (ix5 c b i h e) : EReal)
    = ((output (g h) (Q b h) (K b h) (fun s => W b h s e) (128 * c.val + i.val) : ℝ) : EReal)

variable {Q K : Fin 4 → Fin 4 → ℕ → Fin 64 → ℝ} {W : Fin 4 → Fin 4 → ℕ → Fin 128 → ℝ} {g : Fin 4 → ℝ}
  {V0 : Valuation τ sig (Elt Ideal)} {n : ℕ}

theorem res_q (hn : n < 32) (H : Holds Q K W g V0 n) (b : Fin 4) (i : Fin 128) (h : Fin 4) (d : Fin 64) :
    (res_main_while0b_v124 V0 (ix4 b i h d) : EReal) = ((Q b h (128 * n + i.val) d : ℝ) : EReal) := by
  unfold res_main_while0b_v124
  rw [H.at_n]
  exact (q_at _ ⟨n, hn⟩ b i h d).trans (H.q ⟨n, hn⟩ b i h d)

theorem res_k (hn : n < 32) (H : Holds Q K W g V0 n) (b : Fin 4) (i : Fin 128) (h : Fin 4) (d : Fin 64) :
    (res_main_while0b_v125 V0 (ix4 b i h d) : EReal) = ((K b h (128 * n + i.val) d : ℝ) : EReal) := by
  unfold res_main_while0b_v125
  rw [H.at_n]
  exact (q_at _ ⟨n, hn⟩ b i h d).trans (H.k ⟨n, hn⟩ b i h d)

theorem res_v (hn : n < 32) (H : Holds Q K W g V0 n) (b : Fin 4) (i : Fin 128) (h : Fin 4) (e : Fin 128) :
    (res_main_while0b_v126 V0 (ix4 b i h e) : EReal) = ((W b h (128 * n + i.val) e : ℝ) : EReal) := by
  unfold res_main_while0b_v126
  rw [H.at_n]
  exact (v_at _ ⟨n, hn⟩ b i h e).trans (H.v ⟨n, hn⟩ b i h e)

theorem st_step : step_main_v119_8 V0 = nextS (res_main_while0b_v125 V0) (res_main_while0b_v126 V0) (V0 (Proc.devRef .tc main_v119_8))
    (V0 (Proc.devRef .tc main_v119_5)) (V0 (Proc.devRef .tc main_v119_6)) := by
  unfold step_main_v119_8
  rfl

theorem o_step (h7 : V0 (Proc.devRef .tc main_v119_7) = constantI S_ 32 (BitVec.ofNat 32 n)) :
    step_main_v119_9 V0 = nextO (V0 (Proc.devRef .tc main_v119_9))
      (chunkO (res_main_while0b_v124 V0) (res_main_while0b_v125 V0) (res_main_while0b_v126 V0) (V0 (Proc.devRef .tc main_v119_8))
        (V0 (Proc.devRef .tc main_v119_3)) (V0 (Proc.devRef .tc main_v119_4))) n := by
  unfold step_main_v119_9
  rw [h7]
  rfl

/-- A trip takes the loop from one chunk to the next. -/
theorem Holds.step (hn : n < 32) (H : Holds Q K W g V0 n) : Holds Q K W g (STEP V0) (n + 1) where
  q := by rw [STEP_main_v119_0]; exact H.q
  k := by rw [STEP_main_v119_1]; exact H.k
  v := by rw [STEP_main_v119_2]; exact H.v
  mask := by rw [STEP_main_v119_3]; exact H.mask
  qd := by rw [STEP_main_v119_4]; exact H.qd
  cd := by rw [STEP_main_v119_5]; exact H.cd
  kd := by rw [STEP_main_v119_6]; exact H.kd
  at_n := by
    rw [STEP_main_v119_7]
    unfold step_main_v119_7
    rw [H.at_n]
    funext i
    exact (BitVec.ofNat_add n 1).symm
  s := fun b h d e => by
    rw [STEP_main_v119_8, st_step, nextS_at]
    simp only [res_k hn H, res_v hn H, H.s, H.cd, H.kd]
    rw [mul_add, mul_one, ← state_chunk _ _ _ (128 * n) 128 (by norm_num), EReal.coe_add, coe_sum]
    simp only [EReal.coe_mul]
  o := fun c b i h e hc => by
    rw [STEP_main_v119_9, o_step H.at_n]
    refine (nextO_at _ _ ⟨n, hn⟩ c b i h e).trans ?_
    by_cases hcn : c = ⟨n, hn⟩
    · subst hcn
      rw [if_pos rfl, chunkO_at]
      simp only [res_q hn H, res_k hn H, res_v hn H, H.s, H.mask, H.qd]
      rw [← output_chunk (g h) (Q b h) (K b h) (fun s => W b h s e) (128 * n) 128 i]
      simp only [← EReal.coe_mul, ← coe_sum, ← EReal.coe_add]
      congr 2
      · exact Finset.sum_congr rfl fun x _ => by ring
      · congr 1
        exact Finset.sum_congr rfl fun x _ => by ring
    · rw [if_neg hcn]
      exact H.o c b i h e (by
        have : c.val ≠ n := fun h => hcn (Fin.ext h)
        omega)

/-- The loop's trips keep what the buffers hold. -/
theorem Holds.iterate (H : Holds Q K W g V0 0) : ∀ n ≤ 32, Holds Q K W g (STEP^[n] V0) n
  | 0, _ => H
  | n + 1, hn => by
    rw [Function.iterate_succ_apply']
    exact (iterate H n (by omega)).step (by omega)

end Cert.ReferenceIdeal.Retention
-- ==== Proof.Retention.RefTables.lean ====
/- The reference's tables and its rotated queries and keys, chunk by chunk, over the reals. -/
module

public import proofs.«01_k».proof.Proof.Gen.ReferenceIdeal.Step
public import proofs.«01_k».proof.Proof.Retention.Reals
public import proofs.«01_k».proof.ReferenceIdeal

@[expose] public section

set_option maxRecDepth 16384

noncomputable section

open Idealize.ShloMosaic Idealize.ShloMosaic.TcCoe Idealize.SL.Sem Idealize.ShloMosaic.StableHlo

namespace Cert.ReferenceIdeal.Retention

open Cert.Proof.Retention Cert.ReferenceIdeal Cert.ReferenceIdeal.Gen Cert.ReferenceIdeal.Step

theorem angle_at (t : Fin 4096) (i : Fin 32) : (K_main_v14 (F := Ideal) (ix2 t i) : EReal) = (angle t.val i.val : ℝ) := by
  pointwise [K_main_v14, K_main_v13, K_main_v12, K_main_v11, K_main_v10, K_main_v9, K_main_v8, K_main_v7, K_main_v6, K_main_v5,
    K_main_v4, K_main_v3, K_main_v0, K_main_cst_0, K_main_cst_1]
  rw [whole (by omega)]
  exact (congrArg _ (freq_at i.isLt)).trans (EReal.coe_mul _ _).symm

theorem angle_at' (t : Fin 4096) (i : Fin 32) : (K_main_v44 (F := Ideal) (ix2 t i) : EReal) = (angle t.val i.val : ℝ) :=
  angle_at t i

theorem log_at (h : Fin 4) : (K_main_v72 (F := Ideal) (ix1 h) : EReal) = (logDecay h.val : ℝ) := by
  pointwise [K_main_v72, K_main_v71, K_main_v70, K_main_v69, K_main_v68, K_main_v67, K_main_v66, K_main_v65, K_main_cst_5, K_main_cst_6]
  exact logDecay_at h.isLt

theorem mask_at (h : Fin 4) (i j : Fin 128) : (K_main_v89 (F := Ideal) (ix3 h i j) : EReal)
    = ((if j.val ≤ i.val then decay h.val ^ (i.val - j.val) else 0 : ℝ) : EReal) := by
  pointwise [K_main_v89, K_main_call0_v2, K_main_call0_v1, K_main_call0_v0, K_main_cst_9, K_main_v88, K_main_v87, K_main_v86,
    K_main_v85, K_main_v84, K_main_v83, K_main_v82, K_main_v81, K_main_v80, K_main_v79, K_main_v78,K_main_v77, K_main_v76,
    K_main_v75, K_main_v74, K_main_v73, K_main_cst_7, K_main_cst_8]
  rw [log_at, whole (by omega), whole (by omega)]
  exact mask_entry h.val i.val j.val Ideal.ofBits_zero_f32

theorem qd_at (i : Fin 128) (h : Fin 4) :
    (K_main_v98 (F := Ideal) (ix4 0 i h 0) : EReal) = ((decay h.val ^ (i.val + 1) : ℝ) : EReal) := by
  pointwise [K_main_v98, K_main_v97, K_main_v96, K_main_v95, K_main_v94, K_main_v93, K_main_v92, K_main_v91, K_main_v90, K_main_v73,
    K_main_cst_10]
  rw [log_at, whole (by omega)]
  exact pow_at h.val (i.val + 1) (by push_cast; rfl)

theorem kd_at (i : Fin 128) (h : Fin 4) :
    (K_main_v107 (F := Ideal) (ix4 0 i h 0) : EReal) = ((decay h.val ^ (128 - 1 - i.val) : ℝ) : EReal) := by
  pointwise [K_main_v107, K_main_v106, K_main_v105, K_main_v104, K_main_v103, K_main_v102, K_main_v101, K_main_v100, K_main_v99,
    K_main_v73, K_main_cst_11]
  rw [log_at, whole (by omega), word_127]
  refine pow_at h.val (128 - 1 - i.val) ?_
  rw [← EReal.coe_sub, show 128 - 1 - i.val = 127 - i.val by omega, Nat.cast_sub (by omega)]
  norm_num

theorem cd_at (h : Fin 4) : (K_main_v111 (F := Ideal) (ix4 0 h 0 0) : EReal) = ((decay h.val ^ 128 : ℝ) : EReal) := by
  pointwise [K_main_v111, K_main_v110, K_main_v109, K_main_v108, K_main_cst_12]
  rw [log_at, word_128]
  exact pow_at h.val 128 (by norm_num)

/-- Chunk `n`'s rows. -/
theorem chunk_at (X : FVec Ideal S4x4096x4x64 .f32) (n : Fin 32) (b : Fin 4) (i : Fin 128) (h : Fin 4) (d : Fin 64) :
    transpose S32x4x128x4x64 [1, 0, 2, 3, 4] (shapeCast S4x32x128x4x64 X shapeCasts_S4x4096x4x64_S4x32x128x4x64)
      transposes_S4x32x128x4x64_S32x4x128x4x64_1_0_2_3_4 (ix5 n b i h d) = X (ix4 b ⟨128 * n.val + i.val, by omega⟩ h d) := by
  pointwise
  congr 2
  exact Fin.ext (by simp only; omega)

theorem chunk_at' (X : FVec Ideal S4x4096x4x128 .f32) (n : Fin 32) (b : Fin 4) (i : Fin 128) (h : Fin 4) (d : Fin 128) :
    transpose S32x4x128x4x128 [1, 0, 2, 3, 4] (shapeCast S4x32x128x4x128 X shapeCasts_S4x4096x4x128_S4x32x128x4x128)
      transposes_S4x32x128x4x128_S32x4x128x4x128_1_0_2_3_4 (ix5 n b i h d) = X (ix4 b ⟨128 * n.val + i.val, by omega⟩ h d) := by
  pointwise
  congr 2
  exact Fin.ext (by simp only; omega)

variable (a0 a1 : FVec Ideal S4x4096x256 .f32) (a2 : FVec Ideal S4x4096x512 .f32)

/-- The first half of a head's features after the rotary. -/
theorem lo_at (x : Fin 4 → Fin 4096 → Fin 256 → ℝ) (hx : ∀ b t j, (a0 (ix3 b t j) : EReal) = x b t j) (b : Fin 4) (t : Fin 4096)
    (h : Fin 4) (d : Fin 32) : (A_main_v25 (F := Ideal) a0 a1 a2 (ix4 b t h d) : EReal)
      = ((x b t ⟨h.val * 64 + d.val, by omega⟩ * Real.cos (angle t.val d.val)
        - x b t ⟨h.val * 64 + (32 + d.val), by omega⟩ * Real.sin (angle t.val d.val) : ℝ) : EReal) := by
  pointwise [A_main_v25, A_main_v24, A_main_v22, A_main_v20, A_main_v19, A_main_v2, K_main_v28, K_main_v26, K_main_v23, K_main_v21,
    K_main_v18, K_main_v16, K_main_v17, K_main_v15]
  rw [hx, hx, angle_at, Ideal.cos_coe, Ideal.sin_coe, ← EReal.coe_mul, ← EReal.coe_mul, ← EReal.coe_sub]

/-- The second half. -/
theorem hi_at (x : Fin 4 → Fin 4096 → Fin 256 → ℝ) (hx : ∀ b t j, (a0 (ix3 b t j) : EReal) = x b t j) (b : Fin 4) (t : Fin 4096)
    (h : Fin 4) (d : Fin 32) : (A_main_v30 (F := Ideal) a0 a1 a2 (ix4 b t h d) : EReal)
      = ((x b t ⟨h.val * 64 + d.val, by omega⟩ * Real.sin (angle t.val d.val)
        + x b t ⟨h.val * 64 + (32 + d.val), by omega⟩ * Real.cos (angle t.val d.val) : ℝ) : EReal) := by
  pointwise [A_main_v30, A_main_v29, A_main_v27, A_main_v20, A_main_v19, A_main_v2, K_main_v28, K_main_v26, K_main_v23, K_main_v21,
    K_main_v18, K_main_v16, K_main_v17, K_main_v15]
  rw [hx, hx, angle_at, Ideal.cos_coe, Ideal.sin_coe, ← EReal.coe_mul, ← EReal.coe_mul, ← EReal.coe_add]

/-- A rotated row. -/
theorem rot_at (x : Fin 4 → Fin 4096 → Fin 256 → ℝ) (hx : ∀ b t j, (a0 (ix3 b t j) : EReal) = x b t j) (b : Fin 4) (t : Fin 4096)
    (h : Fin 4) (d : Fin 64) : (A_main_v31 (F := Ideal) a0 a1 a2 (ix4 b t h d) : EReal) = (turned x b h t.val d : ℝ) := by
  pointwise [A_main_v31]
  by_cases hd : d.val < 32
  · rw [dif_pos hd, lo_at a0 a1 a2 x hx, turned_lo x b h t d hd]
  · rw [dif_neg hd, hi_at a0 a1 a2 x hx, turned_hi x b h t d hd]

theorem q_entry (x : Fin 4 → Fin 4096 → Fin 256 → ℝ) (hx : ∀ b t j, (a0 (ix3 b t j) : EReal) = x b t j) (n : Fin 32) (b : Fin 4)
    (i : Fin 128) (h : Fin 4) (d : Fin 64) :
    (A_main_v113 (F := Ideal) a0 a1 a2 (ix5 n b i h d) : EReal) = (turned x b h (128 * n.val + i.val) d : ℝ) := by
  unfold A_main_v113 A_main_v112
  exact (chunk_at _ n b i h d).trans (rot_at a0 a1 a2 x hx b _ h d)

theorem k_entry (x : Fin 4 → Fin 4096 → Fin 256 → ℝ) (hx : ∀ b t j, (a1 (ix3 b t j) : EReal) = x b t j) (n : Fin 32) (b : Fin 4)
    (i : Fin 128) (h : Fin 4) (d : Fin 64) :
    (A_main_v115 (F := Ideal) a0 a1 a2 (ix5 n b i h d) : EReal) = (keys x b h (128 * n.val + i.val) d : ℝ) := by
  unfold A_main_v115 A_main_v114
  refine (chunk_at _ n b i h d).trans ?_
  have e : A_main_v61 (F := Ideal) a0 a1 a2 = A_main_v31 (F := Ideal) a1 a0 a2 := rfl
  pointwise [A_main_v63, K_main_v62, K_main_cst_4]
  rw [e, rot_at a1 a0 a2 x hx, word_eighth, ← EReal.coe_mul, keys]

theorem v_entry (x : Fin 4 → Fin 4096 → Fin 512 → ℝ) (hx : ∀ b t j, (a2 (ix3 b t j) : EReal) = x b t j) (n : Fin 32) (b : Fin 4)
    (i : Fin 128) (h : Fin 4) (e : Fin 128) :
    (A_main_v117 (F := Ideal) a0 a1 a2 (ix5 n b i h e) : EReal) = (vals x b h (128 * n.val + i.val) e : ℝ) := by
  unfold A_main_v117 A_main_v116
  refine (chunk_at' _ n b i h e).trans ?_
  have ht : 128 * n.val + i.val < 4096 := by omega
  pointwise [A_main_v64]
  rw [vals, dif_pos ht, hx]
  congr 2
  exact Fin.ext (by simp only; omega)

end Cert.ReferenceIdeal.Retention
-- ==== Proof.Retention.Entry.lean ====
/- What the reference's loop begins with, and what the reference leaves: the retention over the reals. -/
module

public import proofs.«01_k».proof.Proof.Gen.ReferenceIdeal.Step
public import proofs.«01_k».proof.Proof.Retention.Loop
public import proofs.«01_k».proof.Proof.Retention.RefTables

@[expose] public section

set_option maxRecDepth 65536

noncomputable section

open Idealize.ShloMosaic Idealize.ShloMosaic.TcCoe Idealize.SL.Sem Idealize.ShloMosaic.StableHlo

namespace Cert.ReferenceIdeal.Retention

open Cert.Proof.Retention Cert.ReferenceIdeal Cert.ReferenceIdeal.Gen Cert.ReferenceIdeal.Value Cert.ReferenceIdeal.Step

variable (m : (ℓ : Loc nD τ sig) → Buf (Elt Ideal) ℓ) (c : Dev nD)

/-- The loop's entry, buffer by buffer. -/
theorem entry :
    entryContents preI m c (Proc.devRef .tc main_v119_0) = A_main_v113 (F := Ideal) (m ((c.tc : Thread nD τ).loc main_arg0)) (m ((c.tc : Thread nD τ).loc main_arg1)) (m ((c.tc : Thread nD τ).loc main_arg2))
    ∧ entryContents preI m c (Proc.devRef .tc main_v119_1) = A_main_v115 (F := Ideal) (m ((c.tc : Thread nD τ).loc main_arg0)) (m ((c.tc : Thread nD τ).loc main_arg1)) (m ((c.tc : Thread nD τ).loc main_arg2))
    ∧ entryContents preI m c (Proc.devRef .tc main_v119_2) = A_main_v117 (F := Ideal) (m ((c.tc : Thread nD τ).loc main_arg0)) (m ((c.tc : Thread nD τ).loc main_arg1)) (m ((c.tc : Thread nD τ).loc main_arg2))
    ∧ entryContents preI m c (Proc.devRef .tc main_v119_3) = K_main_v89 (F := Ideal)
    ∧ entryContents preI m c (Proc.devRef .tc main_v119_4) = K_main_v98 (F := Ideal)
    ∧ entryContents preI m c (Proc.devRef .tc main_v119_5) = K_main_v111 (F := Ideal)
    ∧ entryContents preI m c (Proc.devRef .tc main_v119_6) = K_main_v107 (F := Ideal)
    ∧ entryContents preI m c (Proc.devRef .tc main_v119_7) = constantI S_ 32 0#32
    ∧ entryContents preI m c (Proc.devRef .tc main_v119_8) = K_main_v1 (F := Ideal) := by
  refine ⟨?_, ?_, ?_, ?_, ?_, ?_, ?_, ?_, ?_⟩ <;> (simp only [entryContents, afterL_cons, afterL_nil]; after_reads_simp) <;> rfl

variable (x y : Fin 4 → Fin 4096 → Fin 256 → ℝ) (z : Fin 4 → Fin 4096 → Fin 512 → ℝ)
  (hx : ∀ b t j, (m ((c.tc : Thread nD τ).loc main_arg0) (ix3 b t j) : EReal) = ((x b t j : ℝ) : EReal))
  (hy : ∀ b t j, (m ((c.tc : Thread nD τ).loc main_arg1) (ix3 b t j) : EReal) = ((y b t j : ℝ) : EReal))
  (hz : ∀ b t j, (m ((c.tc : Thread nD τ).loc main_arg2) (ix3 b t j) : EReal) = ((z b t j : ℝ) : EReal))

include hx hy hz in
theorem holds_entry : Holds (turned x) (keys y) (vals z) (fun h => decay h.val) (entryContents preI m c) 0 := by
  obtain ⟨e0, e1, e2, e3, e4, e5, e6, e7, e8⟩ := entry m c
  exact
    { q := by rw [e0]; exact fun n b i h d => q_entry _ _ _ x hx n b i h d
      k := by rw [e1]; exact fun n b i h d => k_entry _ _ _ y hy n b i h d
      v := by rw [e2]; exact fun n b i h d => v_entry _ _ _ z hz n b i h d
      mask := by rw [e3]; exact mask_at
      qd := by rw [e4]; exact qd_at
      cd := by rw [e5]; exact cd_at
      kd := by rw [e6]; exact kd_at
      at_n := e7
      s := fun b h d e => by
        rw [e8, state_zero]
        exact Ideal.ofBits_zero_f32
      o := fun _ _ _ _ _ h => absurd h (Nat.not_lt_zero _) }

/-- The chunks' outputs as rows of tokens. -/
theorem rows_at (X : FVec Ideal S32x4x128x4x128 .f32) (b : Fin 4) (t : Fin 4096) (h : Fin 4) (e : Fin 128) :
    (truncf (F := Ideal) .bf16 (shapeCast S4x4096x512 (shapeCast S4x4096x4x128 (transpose S4x32x128x4x128 [1, 0, 2, 3, 4] X
      transposes_S32x4x128x4x128_S4x32x128x4x128_1_0_2_3_4) shapeCasts_S4x32x128x4x128_S4x4096x4x128)
      shapeCasts_S4x4096x4x128_S4x4096x512) bitsLt_bf16_f32 (ix3 b t ⟨128 * h.val + e.val, by omega⟩) : EReal)
    = X (ix5 ⟨t.val / 128, by omega⟩ b ⟨t.val % 128, by omega⟩ h e) := by
  pointwise

include hx hy hz in
/-- The reference's outputs. -/
theorem ref_output (b : Fin 4) (t : Fin 4096) (h : Fin 4) (e : Fin 128) :
    (out_main_v123 (STEP^[32] (entryContents preI m c)) (ix3 b t ⟨128 * h.val + e.val, by omega⟩) : EReal)
      = ((output (decay h.val) (turned x b h) (keys y b h) (fun s => vals z b h s e) t.val : ℝ) : EReal) := by
  have H := (holds_entry m c x y z hx hy hz).iterate 32 le_rfl
  unfold out_main_v123
  refine (rows_at _ b t h e).trans ((H.o ⟨t.val / 128, by omega⟩ b ⟨t.val % 128, by omega⟩ h e (by simp only; omega)).trans ?_)
  rw [show 128 * (t.val / 128) + t.val % 128 = t.val by omega]

include hx hy hz in
/-- The reference's last state. -/
theorem ref_state (b h : Fin 4) (d : Fin 64) (e : Fin 128) :
    ((STEP^[32] (entryContents preI m c)) (Proc.devRef .tc main_v119_8) (ix4 b h d e) : EReal)
      = ((state (decay h.val) (fun s => keys y b h s d) (fun s => vals z b h s e) 4096 : ℝ) : EReal) :=
  ((holds_entry m c x y z hx hy hz).iterate 32 le_rfl).s b h d e

end Cert.ReferenceIdeal.Retention
-- ==== Proof.Retention.Block.lean ====
/- What one grid point of the retention kernel leaves in its two blocks and in the carried state, read at an index.

   The body turns the chunk's queries and keys by the rotary angles, and then, head by head, forms the decayed scores of the chunk
   against itself, multiplies them with the values, adds what the carried state contributes, and moves the state one chunk on. -/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.KernelIdeal.Retention

open Cert.KernelIdeal Cert.KernelIdeal.Gen Cert.KernelIdeal.Value

/-- The lane of head `h`'s query or key feature `d`. -/
def lane (h : Fin 4) (d : Fin 64) : Fin 256 := ⟨64 * h.val + d.val, by omega⟩

/-- The lane of head `h`'s value feature `e`. -/
def vlane (h : Fin 4) (e : Fin 128) : Fin 512 := ⟨128 * h.val + e.val, by omega⟩

/-- The word the kernel scales its keys by, an eighth. -/
def eighth : EReal := Ideal.ofBits .f32 0x3E000000#32

/-- A row of the chunk turned by its angles: the lane itself by the cosine, its partner half a head away by the sine. -/
def turn (co si : Vec Ideal S256x256 .f32) (x : Vec Ideal S1x256x256 .f32) : FVec Ideal S256x256 .f32 := fun i =>
  x (ix3 0 (i 0) (i 1)) * co i
    + (if (i 1).val % 64 < 32 then 0 - x (ix3 0 (i 0) ⟨((i 1).val + 32) % 256, Nat.mod_lt _ (by decide)⟩)
        else x (ix3 0 (i 0) ⟨((i 1).val + 224) % 256, Nat.mod_lt _ (by decide)⟩)) * si i

/-- The chunk's output at row `r`, head `h`, feature `e`. -/
def outTile (qr kr qd : FVec Ideal S256x256 .f32) (M : Vec Ideal S4x256x256 .f32) (v : Vec Ideal S1x256x512 .f32)
    (S : Vec Ideal S4x64x128 .f32) (r : Fin 256) (h : Fin 4) (e : Fin 128) : EReal :=
  ∑ c : Fin 256, (∑ d : Fin 64, qr (ix2 r (lane h d)) * (kr (ix2 c (lane h d)) * eighth)) * M (ix3 h r c) * v (ix3 0 c (vlane h e))
    + ∑ d : Fin 64, qr (ix2 r (lane h d)) * qd (ix2 r (lane h d)) * S (ix3 h d e)

/-- The state after the chunk, of head `h`, at `d`, `e`. -/
def stTile (kr kd : FVec Ideal S256x256 .f32) (cd : Vec Ideal S4x1x128 .f32) (v : Vec Ideal S1x256x512 .f32)
    (S : Vec Ideal S4x64x128 .f32) (h : Fin 4) (d : Fin 64) (e : Fin 128) : EReal :=
  S (ix3 h d e) * cd (ix3 h 0 e) + ∑ c : Fin 256, kr (ix2 c (lane h d)) * eighth * kd (ix2 c (lane h d)) * v (ix3 0 c (vlane h e))

/-- A lane's place in its half of a head, as the kernel asks for it. -/
theorem low_half : ∀ j : Fin 256, IntOp.cmpi CmpIPredicate.slt (IntOp.andi (BitVec.ofNat 32 j.val) 63#32) 32#32
    = if j.val % 64 < 32 then 1#1 else 0#1 := by decide +kernel

theorem turn_q (co si : Vec Ideal S256x256 .f32) (x : Vec Ideal S1x256x256 .f32) : k0_pay10 co si x = turn co si x := by
  funext i
  idx_vars i
  pointwise [k0_pay10, k0_pay7, k0_pay8, k0_pay9]
  rw [low_half]
  unfold turn
  have e1 : (⟨(i1.val + 256 - 224) % 256, by omega⟩ : Fin 256) = ⟨(i1.val + 32) % 256, by omega⟩ := Fin.ext (by dsimp only; omega)
  have e2 : (⟨(i1.val + 256 - 32) % 256, by omega⟩ : Fin 256) = ⟨(i1.val + 224) % 256, by omega⟩ := Fin.ext (by dsimp only; omega)
  rw [e1, e2]
  by_cases hl : i1.val % 64 < 32
  · rw [if_pos hl, if_pos (show (ix2 i0 i1 1).val % 64 < 32 from hl)]; rfl
  · rw [if_neg hl, if_neg (show ¬(ix2 i0 i1 1).val % 64 < 32 from hl)]; rfl

theorem turn_k (co si : Vec Ideal S256x256 .f32) (x : Vec Ideal S1x256x256 .f32) : k0_pay11 co si x = turn co si x :=
  turn_q co si x

variable (qr kr qd kd : FVec Ideal S256x256 .f32) (M : Vec Ideal S4x256x256 .f32) (v : Vec Ideal S1x256x512 .f32)
  (S : Vec Ideal S4x64x128 .f32) (cd : Vec Ideal S4x1x128 .f32)

/-- The lane of head 0. -/
theorem lane_zero (d : Fin 64) : lane 0 d = ⟨d.val, by omega⟩ := Fin.ext (by simp [lane])

/-- The value lane of head 0. -/
theorem vlane_zero (e : Fin 128) : vlane 0 e = ⟨e.val, by omega⟩ := Fin.ext (by simp [vlane])

/-- An index of three axes is known by its coordinates. -/
theorem ix3_of {n0 n1 n2 : Nat} {j : (⟨3, ![n0, n1, n2]⟩ : Shape).Idx} {a : Fin n0} {b : Fin n1} {c : Fin n2}
    (h0 : (j 0).val = a.val) (h1 : (j 1).val = b.val) (h2 : (j 2).val = c.val) : j = ix3 a b c := by
  rw [eq_ix3 j]
  congr 1 <;> exact Fin.ext (by assumption)

/-- The four stores of the output block, one a head, hold `outTile`. -/
theorem out_canon (T0 T1 T2 T3 : Vec Ideal S1x64x128 .f32)
    (e0 : T0 = View.ld S (Rect.unit ![0, 0, 0] ![1, 64, 128] inb_S4x64x128_S1x64x128_0_0_0))
    (e1 : T1 = View.ld S (Rect.unit ![1, 0, 0] ![1, 64, 128] inb_S4x64x128_S1x64x128_1_0_0))
    (e2 : T2 = View.ld S (Rect.unit ![2, 0, 0] ![1, 64, 128] inb_S4x64x128_S1x64x128_2_0_0))
    (e3 : T3 = View.ld S (Rect.unit ![3, 0, 0] ![1, 64, 128] inb_S4x64x128_S1x64x128_3_0_0))
    (r : Fin 256) (h : Fin 4) (e : Fin 128) :
    View.canon (Val := Elt Ideal) (s := S1x256x512) (e := .bf16)
      [⟨Rect.unit ![0, 0, 384] ![1, 256, 128] inb_S1x256x512_S1x256x128_0_0_384,
          k0_pay3 (k0_pay31 (k0_pay16 qr qd) (k0_pay22 T3))
            (k0_pay39 (k0_pay18 v) (k0_pay27 (k0_pay14 qr) (k0_pay15 kr k0_pay12)
              (View.ld M (Rect.unit ![3, 0, 0] ![1, 256, 256] inb_S4x256x256_S1x256x256_3_0_0))))⟩,
        ⟨Rect.unit ![0, 0, 256] ![1, 256, 128] inb_S1x256x512_S1x256x128_0_0_256,
          k0_pay1 (k0_pay44 (k0_pay18 v) (k0_pay26 (k0_pay14 qr) (k0_pay15 kr k0_pay12)
              (View.ld M (Rect.unit ![2, 0, 0] ![1, 256, 256] inb_S4x256x256_S1x256x256_2_0_0)))
            (k0_pay30 (k0_pay16 qr qd) (k0_pay21 T2)))⟩,
        ⟨Rect.unit ![0, 0, 128] ![1, 256, 128] inb_S1x256x512_S1x256x128_0_0_128,
          k0_pay42 (k0_pay29 (k0_pay16 qr qd) (k0_pay20 T1))
            (k0_pay37 (k0_pay24 qr kr k0_pay12)
              (k0_pay25 (View.ld M (Rect.unit ![1, 0, 0] ![1, 256, 256] inb_S4x256x256_S1x256x256_1_0_0))))
            (k0_pay38 (k0_pay18 v)) (constant S256x128 FTy.f32 0#32)⟩,
        ⟨Rect.unit ![0, 0, 0] ![1, 256, 128] inb_S1x256x512_S1x256x128_0_0_0,
          k0_pay40 (k0_pay28 (k0_pay16 qr qd) (k0_pay19 T0))
            (k0_pay36 (k0_pay18 v) (k0_pay23 qr kr k0_pay12
              (View.ld M (Rect.unit ![0, 0, 0] ![1, 256, 256] inb_S4x256x256_S1x256x256_0_0_0))))⟩]
      (ix3 0 r (vlane h e)) = outTile qr kr qd M v S r h e := by
  subst e0 e1 e2 e3
  canon_tiles x hx
  case piece0 =>
    have hv : 128 * h.val + e.val = 384 + (x 2).val := hx2
    obtain rfl : h = 3 := Fin.ext (by simp only [Fin.isValue, Fin.coe_ofNat_eq_mod]; omega)
    obtain rfl : x = ix3 0 r e := ix3_of hx0.symm hx1.symm (by simp at hv; omega)
    pointwise [k0_pay3, k0_pay31, k0_pay16, k0_pay22, k0_pay39, k0_pay18, k0_pay27, k0_pay14, k0_pay15, k0_pay12, k0_pay13]
    rfl
  case piece1 =>
    have hv : 128 * h.val + e.val = 256 + (x 2).val := hx2
    obtain rfl : h = 2 := Fin.ext (by simp only [Fin.isValue, Fin.coe_ofNat_eq_mod]; omega)
    obtain rfl : x = ix3 0 r e := ix3_of hx0.symm hx1.symm (by simp at hv; omega)
    pointwise [k0_pay1, k0_pay30, k0_pay16, k0_pay21, k0_pay44, k0_pay18, k0_pay26, k0_pay14, k0_pay15, k0_pay12, k0_pay13]
    rfl
  case piece2 =>
    have hv : 128 * h.val + e.val = 128 + (x 2).val := hx2
    obtain rfl : h = 1 := Fin.ext (by simp only [Fin.isValue, Fin.coe_ofNat_eq_mod]; omega)
    obtain rfl : x = ix3 0 r e := ix3_of hx0.symm hx1.symm (by simp at hv; omega)
    pointwise [k0_pay42, k0_pay29, k0_pay16, k0_pay20, k0_pay37, k0_pay24, k0_pay18, k0_pay25, k0_pay14, k0_pay15, k0_pay12, k0_pay13, k0_pay38]
    rfl
  case piece3 =>
    have hv : 128 * h.val + e.val = (x 2).val := hx2
    obtain rfl : h = 0 := Fin.ext (by simp only [Fin.isValue, Fin.coe_ofNat_eq_mod]; omega)
    obtain rfl : x = ix3 0 r e := ix3_of hx0.symm hx1.symm (by simp at hv; omega)
    pointwise [k0_pay40, k0_pay28, k0_pay16, k0_pay19, k0_pay36, k0_pay23, k0_pay18, k0_pay14, k0_pay15, k0_pay12, k0_pay13]
    unfold outTile
    simp only [lane_zero, vlane_zero]
    rfl

/-- The four stores of the state, one a head. -/
def stPieces (T0 T1 T2 T3 : Vec Ideal S1x64x128 .f32) : List (View.Piece (Elt Ideal) S4x64x128 .f32) :=
  [⟨Rect.unit ![3, 0, 0] ![1, 64, 128] inb_S4x64x128_S1x64x128_3_0_0,
      k0_pay4 (k0_pay22 T3)
        (k0_pay35 (k0_pay17 kr k0_pay12 kd) (k0_pay18 v)) (View.ld cd (Rect.unit ![3, 0, 0] ![1, 1, 128] inb_S4x1x128_S1x1x128_3_0_0))⟩,
    ⟨Rect.unit ![2, 0, 0] ![1, 64, 128] inb_S4x64x128_S1x64x128_2_0_0,
      k0_pay2 (k0_pay21 T2)
        (k0_pay34 (k0_pay17 kr k0_pay12 kd) (k0_pay18 v)) (View.ld cd (Rect.unit ![2, 0, 0] ![1, 1, 128] inb_S4x1x128_S1x1x128_2_0_0))⟩,
    ⟨Rect.unit ![1, 0, 0] ![1, 64, 128] inb_S4x64x128_S1x64x128_1_0_0,
      k0_pay43 (k0_pay20 T1)
        (k0_pay33 (k0_pay17 kr k0_pay12 kd) (k0_pay18 v)) (View.ld cd (Rect.unit ![1, 0, 0] ![1, 1, 128] inb_S4x1x128_S1x1x128_1_0_0))⟩,
    ⟨Rect.unit ![0, 0, 0] ![1, 64, 128] inb_S4x64x128_S1x64x128_0_0_0,
      k0_pay41 (k0_pay19 T0)
        (k0_pay32 (k0_pay17 kr k0_pay12 kd) (k0_pay18 v)) (View.ld cd (Rect.unit ![0, 0, 0] ![1, 1, 128] inb_S4x1x128_S1x1x128_0_0_0))⟩]

/-- They hold `stTile`. -/
theorem st_canon (T0 T1 T2 T3 : Vec Ideal S1x64x128 .f32)
    (e0 : T0 = View.ld S (Rect.unit ![0, 0, 0] ![1, 64, 128] inb_S4x64x128_S1x64x128_0_0_0))
    (e1 : T1 = View.ld S (Rect.unit ![1, 0, 0] ![1, 64, 128] inb_S4x64x128_S1x64x128_1_0_0))
    (e2 : T2 = View.ld S (Rect.unit ![2, 0, 0] ![1, 64, 128] inb_S4x64x128_S1x64x128_2_0_0))
    (e3 : T3 = View.ld S (Rect.unit ![3, 0, 0] ![1, 64, 128] inb_S4x64x128_S1x64x128_3_0_0))
    (h : Fin 4) (d : Fin 64) (e : Fin 128) : View.canon (stPieces kr kd v cd T0 T1 T2 T3) (ix3 h d e) = stTile kr kd cd v S h d e := by
  unfold stPieces
  subst e0 e1 e2 e3
  canon_tiles x hx
  case piece0 =>
    have hv : h.val = 3 + (x 0).val := hx0
    obtain rfl : h = 3 := Fin.ext (by simp only [Fin.isValue, Fin.coe_ofNat_eq_mod]; omega)
    obtain rfl : x = ix3 0 d e := ix3_of (by simp only [Fin.isValue, Fin.coe_ofNat_eq_mod]; omega) hx1.symm hx2.symm
    pointwise [k0_pay4, k0_pay22, k0_pay35, k0_pay17, k0_pay12, k0_pay13, k0_pay18]
    rfl
  case piece1 =>
    have hv : h.val = 2 + (x 0).val := hx0
    obtain rfl : h = 2 := Fin.ext (by simp only [Fin.isValue, Fin.coe_ofNat_eq_mod]; omega)
    obtain rfl : x = ix3 0 d e := ix3_of (by simp only [Fin.isValue, Fin.coe_ofNat_eq_mod]; omega) hx1.symm hx2.symm
    pointwise [k0_pay2, k0_pay21, k0_pay34, k0_pay17, k0_pay12, k0_pay13, k0_pay18]
    rfl
  case piece2 =>
    have hv : h.val = 1 + (x 0).val := hx0
    obtain rfl : h = 1 := Fin.ext (by simp only [Fin.isValue, Fin.coe_ofNat_eq_mod]; omega)
    obtain rfl : x = ix3 0 d e := ix3_of (by simp only [Fin.isValue, Fin.coe_ofNat_eq_mod]; omega) hx1.symm hx2.symm
    pointwise [k0_pay43, k0_pay20, k0_pay33, k0_pay17, k0_pay12, k0_pay13, k0_pay18]
    rfl
  case piece3 =>
    have hv : h.val = (x 0).val := hx0
    obtain rfl : h = 0 := Fin.ext (by simp only [Fin.isValue, Fin.coe_ofNat_eq_mod]; omega)
    obtain rfl : x = ix3 0 d e := ix3_of (by simp only [Fin.isValue, Fin.coe_ofNat_eq_mod]; omega) hx1.symm hx2.symm
    pointwise [k0_pay41, k0_pay19, k0_pay32, k0_pay17, k0_pay12, k0_pay13, k0_pay18]
    unfold stTile
    simp only [lane_zero, vlane_zero]
    rfl

/-- Stores over earlier ones hide them wherever they write. -/
theorem canon_over {s : Shape} {e : EltTy} (L' : List (View.Piece (Elt Ideal) s e)) (y : s.Idx) :
    ∀ L : List (View.Piece (Elt Ideal) s e), (∃ p ∈ L, y ∈ p.1.set) → View.canon (L ++ L') y = View.canon L y
  | [], h => by simp at h
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over L' y L ?_
      obtain ⟨q, hq, hy⟩ := h
      rcases List.mem_cons.mp hq with rfl | hq
      · exact absurd hy hm
      · exact ⟨q, hq, hy⟩

/-- Every index of the state lies in one of the four stores. -/
theorem st_cover (T0 T1 T2 T3 : Vec Ideal S1x64x128 .f32) (h : Fin 4) (d : Fin 64) (e : Fin 128) : ∃ p ∈ stPieces kr kd v cd T0 T1 T2 T3, ix3 h d e ∈ p.1.set := by
  unfold stPieces
  simp only [List.mem_cons, List.not_mem_nil, or_false, exists_eq_or_imp, exists_eq_left]
  have key : ∀ (n : ℕ) (inb : _), h.val = n → (ix3 h d e : S4x64x128.Idx) ∈ (Rect.unit (s := S4x64x128) ![n, 0, 0] ![1, 64, 128] inb).set := by
    rintro n inb hn
    refine (LoadRect.mem_set _).mpr fun a => ?_
    match a with
    | ⟨0, _⟩ => exact ⟨0, Nat.one_pos, by simpa [Rect.unit] using hn⟩
    | ⟨1, _⟩ => exact ⟨d.val, d.isLt, by simp [Rect.unit]⟩
    | ⟨2, _⟩ => exact ⟨e.val, e.isLt, by simp [Rect.unit]⟩
  match h with
  | ⟨0, _⟩ => exact Or.inr (Or.inr (Or.inr (key 0 _ rfl)))
  | ⟨1, _⟩ => exact Or.inr (Or.inr (Or.inl (key 1 _ rfl)))
  | ⟨2, _⟩ => exact Or.inr (Or.inl (key 2 _ rfl))
  | ⟨3, _⟩ => exact Or.inl (key 3 _ rfl)

theorem st_canon_over (T0 T1 T2 T3 : Vec Ideal S1x64x128 .f32)
    (e0 : T0 = View.ld S (Rect.unit ![0, 0, 0] ![1, 64, 128] inb_S4x64x128_S1x64x128_0_0_0))
    (e1 : T1 = View.ld S (Rect.unit ![1, 0, 0] ![1, 64, 128] inb_S4x64x128_S1x64x128_1_0_0))
    (e2 : T2 = View.ld S (Rect.unit ![2, 0, 0] ![1, 64, 128] inb_S4x64x128_S1x64x128_2_0_0))
    (e3 : T3 = View.ld S (Rect.unit ![3, 0, 0] ![1, 64, 128] inb_S4x64x128_S1x64x128_3_0_0))
    (L : List (View.Piece (Elt Ideal) S4x64x128 .f32)) (h : Fin 4) (d : Fin 64) (e : Fin 128) :
    View.canon (stPieces kr kd v cd T0 T1 T2 T3 ++ L) (ix3 h d e) = stTile kr kd cd v S h d e :=
  (canon_over L _ _ (st_cover kr kd v cd T0 T1 T2 T3 h d e)).trans (st_canon kr kd v S cd T0 T1 T2 T3 e0 e1 e2 e3 h d e)

/-! ## The three cases of the body -/

/-- A read of the scratch after it was filled whole. -/
theorem ld_fill (Z : S4x64x128.Idx → Elt Ideal .f32) (r : Rect S4x64x128) :
    (View.whole cc0_scratch0).readCov (Val := Elt Ideal)
      [⟨Rect.unit ![0, 0, 0] ![4, 64, 128] inb_S4x64x128_S4x64x128_0_0_0, Z⟩] r.toLoadRect = View.ld Z r :=
  View.readCov_fill _ inb_S4x64x128_S4x64x128_0_0_0 Z [] r (by decide)

/-- A read of the whole scratch after stores. -/
theorem ld_whole (L : List (View.Piece (Elt Ideal) S4x64x128 .f32)) :
    (View.whole cc0_scratch0).readCov (Val := Elt Ideal) L (Rect.unit ![0, 0, 0] ![4, 64, 128] inb_S4x64x128_S4x64x128_0_0_0).toLoadRect
      = View.canon L := by
  rw [View.readCov_eq_canon']
  funext j
  refine congrArg (View.canon L) (funext fun a => Fin.ext ?_)
  match a with
  | ⟨0, _⟩ => simp [Rect.unit, Rect.toLoadRect, LoadRect.idx]
  | ⟨1, _⟩ => simp [Rect.unit, Rect.toLoadRect, LoadRect.idx]
  | ⟨2, _⟩ => simp [Rect.unit, Rect.toLoadRect, LoadRect.idx]

/-- The final state's block is the scratch with an axis of one before it. -/
theorem pay5_apply (X : Vec Ideal S4x64x128 .f32) (h : Fin 4) (d : Fin 64) (e : Fin 128) : k0_pay5 X (ix4 0 h d e) = X (ix3 h d e) := by
  pointwise [k0_pay5]

variable (m : (ℓ : Loc nD τ sig) → Buf (Elt Ideal) ℓ) (c : Dev nD) (t : Fin cfg0.N)

/-- The turned queries of point `t`. -/
def qAt : FVec Ideal S256x256 .f32 := turn (iblk m c 3 t) (iblk m c 4 t) (iblk m c 0 t)

/-- The turned keys of point `t`. -/
def kAt : FVec Ideal S256x256 .f32 := turn (iblk m c 3 t) (iblk m c 4 t) (iblk m c 1 t)

/-- The state that point `t` finds: the initial one at a sequence's first chunk, else the one the last point left. -/
def sAt : Vec Ideal S4x64x128 .f32 :=
  if t.val % 16 = 0 then k0_pay6 (iblk m c 9 t) else (outsAt0 m c (t.val - 1) (Nat.lt_of_le_of_lt (Nat.sub_le _ _) t.isLt)).2.2

theorem out_at (r : Fin 256) (h : Fin 4) (e : Fin 128) : (outsAt0 m c t.val t.isLt).1 (ix3 0 r (vlane h e))
    = outTile (qAt m c t) (kAt m c t) (iblk m c 5 t) (iblk m c 7 t) (iblk m c 2 t) (sAt m c t) r h e := by
  unfold sAt qAt kAt
  by_cases h0 : t.val % 16 = 0
  · rw [outsAt0_A m c t h0 (by omega), if_pos h0]
    dsimp only
    frame_out
    simp only [turn_q, turn_k]
    exact out_canon _ _ _ _ _ _ _ _ _ _ (ld_fill _ _) (ld_fill _ _) (ld_fill _ _) (ld_fill _ _) r h e
  · rw [if_neg h0]
    by_cases h1 : t.val % 16 = 15
    · rw [outsAt0_C m c t h0 h1]
      dsimp only
      frame_out
      simp only [turn_q, turn_k, read_unread_whole]
      exact out_canon _ _ _ _ _ _ _ _ _ _ rfl rfl rfl rfl r h e
    · rw [outsAt0_B m c t h0 h1]
      dsimp only
      frame_out
      simp only [turn_q, turn_k, read_unread_whole]
      exact out_canon _ _ _ _ _ _ _ _ _ _ rfl rfl rfl rfl r h e

theorem st_at (h : Fin 4) (d : Fin 64) (e : Fin 128) : (outsAt0 m c t.val t.isLt).2.2 (ix3 h d e)
    = stTile (kAt m c t) (iblk m c 6 t) (iblk m c 8 t) (iblk m c 2 t) (sAt m c t) h d e := by
  unfold sAt kAt
  by_cases h0 : t.val % 16 = 0
  · rw [outsAt0_A m c t h0 (by omega), if_pos h0]
    dsimp only
    frame_out
    simp only [turn_q, turn_k]
    exact st_canon_over _ _ _ _ _ _ _ _ _ (ld_fill _ _) (ld_fill _ _) (ld_fill _ _) (ld_fill _ _) [_] h d e
  · rw [if_neg h0]
    by_cases h1 : t.val % 16 = 15
    · rw [outsAt0_C m c t h0 h1]
      dsimp only
      frame_out
      simp only [turn_q, turn_k, read_unread_whole]
      exact st_canon _ _ _ _ _ _ _ _ _ rfl rfl rfl rfl h d e
    · rw [outsAt0_B m c t h0 h1]
      dsimp only
      frame_out
      simp only [turn_q, turn_k, read_unread_whole]
      exact st_canon _ _ _ _ _ _ _ _ _ rfl rfl rfl rfl h d e

/-- A sequence's last point stores the state it leaves as the final one. -/
theorem last_at (h1 : t.val % 16 = 15) (h : Fin 4) (d : Fin 64) (e : Fin 128) : (outsAt0 m c t.val t.isLt).2.1 (ix4 0 h d e)
    = stTile (kAt m c t) (iblk m c 6 t) (iblk m c 8 t) (iblk m c 2 t) (sAt m c t) h d e := by
  unfold sAt kAt
  have h0 : ¬t.val % 16 = 0 := by omega
  rw [if_neg h0, outsAt0_C m c t h0 h1]
  dsimp only
  frame_out
  simp only [turn_q, turn_k, read_unread_whole]
  refine (congrArg (fun X => k0_pay5 X (ix4 0 h d e)) (ld_whole _)).trans ?_
  rw [pay5_apply]
  exact st_canon _ _ _ _ _ _ _ _ _ rfl rfl rfl rfl h d e

end Cert.KernelIdeal.Retention
-- ==== Proof.Retention.Tables.lean ====
/- The tables the kernel reads beside its arguments, and its blocks, over the reals. -/
module

public import proofs.«01_k».proof.Proof.Retention.Block
public import proofs.«01_k».proof.Proof.Retention.Reals
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.KernelIdeal.Retention

open Cert.Proof.Retention Cert.KernelIdeal Cert.KernelIdeal.Gen Cert.KernelIdeal.Value

/-- The angles. -/
def angles : FVec Ideal S4096x32 .f32 :=
  mulf (broadcastInDim S4096x32 ![0, 1] bcast_S4096x1_S4096x32_0_1 (broadcastInDim S4096x1 ![0] bcast_S4096_S4096x1_0
      (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- A table of half a head's lanes, repeated over all lanes. -/
def tiled (x : FVec Ideal S4096x32 .f32) : FVec Ideal S4096x256 .f32 :=
  shapeCast S4096x256 (broadcastInDim S1x4096x8x32 ![0, 1, 2, 3] bcast_S1x4096x1x32_S1x4096x8x32_0_1_2_3
    (shapeCast S1x4096x1x32 x shapeCasts_S4096x32_S1x4096x1x32)) shapeCasts_S1x4096x8x32_S4096x256

/-- The logarithms of the decays. -/
def logs : FVec Ideal S4 .f32 :=
  Host.log1p (Host.negf (Host.exp (mulf (broadcastInDim S4 ![] bcast_S_S4 (constant S_ .f32 0x3F317218#32))
    (subf (broadcastInDim S4 ![] bcast_S_S4 (constant S_ .f32 0xC0A00000#32)) (sitofp .f32 (iotaInDim S4 32 0))))))

/-- A decay for each row and head, repeated over the head's lanes. -/
def heads (x : FVec Ideal S256x1 .f32) : FVec Ideal S256x256 .f32 :=
  shapeCast S256x256 (broadcastInDim S256x4x64 ![0, 1] bcast_S256x4_S256x4x64_0_1
    (Host.exp (mulf (broadcastInDim S256x4 ![0, 1] bcast_S1x4_S256x4_0_1 (broadcastInDim S1x4 ![1] bcast_S4_S1x4_1 logs))
      (broadcastInDim S256x4 ![0, 1] bcast_S256x1_S256x4_0_1 x)))) shapeCasts_S256x4x64_S256x256

/-- The rows' numbers, as a column. -/
def column : FVec Ideal S256x1 .f32 := broadcastInDim S256x1 ![0] bcast_S256_S256x1_0 (sitofp .f32 (iotaInDim S256 32 0))

/-- The rows' distances. -/
def distances : FVec Ideal S256x256 .f32 :=
  subf (broadcastInDim S256x256 ![0, 1] bcast_S256x1_S256x256_0_1 column)
    (broadcastInDim S256x256 ![0, 1] bcast_S1x256_S256x256_0_1 (broadcastInDim S1x256 ![1] bcast_S256_S1x256_1 (sitofp .f32 (iotaInDim S256 32 0))))

/-- The decays inside a chunk. -/
def inside : FVec Ideal S4x256x256 .f32 :=
  select (broadcastInDim S4x256x256 ![1, 2] bcast_S256x256_S4x256x256_1_2
      (cmpf .oge distances (broadcastInDim S256x256 ![] bcast_S_S256x256 (constant S_ .f32 0x00000000#32))))
    (Host.exp (mulf (broadcastInDim S4x256x256 ![0, 1, 2] bcast_S4x1x1_S4x256x256_0_1_2 (broadcastInDim S4x1x1 ![0] bcast_S4_S4x1x1_0 logs))
      (broadcastInDim S4x256x256 ![0, 1, 2] bcast_S1x256x256_S4x256x256_0_1_2 (broadcastInDim S1x256x256 ![1, 2] bcast_S256x256_S1x256x256_1_2
        (maximumf distances (broadcastInDim S256x256 ![] bcast_S_S256x256 (constant S_ .f32 0x00000000#32)))))))
    (broadcastInDim S4x256x256 ![] bcast_S_S4x256x256 (constant S_ .f32 0x00000000#32))

/-- A whole chunk's decays. -/
def chunkDecay : FVec Ideal S4x1x128 .f32 :=
  broadcastInDim S4x1x128 ![0, 1, 2] bcast_S4x1x1_S4x1x128_0_1_2 (broadcastInDim S4x1x1 ![0] bcast_S4_S4x1x1_0
    (Host.exp (mulf logs (broadcastInDim S4 ![] bcast_S_S4 (constant S_ .f32 0x43800000#32)))))

theorem tiled_at (X : FVec Ideal S4096x32 .f32) (t : Fin 4096) (j : Fin 256) : tiled X (ix2 t j) = X (ix2 t ⟨j.val % 32, by omega⟩) := by
  pointwise [tiled]

theorem angles_at (t : Fin 4096) (i : Fin 32) : (angles (ix2 t i) : EReal) = (angle t.val i.val : ℝ) := by
  pointwise [angles]
  rw [whole (by omega)]
  exact (congrArg _ (freq_at i.isLt)).trans (EReal.coe_mul _ _).symm

theorem cos_at (t : Fin 4096) (j : Fin 256) : (tiled (Host.cos angles) (ix2 t j) : EReal) = (Real.cos (angle t.val (j.val % 32)) : ℝ) := by
  rw [tiled_at]
  pointwise
  rw [angles_at, Ideal.cos_coe]

theorem sin_at (t : Fin 4096) (j : Fin 256) : (tiled (Host.sin angles) (ix2 t j) : EReal) = (Real.sin (angle t.val (j.val % 32)) : ℝ) := by
  rw [tiled_at]
  pointwise
  rw [angles_at, Ideal.sin_coe]

theorem logs_at (h : Fin 4) : (logs (ix1 h) : EReal) = (logDecay h.val : ℝ) := by
  pointwise [logs]
  exact logDecay_at h.isLt

theorem heads_at (X : FVec Ideal S256x1 .f32) (r : Fin 256) (h : Fin 4) (d : Fin 64) (n : ℕ) (hX : (X (ix2 r 0) : EReal) = (n : ℝ)) :
    (heads X (ix2 r (lane h d)) : EReal) = ((decay h.val ^ n : ℝ) : EReal) := by
  pointwise [heads, lane]
  rw [logs_at]
  exact pow_at h.val n hX

theorem qd_at (r : Fin 256) (h : Fin 4) (d : Fin 64) :
    (heads (addf column (broadcastInDim S256x1 ![] bcast_S_S256x1 (constant S_ .f32 0x3F800000#32))) (ix2 r (lane h d)) : EReal)
      = ((decay h.val ^ (r.val + 1) : ℝ) : EReal) := by
  refine heads_at _ r h d (r.val + 1) ?_
  pointwise [column]
  rw [whole (by omega)]
  push_cast
  rfl

theorem kd_at (r : Fin 256) (h : Fin 4) (d : Fin 64) :
    (heads (subf (broadcastInDim S256x1 ![] bcast_S_S256x1 (constant S_ .f32 0x437F0000#32)) column) (ix2 r (lane h d)) : EReal)
      = ((decay h.val ^ (256 - 1 - r.val) : ℝ) : EReal) := by
  refine heads_at _ r h d (256 - 1 - r.val) ?_
  pointwise [column]
  rw [whole (by omega), word_255]
  rw [← EReal.coe_sub, show 256 - 1 - r.val = 255 - r.val by omega, Nat.cast_sub (by omega)]
  norm_num

theorem inside_at (h : Fin 4) (i j : Fin 256) : (inside (ix3 h i j) : EReal)
    = ((if j.val ≤ i.val then decay h.val ^ (i.val - j.val) else 0 : ℝ) : EReal) := by
  pointwise [inside, distances, column]
  rw [logs_at, whole (by omega), whole (by omega)]
  exact mask_entry h.val i.val j.val rfl

theorem cd_at (h : Fin 4) (e : Fin 128) : (chunkDecay (ix3 h 0 e) : EReal) = ((decay h.val ^ 256 : ℝ) : EReal) := by
  pointwise [chunkDecay]
  rw [logs_at, word_256]
  exact pow_at h.val 256 (by norm_num)

variable (m : (ℓ : Loc nD τ sig) → Buf (Elt Ideal) ℓ) (c : Dev nD)

/-- The tables as the kernel finds them. -/
theorem tables :
    V m c main_v17 = tiled (Host.cos angles) ∧ V m c main_v21 = tiled (Host.sin angles)
    ∧ V m c main_v56 = heads (addf column (broadcastInDim S256x1 ![] bcast_S_S256x1 (constant S_ .f32 0x3F800000#32)))
    ∧ V m c main_v66 = heads (subf (broadcastInDim S256x1 ![] bcast_S_S256x1 (constant S_ .f32 0x437F0000#32)) column)
    ∧ V m c main_v46 = inside ∧ V m c main_v71 = chunkDecay
    ∧ V m c main_v0 = broadcastInDim S4x4x64x128 ![] bcast_S_S4x4x64x128 (constant (F := Ideal) S_ .f32 0x00000000#32) := by
  refine ⟨?_, ?_, ?_, ?_, ?_, ?_, ?_⟩ <;> (simp only [V]; after_reads_simp) <;> rfl

end Cert.KernelIdeal.Retention
-- ==== Proof.Retention.Blocks.lean ====
/- The kernel's blocks, entry by entry. -/
module

public import proofs.«01_k».proof.Proof.Retention.Tables

@[expose] public section

set_option maxRecDepth 16384

noncomputable section

open Idealize.ShloMosaic Idealize.ShloMosaic.TcCoe Idealize.SL.Sem Idealize.ShloMosaic.StableHlo

namespace Cert.KernelIdeal.Retention

open Cert.Proof.Retention Cert.KernelIdeal Cert.KernelIdeal.Gen Cert.KernelIdeal.Value

/-- Where the windows of the point `t` lie. -/
theorem idx_rows : ∀ t : Fin grid0.N, ((win0 0).index t 0 = t.val / 16 ∧ (win0 0).index t 1 = t.val % 16 ∧ (win0 0).index t 2 = 0)
    ∧ ((win0 1).index t 0 = t.val / 16 ∧ (win0 1).index t 1 = t.val % 16 ∧ (win0 1).index t 2 = 0)
    ∧ ((win0 2).index t 0 = t.val / 16 ∧ (win0 2).index t 1 = t.val % 16 ∧ (win0 2).index t 2 = 0)
    ∧ ((win0 3).index t 0 = t.val % 16 ∧ (win0 3).index t 1 = 0)
    ∧ ((win0 4).index t 0 = t.val % 16 ∧ (win0 4).index t 1 = 0) := by decide +kernel

theorem idx_whole : ∀ t : Fin grid0.N, ((win0 5).index t 0 = 0 ∧ (win0 5).index t 1 = 0)
    ∧ ((win0 6).index t 0 = 0 ∧ (win0 6).index t 1 = 0)
    ∧ ((win0 7).index t 0 = 0 ∧ (win0 7).index t 1 = 0 ∧ (win0 7).index t 2 = 0)
    ∧ ((win0 8).index t 0 = 0 ∧ (win0 8).index t 1 = 0 ∧ (win0 8).index t 2 = 0) := by decide +kernel

variable (m : (ℓ : Loc nD τ sig) → Buf (Elt Ideal) ℓ) (c : Dev nD) (t : Fin cfg0.N) (b : Fin 4) (i : Fin 16) (ht : t.val = 16 * b.val + i.val)

include ht in
theorem q_block (r : Fin 256) (j : Fin 256) : (iblk m c 0 t : FVec Ideal S1x256x256 .f32) (ix3 0 r j)
    = (m ((c : Thread nD τ).loc main_arg0) : FVec Ideal S4x4096x256 .f32) (ix3 b ⟨256 * i.val + r.val, by omega⟩ j) := by
  rw [← V_main_arg0 m c]
  obtain ⟨⟨a0, a1, a2⟩, ⟨b0, b1, b2⟩, ⟨c0, c1, c2⟩, _⟩ := idx_rows t
  blk_ext [iblk, a0, a1, a2]

include ht in
theorem k_block (r : Fin 256) (j : Fin 256) : (iblk m c 1 t : FVec Ideal S1x256x256 .f32) (ix3 0 r j)
    = (m ((c : Thread nD τ).loc main_arg1) : FVec Ideal S4x4096x256 .f32) (ix3 b ⟨256 * i.val + r.val, by omega⟩ j) := by
  rw [← V_main_arg1 m c]
  obtain ⟨⟨a0, a1, a2⟩, ⟨b0, b1, b2⟩, ⟨c0, c1, c2⟩, _⟩ := idx_rows t
  blk_ext [iblk, b0, b1, b2]

include ht in
theorem v_block (r : Fin 256) (j : Fin 512) : (iblk m c 2 t : FVec Ideal S1x256x512 .f32) (ix3 0 r j)
    = (m ((c : Thread nD τ).loc main_arg2) : FVec Ideal S4x4096x512 .f32) (ix3 b ⟨256 * i.val + r.val, by omega⟩ j) := by
  rw [← V_main_arg2 m c]
  obtain ⟨⟨a0, a1, a2⟩, ⟨b0, b1, b2⟩, ⟨c0, c1, c2⟩, _⟩ := idx_rows t
  blk_ext [iblk, c0, c1, c2]

include ht in
theorem cos_block (r : Fin 256) (j : Fin 256) : ((iblk m c 3 t : FVec Ideal S256x256 .f32) (ix2 r j) : EReal)
    = ((Real.cos (angle (256 * i.val + r.val) (j.val % 32)) : ℝ) : EReal) := by
  obtain ⟨_, _, _, ⟨a0, a1⟩, ⟨b0, b1⟩⟩ := idx_rows t
  refine Eq.trans (b := V m c main_v17 (ix2 ⟨256 * i.val + r.val, by omega⟩ j)) ?_ ?_
  · blk_ext [iblk, a0, a1]
  · rw [(tables m c).1]
    exact cos_at ⟨256 * i.val + r.val, by omega⟩ j

include ht in
theorem sin_block (r : Fin 256) (j : Fin 256) : ((iblk m c 4 t : FVec Ideal S256x256 .f32) (ix2 r j) : EReal)
    = ((Real.sin (angle (256 * i.val + r.val) (j.val % 32)) : ℝ) : EReal) := by
  obtain ⟨_, _, _, ⟨a0, a1⟩, ⟨b0, b1⟩⟩ := idx_rows t
  refine Eq.trans (b := V m c main_v21 (ix2 ⟨256 * i.val + r.val, by omega⟩ j)) ?_ ?_
  · blk_ext [iblk, b0, b1]
  · rw [(tables m c).2.1]
    exact sin_at ⟨256 * i.val + r.val, by omega⟩ j

theorem qd_block (r : Fin 256) (h : Fin 4) (d : Fin 64) : ((iblk m c 5 t : FVec Ideal S256x256 .f32) (ix2 r (lane h d)) : EReal)
    = ((decay h.val ^ (r.val + 1) : ℝ) : EReal) := by
  obtain ⟨⟨a0, a1⟩, ⟨b0, b1⟩, ⟨c0, c1, c2⟩, ⟨d0, d1, d2⟩⟩ := idx_whole t
  refine Eq.trans (b := V m c main_v56 (ix2 r (lane h d))) ?_ ?_
  · blk_ext [iblk, a0, a1]
  · rw [(tables m c).2.2.1]
    exact qd_at r h d

theorem kd_block (r : Fin 256) (h : Fin 4) (d : Fin 64) : ((iblk m c 6 t : FVec Ideal S256x256 .f32) (ix2 r (lane h d)) : EReal)
    = ((decay h.val ^ (256 - 1 - r.val) : ℝ) : EReal) := by
  obtain ⟨⟨a0, a1⟩, ⟨b0, b1⟩, ⟨c0, c1, c2⟩, ⟨d0, d1, d2⟩⟩ := idx_whole t
  refine Eq.trans (b := V m c main_v66 (ix2 r (lane h d))) ?_ ?_
  · blk_ext [iblk, b0, b1]
  · rw [(tables m c).2.2.2.1]
    exact kd_at r h d

theorem inside_block (h : Fin 4) (r j : Fin 256) : ((iblk m c 7 t : FVec Ideal S4x256x256 .f32) (ix3 h r j) : EReal)
    = ((if j.val ≤ r.val then decay h.val ^ (r.val - j.val) else 0 : ℝ) : EReal) := by
  obtain ⟨⟨a0, a1⟩, ⟨b0, b1⟩, ⟨c0, c1, c2⟩, ⟨d0, d1, d2⟩⟩ := idx_whole t
  refine Eq.trans (b := V m c main_v46 (ix3 h r j)) ?_ ?_
  · blk_ext [iblk, c0, c1, c2]
  · rw [(tables m c).2.2.2.2.1]
    exact inside_at h r j

theorem cd_block (h : Fin 4) (e : Fin 128) : ((iblk m c 8 t : FVec Ideal S4x1x128 .f32) (ix3 h 0 e) : EReal)
    = ((decay h.val ^ 256 : ℝ) : EReal) := by
  obtain ⟨⟨a0, a1⟩, ⟨b0, b1⟩, ⟨c0, c1, c2⟩, ⟨d0, d1, d2⟩⟩ := idx_whole t
  refine Eq.trans (b := V m c main_v71 (ix3 h 0 e)) ?_ ?_
  · blk_ext [iblk, d0, d1, d2]
  · rw [(tables m c).2.2.2.2.2.1]
    exact cd_at h e

/-- The initial state is zero. -/
theorem zero_block (h : Fin 4) (d : Fin 64) (e : Fin 128) : (k0_pay6 (iblk m c 9 t) (ix3 h d e) : EReal) = ((0 : ℝ) : EReal) := by
  refine Eq.trans (b := (iblk m c 9 t : FVec Ideal S1x4x64x128 .f32) (ix4 0 h d e)) ?_ ?_
  · pointwise [k0_pay6]
  blk_simp [iblk]
  rw [show V m c (Pipeline.arrRef spec0 9) = _ from (tables m c).2.2.2.2.2.2]
  exact Ideal.ofBits_zero_f32.trans EReal.coe_zero.symm

end Cert.KernelIdeal.Retention
-- ==== Proof.Retention.Chunk.lean ====
/- One chunk of the kernel over the reals. -/
module

public import proofs.«01_k».proof.Proof.Retention.Block
public import proofs.«01_k».proof.Proof.Retention.Reals
public import proofs.«01_k».proof.Proof.Retention.Recurrence

@[expose] public section

set_option maxRecDepth 16384

noncomputable section

open Idealize.ShloMosaic Idealize.ShloMosaic.TcCoe Idealize.SL.Sem

namespace Cert.KernelIdeal.Retention

open Cert.Proof.Retention Cert.KernelIdeal Cert.KernelIdeal.Gen Cert.KernelIdeal.Value

/-- A block of rows, turned, is the rotary of its rows. -/
theorem turn_real (co si : Vec Ideal S256x256 .f32) (X : Vec Ideal S1x256x256 .f32) (x : Fin 4 → Fin 4096 → Fin 256 → ℝ) (b : Fin 4) (i : Fin 16)
    (hco : ∀ (r j : Fin 256), (co (ix2 r j) : EReal) = ((Real.cos (angle (256 * i.val + r.val) (j.val % 32)) : ℝ) : EReal))
    (hsi : ∀ (r j : Fin 256), (si (ix2 r j) : EReal) = ((Real.sin (angle (256 * i.val + r.val) (j.val % 32)) : ℝ) : EReal))
    (hX : ∀ (r j : Fin 256), (X (ix3 0 r j) : EReal) = ((x b ⟨256 * i.val + r.val, by omega⟩ j : ℝ) : EReal))
    (r : Fin 256) (h : Fin 4) (d : Fin 64) :
    (turn co si X (ix2 r (lane h d)) : EReal) = ((turned x b h (256 * i.val + r.val) d : ℝ) : EReal) := by
  have key : (turn co si X (ix2 r (lane h d)) : EReal) = X (ix3 0 r (lane h d)) * co (ix2 r (lane h d))
      + (if (lane h d).val % 64 < 32 then 0 - X (ix3 0 r ⟨((lane h d).val + 32) % 256, Nat.mod_lt _ (by decide)⟩)
        else X (ix3 0 r ⟨((lane h d).val + 224) % 256, Nat.mod_lt _ (by decide)⟩)) * si (ix2 r (lane h d)) := rfl
  have hl : (lane h d).val = 64 * h.val + d.val := rfl
  have ha : (lane h d).val % 32 = d.val % 32 := by omega
  rw [key, hX, hco, hsi, hX, hX, ha]
  have hrow : ∀ j j' : Fin 256, j'.val = j.val → row x b (256 * i.val + r.val) j = x b ⟨256 * i.val + r.val, by omega⟩ j' :=
    fun j j' e => row_at x b ⟨256 * i.val + r.val, by omega⟩ j j' e
  unfold turned
  by_cases hd : d.val < 32
  · rw [if_pos (by omega), if_pos hd, hrow _ (lane h d) hl,
      hrow _ ⟨((lane h d).val + 32) % 256, Nat.mod_lt _ (by decide)⟩ (by simp only; omega), zero_sub]
    norm_cast
  · rw [if_neg (by omega), if_neg hd, hrow _ (lane h d) hl,
      hrow _ ⟨((lane h d).val + 224) % 256, Nat.mod_lt _ (by decide)⟩ (by simp only; omega)]
    norm_cast

variable (qr kr qd kd : FVec Ideal S256x256 .f32) (M : Vec Ideal S4x256x256 .f32) (cd : Vec Ideal S4x1x128 .f32)
  (V : Vec Ideal S1x256x512 .f32) (S : Vec Ideal S4x64x128 .f32) (g : ℝ) (q k : ℕ → Fin 64 → ℝ) (v : ℕ → ℝ) (N : ℕ) (h : Fin 4) (e : Fin 128)
  (hq : ∀ (r : Fin 256) (d : Fin 64), (qr (ix2 r (lane h d)) : EReal) = ((q (N + r.val) d : ℝ) : EReal))
  (hk : ∀ (r : Fin 256) (d : Fin 64), (kr (ix2 r (lane h d)) : EReal) = ((k (N + r.val) d : ℝ) : EReal))
  (hV : ∀ r : Fin 256, (V (ix3 0 r (vlane h e)) : EReal) = ((v (N + r.val) : ℝ) : EReal))
  (hqd : ∀ (r : Fin 256) (d : Fin 64), (qd (ix2 r (lane h d)) : EReal) = ((g ^ (r.val + 1) : ℝ) : EReal))
  (hkd : ∀ (r : Fin 256) (d : Fin 64), (kd (ix2 r (lane h d)) : EReal) = ((g ^ (256 - 1 - r.val) : ℝ) : EReal))
  (hM : ∀ r c : Fin 256, (M (ix3 h r c) : EReal) = ((if c.val ≤ r.val then g ^ (r.val - c.val) else 0 : ℝ) : EReal))
  (hcd : (cd (ix3 h 0 e) : EReal) = ((g ^ 256 : ℝ) : EReal))
  (hS : ∀ d : Fin 64, (S (ix3 h d e) : EReal) = ((state g (fun s => k s d * (1 / 8)) v N : ℝ) : EReal))

include hq hk hV hqd hM hS in
theorem out_real (r : Fin 256) : outTile qr kr qd M V S r h e
    = ((output g q (fun s d => k s d * (1 / 8)) v (N + r.val) : ℝ) : EReal) := by
  unfold outTile eighth
  rw [word_eighth]
  simp only [hq, hk, hV, hqd, hM, hS, ← EReal.coe_mul, ← coe_sum, ← EReal.coe_add]
  rw [← output_chunk g q (fun s d => k s d * (1 / 8)) v N 256 r, Finset.sum_mul]
  congr 2
  exact Finset.sum_congr rfl fun d _ => by ring

include hk hV hkd hcd hS in
theorem st_real (d : Fin 64) : stTile kr kd cd V S h d e
    = ((state g (fun s => k s d * (1 / 8)) v (N + 256) : ℝ) : EReal) := by
  unfold stTile eighth
  rw [word_eighth]
  simp only [hk, hV, hkd, hcd, hS, ← EReal.coe_mul, ← coe_sum, ← EReal.coe_add]
  rw [← state_chunk g (fun s => k s d * (1 / 8)) v N 256 (by norm_num)]

end Cert.KernelIdeal.Retention
-- ==== Proof.Retention.Sweep.lean ====
/- The kernel's results over the reals: an induction over the chunks of a sequence. -/
module

public import proofs.«01_k».proof.Proof.Retention.Blocks
public import proofs.«01_k».proof.Proof.Retention.Chunk

@[expose] public section

set_option maxRecDepth 16384

noncomputable section

open Idealize.ShloMosaic Idealize.ShloMosaic.TcCoe Idealize.SL.Sem

namespace Cert.KernelIdeal.Retention

open Cert.Proof.Retention Cert.KernelIdeal Cert.KernelIdeal.Gen Cert.KernelIdeal.Value

variable (m : (ℓ : Loc nD τ sig) → Buf (Elt Ideal) ℓ) (c : Dev nD)
  (x y : Fin 4 → Fin 4096 → Fin 256 → ℝ) (z : Fin 4 → Fin 4096 → Fin 512 → ℝ)
  (hx : ∀ b t j, ((m ((c.tc : Thread nD τ).loc main_arg0) : FVec Ideal S4x4096x256 .f32) (ix3 b t j) : EReal) = ((x b t j : ℝ) : EReal))
  (hy : ∀ b t j, ((m ((c.tc : Thread nD τ).loc main_arg1) : FVec Ideal S4x4096x256 .f32) (ix3 b t j) : EReal) = ((y b t j : ℝ) : EReal))
  (hz : ∀ b t j, ((m ((c.tc : Thread nD τ).loc main_arg2) : FVec Ideal S4x4096x512 .f32) (ix3 b t j) : EReal) = ((z b t j : ℝ) : EReal))
  (t : Fin cfg0.N) (b : Fin 4) (i : Fin 16) (ht : t.val = 16 * b.val + i.val)

include hx ht in
theorem q_real (h : Fin 4) (r : Fin 256) (d : Fin 64) :
    (qAt m c t (ix2 r (lane h d)) : EReal) = ((turned x b h (256 * i.val + r.val) d : ℝ) : EReal) :=
  turn_real _ _ _ x b i (cos_block m c t b i ht) (sin_block m c t b i ht)
    (fun r j => (q_block m c t b i ht r j).trans (hx b _ j)) r h d

include hy ht in
theorem k_real (h : Fin 4) (r : Fin 256) (d : Fin 64) :
    (kAt m c t (ix2 r (lane h d)) : EReal) = ((turned y b h (256 * i.val + r.val) d : ℝ) : EReal) :=
  turn_real _ _ _ y b i (cos_block m c t b i ht) (sin_block m c t b i ht)
    (fun r j => (k_block m c t b i ht r j).trans (hy b _ j)) r h d

include hz ht in
theorem v_real (h : Fin 4) (e : Fin 128) (r : Fin 256) :
    ((iblk m c 2 t : FVec Ideal S1x256x512 .f32) (ix3 0 r (vlane h e)) : EReal) = ((vals z b h (256 * i.val + r.val) e : ℝ) : EReal) := by
  have hl : 256 * i.val + r.val < 4096 := by omega
  refine (v_block m c t b i ht r (vlane h e)).trans ((hz b _ _).trans ?_)
  rw [vals, dif_pos hl]
  rfl

/-- The state of head `h` of sequence `b` after `n` rows. -/
def stateAt (b h : Fin 4) (n : ℕ) (d : Fin 64) (e : Fin 128) : ℝ :=
  state (decay h.val) (fun s => keys y b h s d) (fun s => vals z b h s e) n

include hy hz ht in
theorem st_step (h : Fin 4) (e : Fin 128)
    (hS : ∀ d : Fin 64, (sAt m c t (ix3 h d e) : EReal) = ((stateAt y z b h (256 * i.val) d e : ℝ) : EReal)) (d : Fin 64) :
    stTile (kAt m c t) (iblk m c 6 t) (iblk m c 8 t) (iblk m c 2 t) (sAt m c t) h d e
      = ((stateAt y z b h (256 * i.val + 256) d e : ℝ) : EReal) :=
  st_real _ _ _ _ _ (decay h.val) (turned y b h) (fun s => vals z b h s e) (256 * i.val) h e
    (k_real m c y hy t b i ht h) (v_real m c z hz t b i ht h e) (fun r d => kd_block m c t r h d) (cd_block m c t h e) hS d

include hy hz in
/-- The state a point finds. -/
theorem found (b : Fin 4) (i : ℕ) : ∀ (hi : i < 16) (t : Fin cfg0.N) (_ : t.val = 16 * b.val + i) (h : Fin 4) (d : Fin 64) (e : Fin 128),
    (sAt m c t (ix3 h d e) : EReal) = ((stateAt y z b h (256 * i) d e : ℝ) : EReal) := by
  induction i with
  | zero =>
    intro hi t ht h d e
    unfold sAt
    rw [if_pos (by omega), stateAt, state_zero]
    exact zero_block m c t h d e
  | succ i ih =>
    intro hi t ht h d e
    have hlt : t.val - 1 < cfg0.N := Nat.lt_of_le_of_lt (Nat.sub_le _ _) t.isLt
    have ht' : t.val - 1 = 16 * b.val + i := by omega
    unfold sAt
    rw [if_neg (by omega)]
    refine (st_at m c ⟨t.val - 1, hlt⟩ h d e).trans ?_
    rw [st_step m c y z hy hz ⟨t.val - 1, hlt⟩ b ⟨i, by omega⟩ ht' h e (fun d => ih (by omega) ⟨t.val - 1, hlt⟩ ht' h d e) d]
    rw [show 256 * (i + 1) = 256 * i + 256 by omega]

include hx hy hz ht in
theorem out_point (r : Fin 256) (h : Fin 4) (e : Fin 128) : ((outsAt0 m c t.val t.isLt).1 (ix3 0 r (vlane h e)) : EReal)
    = ((output (decay h.val) (turned x b h) (keys y b h) (fun s => vals z b h s e) (256 * i.val + r.val) : ℝ) : EReal) :=
  (out_at m c t r h e).trans
    (out_real _ _ _ _ _ _ (decay h.val) (turned x b h) (turned y b h) (fun s => vals z b h s e) (256 * i.val) h e
      (q_real m c x hx t b i ht h) (k_real m c y hy t b i ht h) (v_real m c z hz t b i ht h e) (fun r d => qd_block m c t r h d)
      (fun r s => inside_block m c t h r s) (fun d => found m c y z hy hz b i.val i.isLt t ht h d e) r)

include hx hy hz in
/-- The first result. -/
theorem ker_output (b : Fin 4) (t : Fin 4096) (h : Fin 4) (e : Fin 128) : (G10 m c (ix3 b t (vlane h e)) : EReal)
    = ((output (decay h.val) (turned x b h) (keys y b h) (fun s => vals z b h s e) t.val : ℝ) : EReal) := by
  have hv : (vlane h e).val = 128 * h.val + e.val := rfl
  have hp : pt10Of (ix3 b t (vlane h e)) = 16 * b.val + t.val / 256 := by
    show 16 * (b.val / 1 - 0) + 1 * (t.val / 256 - 0) + 1 * ((vlane h e).val / 512 - 0) = _
    omega
  have hN : 16 * b.val + t.val / 256 < cfg0.N := lt_of_lt_of_eq (by omega) N_0.symm
  have hl : loc10Of (ix3 b t (vlane h e)) = ix3 0 ⟨t.val % 256, by omega⟩ (vlane h e) := by
    funext a
    apply Fin.ext
    match a with
    | ⟨0, _⟩ => show b.val % 1 = 0; omega
    | ⟨1, _⟩ => rfl
    | ⟨2, _⟩ => show (vlane h e).val % 512 = (vlane h e).val; omega
  unfold G10
  rw [dif_pos (by rw [hp]; exact hN), hl, ← outsAt0_sweep m c _ (by rw [hp]; exact hN)]
  have key := out_point m c x y z hx hy hz ⟨16 * b.val + t.val / 256, hN⟩ b ⟨t.val / 256, by omega⟩ rfl ⟨t.val % 256, by omega⟩ h e
  rw [show 256 * (t.val / 256) + t.val % 256 = t.val by omega] at key
  rw [← key]
  congr 2
  simp only [hp]

include hy hz in
/-- The second result, the final state. -/
theorem ker_state (b h : Fin 4) (d : Fin 64) (e : Fin 128) : (G11 m c (ix4 b h d e) : EReal)
    = ((state (decay h.val) (fun s => keys y b h s d) (fun s => vals z b h s e) 4096 : ℝ) : EReal) := by
  have hp : pt11Of (ix4 b h d e) = 16 * b.val + 15 := by
    show 16 * (1 * (b.val / 1 - 0) + 1 * (h.val / 4 - 0) + 1 * (d.val / 64 - 0) + 1 * (e.val / 128 - 0)) + 15 = _
    omega
  have hN : 16 * b.val + 15 < cfg0.N := lt_of_lt_of_eq (by omega) N_0.symm
  have hl : loc11Of (ix4 b h d e) = ix4 0 h d e := by
    funext a
    apply Fin.ext
    match a with
    | ⟨0, _⟩ => show b.val % 1 = 0; omega
    | ⟨1, _⟩ => show h.val % 4 = h.val; omega
    | ⟨2, _⟩ => show d.val % 64 = d.val; omega
    | ⟨3, _⟩ => show e.val % 128 = e.val; omega
  unfold G11
  rw [dif_pos (by rw [hp]; exact hN), hl, ← outsAt0_sweep m c _ (by rw [hp]; exact hN)]
  have key := (last_at m c ⟨16 * b.val + 15, hN⟩ (by simp only; omega) h d e).trans
    (st_step m c y z hy hz ⟨16 * b.val + 15, hN⟩ b 15 rfl h e (fun d => found m c y z hy hz b 15 (by omega) ⟨16 * b.val + 15, hN⟩ rfl h d e) d)
  refine Eq.trans ?_ key
  congr 3
  simp only [hp]

end Cert.KernelIdeal.Retention
-- ==== Proof.Retention.Finite.lean ====
/- The precondition: every entry of the three arrays is a real number. -/
module

public import proofs.«01_k».proof.Pre_finite
public import proofs.«01_k».proof.Proof.Gen.Pre_finite
public import Idealize.ShloMosaic.Lib.Pipeline.ValueKit
public import Idealize.ShloMosaic.Lib.ReduceAll

@[expose] public section

set_option maxRecDepth 16384

noncomputable section

open Idealize.ShloMosaic Cert.Pre_finite

namespace Cert.Proof.Retention

/-- A number between the infinities is a real one. -/
theorem real_of_between (a : EReal)
    (h : IntOp.andi (FloatOps.cmpf (F := Ideal) (φ := .f32) .ogt a (Ideal.ofBits .f32 0xFF800000#32)) (FloatOps.cmpf (F := Ideal) (φ := .f32) .olt a (Ideal.ofBits .f32 0x7F800000#32)) = 1#1) :
    a = ((a.toReal : ℝ) : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [hb, ht] at h
  induction a with
  | bot => exact absurd h (by simp [Ideal.cmpf_def, Ideal.cmp, IntOp.andi])
  | top => exact absurd h (by simp [Ideal.cmpf_def, Ideal.cmp, IntOp.andi])
  | coe r => rfl

theorem andi_split (a b : BitVec 1) : IntOp.andi a b = 1#1 ↔ a = 1#1 ∧ b = 1#1 := by revert a b; decide

theorem finite_reals (q k : FVec Ideal S4x4096x256 .f32) (v : FVec Ideal S4x4096x512 .f32) (h : fn (F := Ideal) q k v = fun _ => 1#1) :
    (∀ i, (q i : EReal) = (((q i : EReal).toReal : ℝ) : EReal)) ∧ (∀ i, (k i : EReal) = (((k i : EReal).toReal : ℝ) : EReal))
      ∧ ∀ i, (v i : EReal) = (((v i : EReal).toReal : ℝ) : EReal) := by
  have : Subsingleton S_.Idx := ⟨fun a b => funext fun k => k.elim0⟩
  have e := congrFun h (fun a => a.elim0)
  have s := (andi_split _ _).1 e
  have s' := (andi_split _ _).1 s.1
  exact ⟨fun i => real_of_between _ (Host.reduce_andi_all _ _ _ _ _ s'.1 i), fun i => real_of_between _ (Host.reduce_andi_all _ _ _ _ _ s'.2 i),
    fun i => real_of_between _ (Host.reduce_andi_all _ _ _ _ _ s.2 i)⟩

end Cert.Proof.Retention
-- ==== Proof.Project.Spec.lean ====
/- The projection of a normalised row, as the sum of products it is over the extended reals. -/
module

public import proofs.«01_k».proof.Kernel2Ideal
public import Idealize.ShloMosaic.Lib.Pointwise
public import Idealize.ShloMosaic.Lib.Pipeline.ValueKit

@[expose] public section

noncomputable section

open Idealize.ShloMosaic

namespace Cert.Proof.Project

open Cert.Kernel2Ideal

/-- The factor that brings a row to root mean square one. -/
def scale (x : Fin 1024 → EReal) : EReal :=
  Ideal.rsqrt (Ideal.div (∑ k, x k * x k) (Ideal.ofBits .f32 0x44800000#32) + Ideal.ofBits .f32 0x358637BD#32)

/-- A normalised row with its gains, times a column of weights. -/
def project (x g w : Fin 1024 → EReal) : EReal := ∑ k, x k * scale x * g k * w k

variable (X : FVec Ideal S4x4096x1024 .f32) (g : FVec Ideal S1024 .f32) (W : FVec Ideal S1024x3584 .f32)

/-- Feature `j` of token `t` of sequence `b`. -/
def feature (b : Fin 4) (t : Fin 4096) (j : Fin 3584) : EReal :=
  project (fun k => X (ix3 b t k)) (fun k => g (ix1 k)) (fun k => W (ix2 k j))

/-- Feature `j` of row `r`, where the sequences' tokens are the rows, one sequence after the other. -/
def rowFeature (r : Fin 16384) (j : Fin 3584) : EReal := feature X g W ⟨r.val / 4096, by omega⟩ ⟨r.val % 4096, by omega⟩ j

/-- 512 features from `o` of every row. -/
def wide (o : ℕ) (ho : o + 512 ≤ 3584) : S16384x512.Idx → EReal := fun i => rowFeature X g W (i 0) ⟨o + (i 1).val, by have := (i 1).isLt; change _ < 512 at this; omega⟩

/-- 256 features from `o` of every row. -/
def narrow (o : ℕ) (ho : o + 256 ≤ 3584) : S16384x256.Idx → EReal := fun i => rowFeature X g W (i 0) ⟨o + (i 1).val, by have := (i 1).isLt; change _ < 256 at this; omega⟩

/-- 512 features from `o` of the last 2048 tokens of each sequence, the features first. -/
def cached (o : ℕ) (ho : o + 512 ≤ 3584) : S4x512x2048.Idx → EReal := fun i =>
  feature X g W (i 0) ⟨2048 + (i 2).val, by have := (i 2).isLt; change _ < 2048 at this; omega⟩
    ⟨o + (i 1).val, by have := (i 1).isLt; change _ < 512 at this; omega⟩

theorem rowFeature_congr {r r' : Fin 16384} {j j' : Fin 3584} (hr : r.val = r'.val) (hj : j.val = j'.val) :
    rowFeature X g W r j = rowFeature X g W r' j' := by
  rw [Fin.ext hr, Fin.ext hj]

theorem feature_congr {b b' : Fin 4} {t t' : Fin 4096} {j j' : Fin 3584} (hb : b.val = b'.val) (ht : t.val = t'.val) (hj : j.val = j'.val) :
    feature X g W b t j = feature X g W b' t' j' := by
  rw [Fin.ext hb, Fin.ext ht, Fin.ext hj]

end Cert.Proof.Project

end
-- ==== Proof.Project.Reference.lean ====
/- The reference's projections, entry by entry. -/
module

public import proofs.«01_k».proof.Proof.Gen.Reference2Ideal.Run
public import proofs.«01_k».proof.Proof.Project.Spec

@[expose] public section

set_option maxRecDepth 16384

noncomputable section

open Idealize.ShloMosaic Idealize.ShloMosaic.TcCoe Idealize.SL.Sem

namespace Cert.Reference2Ideal.Project

open Cert.Proof.Project Cert.Reference2Ideal Cert.Reference2Ideal.Gen

variable (X : FVec Ideal S4x4096x1024 .f32) (g : FVec Ideal S1024 .f32) (W : FVec Ideal S1024x3584 .f32)

/-- All the features of all the tokens. -/
def product : FVec Ideal S4x4096x3584 .f32 :=
  Host.dotGeneral dot_S4x4096x1024_S1024x3584_S4x4096x3584_2_0_01_1_n_n none
    (mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
        (Host.reduceAdd (mulf X X) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g))) W

theorem product_at (b : Fin 4) (t : Fin 4096) (j : Fin 3584) : (product X g W (ix3 b t j) : EReal) = feature X g W b t j := by
  pointwise [product]
  rfl

/-- A slice along the features. -/
theorem slice_wide (P : FVec Ideal S4x4096x3584 .f32) (o : ℕ) (ho : o + 512 ≤ 3584) (h) (b : Fin 4) (t : Fin 4096) (j : Fin 512) :
    extractStridedSlice S4x4096x512 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

theorem slice_narrow (P : FVec Ideal S4x4096x3584 .f32) (o : ℕ) (ho : o + 256 ≤ 3584) (h) (b : Fin 4) (t : Fin 4096) (j : Fin 256) :
    extractStridedSlice S4x4096x256 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

theorem rows_wide (P : FVec Ideal S4x4096x512 .f32) (r : Fin 16384) (j : Fin 512) :
    shapeCast S16384x512 P shapeCasts_S4x4096x512_S16384x512 (ix2 r j) = P (ix3 ⟨r.val / 4096, by omega⟩ ⟨r.val % 4096, by omega⟩ j) := by
  pointwise

theorem rows_narrow (P : FVec Ideal S4x4096x256 .f32) (r : Fin 16384) (j : Fin 256) :
    shapeCast S16384x256 P shapeCasts_S4x4096x256_S16384x256 (ix2 r j) = P (ix3 ⟨r.val / 4096, by omega⟩ ⟨r.val % 4096, by omega⟩ j) := by
  pointwise

theorem columns (P : FVec Ideal S4x4096x512 .f32) (b : Fin 4) (j : Fin 512) (t : Fin 2048) :
    transpose S4x512x2048 [0, 2, 1] (extractStridedSlice S4x2048x512 ![0, 2048, 0] P slices_S4x4096x512_S4x2048x512_0_2048_0)
      transposes_S4x2048x512_S4x512x2048_0_2_1 (ix3 b j t) = P (ix3 b ⟨2048 + t.val, by omega⟩ j) := by
  pointwise

/-- 512 features from `o`, as rows. -/
theorem wide_eq (o : ℕ) (ho : o + 512 ≤ 3584) (h) :
    shapeCast S16384x512 (extractStridedSlice S4x4096x512 ![0, 0, o] (product X g W) h) shapeCasts_S4x4096x512_S16384x512 = wide X g W o ho := by
  funext i
  idx_vars i
  exact (rows_wide _ _ _).trans ((slice_wide _ o ho h _ _ _).trans (product_at X g W _ _ _))

theorem narrow_eq (o : ℕ) (ho : o + 256 ≤ 3584) (h) :
    shapeCast S16384x256 (extractStridedSlice S4x4096x256 ![0, 0, o] (product X g W) h) shapeCasts_S4x4096x256_S16384x256 = narrow X g W o ho := by
  funext i
  idx_vars i
  exact (rows_narrow _ _ _).trans ((slice_narrow _ o ho h _ _ _).trans (product_at X g W _ _ _))

theorem cached_eq (o : ℕ) (ho : o + 512 ≤ 3584) (h) :
    transpose S4x512x2048 [0, 2, 1] (extractStridedSlice S4x2048x512 ![0, 2048, 0]
      (extractStridedSlice S4x4096x512 ![0, 0, o] (product X g W) h) slices_S4x4096x512_S4x2048x512_0_2048_0)
      transposes_S4x2048x512_S4x512x2048_0_2_1 = cached X g W o ho := by
  funext i
  idx_vars i
  exact (columns _ _ _ _).trans ((slice_wide _ o ho h _ _ _).trans (product_at X g W _ _ _))

end Cert.Reference2Ideal.Project

end
-- ==== Proof.Project.Payloads.lean ====
/- What the projection's body computes of a block of rows. -/
module

public import proofs.«01_k».proof.Proof.Gen.Kernel2Ideal.Value
public import proofs.«01_k».proof.Proof.Project.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel2Ideal.Project

open Cert.Proof.Project Cert.Kernel2Ideal Cert.Kernel2Ideal.Gen Cert.Kernel2Ideal.Value

section
variable (x : Vec Ideal S512x1024 .f32) (g : Vec Ideal S1x1024 .f32) (w : Vec Ideal S512x1024 .bf16) (v : Vec Ideal S256x1024 .bf16)
  (r : Fin 512) (j : Fin 512) (i : Fin 256)

/-- The projection of a block's row by a row of transposed weights. -/
def blockProject (r : Fin 512) (u : Fin 1024 → EReal) : EReal := project (fun k => x (ix2 r k)) (fun k => g (ix2 0 k)) u

theorem pay4_at : (k0_pay4 x g w (ix2 r j) : EReal) = blockProject x g r fun k => w (ix2 j k) := by
  pointwise [k0_pay4, k0_pay3]
  rfl

theorem pay5_at : (k0_pay5 x g w (ix2 r j) : EReal) = blockProject x g r fun k => w (ix2 j k) := by
  pointwise [k0_pay5, k0_pay3]
  rfl

theorem pay6_at : (k0_pay6 (k0_pay3 x g) w (ix2 r j) : EReal) = blockProject x g r fun k => w (ix2 j k) := by
  pointwise [k0_pay6, k0_pay3]
  rfl

/-- The features first: the factors of a product are the other way round. -/
theorem pay7_at : (k0_pay7 (k0_pay3 x g) w (ix3 0 j r) : EReal) = blockProject x g r fun k => w (ix2 j k) := by
  pointwise [k0_pay7, k0_pay3]
  exact Finset.sum_congr rfl fun k _ => mul_comm _ _

theorem pay8_at : (k0_pay8 (k0_pay3 x g) w (ix3 0 j r) : EReal) = blockProject x g r fun k => w (ix2 j k) := by
  pointwise [k0_pay8, k0_pay3]
  exact Finset.sum_congr rfl fun k _ => mul_comm _ _

theorem pay9_at : (k0_pay9 (k0_pay3 x g) w (ix2 r j) : EReal) = blockProject x g r fun k => w (ix2 j k) := by
  pointwise [k0_pay9, k0_pay3]
  rfl

theorem pay10_at : (k0_pay10 (k0_pay3 x g) v (ix2 r i) : EReal) = blockProject x g r fun k => v (ix2 i k) := by
  pointwise [k0_pay10, k0_pay3]
  rfl

theorem pay11_at : (k0_pay11 (k0_pay3 x g) v (ix2 r i) : EReal) = blockProject x g r fun k => v (ix2 i k) := by
  pointwise [k0_pay11, k0_pay3]
  rfl

theorem pay1_at : (k0_pay1 (k0_pay3 x g) w (ix2 r j) : EReal) = blockProject x g r fun k => w (ix2 j k) := by
  pointwise [k0_pay1, k0_pay3]
  rfl

theorem pay2_at : (k0_pay2 (k0_pay3 x g) w (ix2 r j) : EReal) = blockProject x g r fun k => w (ix2 j k) := by
  pointwise [k0_pay2, k0_pay3]
  rfl

/-- A part of the weights. -/
theorem part_wide (A : Vec Ideal S3584x1024 .bf16) (o : ℕ) (ho : o + 512 ≤ 3584) (h) (k : Fin 1024) :
    (View.ld A (Rect.unit (s := S3584x1024) ![o, 0] ![512, 1024] h) : Vec Ideal S512x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

theorem part_narrow (A : Vec Ideal S3584x1024 .bf16) (o : ℕ) (ho : o + 256 ≤ 3584) (h) (k : Fin 1024) :
    (View.ld A (Rect.unit (s := S3584x1024) ![o, 0] ![256, 1024] h) : Vec Ideal S256x1024 .bf16) (ix2 i k) = A (ix2 ⟨o + i.val, by omega⟩ k) := by
  rw [View.ld_apply]
  congr 1
  funext a
  apply Fin.ext
  match a with
  | ⟨0, _⟩ => show o + 1 * i.val = o + i.val; omega
  | ⟨1, _⟩ => show 0 + 1 * k.val = k.val; omega

end

/-- Where the windows read by the point `t` lie. -/
theorem idx_in : ∀ t : Fin grid0.N, ((win0 0).index t 0 = t.val ∧ (win0 0).index t 1 = 0)
    ∧ ((win0 1).index t 0 = 0 ∧ (win0 1).index t 1 = 0) ∧ ((win0 2).index t 0 = 0 ∧ (win0 2).index t 1 = 0) := by decide +kernel

theorem tokens_at (X : FVec Ideal S4x4096x1024 .f32) (r : Fin 16384) (k : Fin 1024) :
    shapeCast S16384x1024 X shapeCasts_S4x4096x1024_S16384x1024 (ix2 r k) = X (ix3 ⟨r.val / 4096, by omega⟩ ⟨r.val % 4096, by omega⟩ k) := by
  pointwise

theorem gains_at (g : FVec Ideal S1024 .f32) (k : Fin 1024) : shapeCast S1x1024 g shapeCasts_S1024_S1x1024 (ix2 0 k) = g (ix1 k) := by
  pointwise

theorem weights_at (W : FVec Ideal S1024x3584 .f32) (j : Fin 3584) (k : Fin 1024) :
    (truncf (F := Ideal) .bf16 (transpose S3584x1024 [1, 0] W transposes_S1024x3584_S3584x1024_1_0) bitsLt_bf16_f32 (ix2 j k) : EReal) = W (ix2 k j) := by
  pointwise

variable (m : (ℓ : Loc nD τ sig) → Buf (Elt Ideal) ℓ) (c : Dev nD) (t : Fin cfg0.N)

theorem host : V m c main_v0 = shapeCast S16384x1024 (m ((c : Thread nD τ).loc main_arg0) : FVec Ideal S4x4096x1024 .f32) shapeCasts_S4x4096x1024_S16384x1024
    ∧ V m c main_v3 = shapeCast S1x1024 (m ((c : Thread nD τ).loc main_arg1) : FVec Ideal S1024 .f32) shapeCasts_S1024_S1x1024
    ∧ V m c main_v2 = truncf (F := Ideal) .bf16 (transpose S3584x1024 [1, 0] (m ((c : Thread nD τ).loc main_arg2) : FVec Ideal S1024x3584 .f32)
        transposes_S1024x3584_S3584x1024_1_0) bitsLt_bf16_f32 := by
  refine ⟨?_, ?_, ?_⟩ <;> (simp only [V]; after_reads_simp) <;> rfl

theorem ht : t.val < 32 := lt_of_lt_of_eq t.isLt N_0

theorem x_block (r : Fin 512) (k : Fin 1024) : (iblk m c 0 t : FVec Ideal S512x1024 .f32) (ix2 r k)
    = (m ((c : Thread nD τ).loc main_arg0) : FVec Ideal S4x4096x1024 .f32) (ix3 ⟨(512 * t.val + r.val) / 4096, by have := ht t; omega⟩ ⟨(512 * t.val + r.val) % 4096, by omega⟩ k) := by
  obtain ⟨⟨a0, a1⟩, _⟩ := idx_in t
  have := ht t
  refine Eq.trans (b := V m c main_v0 (ix2 ⟨512 * t.val + r.val, by omega⟩ k)) ?_ ?_
  · blk_ext [iblk, a0, a1]
  · rw [(host m c).1]
    exact tokens_at _ _ _

theorem g_block (k : Fin 1024) : (iblk m c 1 t : FVec Ideal S1x1024 .f32) (ix2 0 k)
    = (m ((c : Thread nD τ).loc main_arg1) : FVec Ideal S1024 .f32) (ix1 k) := by
  obtain ⟨_, ⟨a0, a1⟩, _⟩ := idx_in t
  refine Eq.trans (b := V m c main_v3 (ix2 0 k)) ?_ ?_
  · blk_ext [iblk, a0, a1]
  · rw [(host m c).2.1]
    exact gains_at _ _

theorem w_block (j : Fin 3584) (k : Fin 1024) : ((iblk m c 2 t : FVec Ideal S3584x1024 .bf16) (ix2 j k) : EReal)
    = (m ((c : Thread nD τ).loc main_arg2) : FVec Ideal S1024x3584 .f32) (ix2 k j) := by
  obtain ⟨_, _, ⟨a0, a1⟩⟩ := idx_in t
  refine Eq.trans (b := V m c main_v2 (ix2 j k)) ?_ ?_
  · blk_ext [iblk, a0, a1]
  · rw [(host m c).2.2]
    exact weights_at _ _ _

/-- A point's projection of a row is that row's feature. -/
theorem point_feature (r : Fin 512) (j : Fin 3584) (u : Fin 1024 → EReal)
    (hu : ∀ k, u k = (iblk m c 2 t : FVec Ideal S3584x1024 .bf16) (ix2 j k)) :
    blockProject (iblk m c 0 t) (iblk m c 1 t) r u
      = rowFeature (m ((c : Thread nD τ).loc main_arg0)) (m ((c : Thread nD τ).loc main_arg1)) (m ((c : Thread nD τ).loc main_arg2))
        ⟨512 * t.val + r.val, by have := ht t; omega⟩ j := by
  have h0 : (fun k => (iblk m c 0 t : FVec Ideal S512x1024 .f32) (ix2 r k)) = _ := funext fun k => x_block m c t r k
  have h1 : (fun k => (iblk m c 1 t : FVec Ideal S1x1024 .f32) (ix2 0 k)) = _ := funext fun k => g_block m c t k
  have h2 : u = _ := funext fun k => (hu k).trans (w_block m c t j k)
  rw [blockProject, h0, h1, h2]
  rfl

end Cert.Kernel2Ideal.Project

end
-- ==== Proof.Project.Arrays.lean ====
/- The arrays the projection leaves. -/
module

public import proofs.«01_k».proof.Proof.Project.Payloads

@[expose] public section

set_option maxRecDepth 16384

noncomputable section

open Idealize.ShloMosaic Idealize.ShloMosaic.TcCoe Idealize.SL.Sem

namespace Cert.Kernel2Ideal.Project

open Cert.Proof.Project Cert.Kernel2Ideal Cert.Kernel2Ideal.Gen Cert.Kernel2Ideal.Value

variable (m : (ℓ : Loc nD τ sig) → Buf (Elt Ideal) ℓ) (c : Dev nD) (t : Fin cfg0.N)

/-- The arguments. -/
abbrev tokens : FVec Ideal S4x4096x1024 .f32 := m ((c : Thread nD τ).loc main_arg0)
abbrev gains : FVec Ideal S1024 .f32 := m ((c : Thread nD τ).loc main_arg1)
abbrev weights : FVec Ideal S1024x3584 .f32 := m ((c : Thread nD τ).loc main_arg2)

/-- Where the windows written by the point `t` lie. -/
theorem idx_out : ∀ t : Fin grid0.N, ((win0 3).index t 0 = t.val ∧ (win0 3).index t 1 = 0)
    ∧ ((win0 4).index t 0 = t.val ∧ (win0 4).index t 1 = 0)
    ∧ ((win0 5).index t 0 = t.val ∧ (win0 5).index t 1 = 0)
    ∧ ((win0 8).index t 0 = t.val ∧ (win0 8).index t 1 = 0)
    ∧ ((win0 9).index t 0 = t.val ∧ (win0 9).index t 1 = 0)
    ∧ ((win0 10).index t 0 = t.val ∧ (win0 10).index t 1 = 0)
    ∧ ((win0 11).index t 0 = t.val ∧ (win0 11).index t 1 = 0)
    ∧ ((win0 12).index t 0 = t.val ∧ (win0 12).index t 1 = 0) := by decide +kernel

theorem idx_cached : ∀ t : Fin grid0.N, (4 ≤ t.val % 8 →
    ((win0 6).index t 0 = t.val / 8 ∧ (win0 6).index t 1 = 0 ∧ (win0 6).index t 2 = t.val % 8 - 4)
    ∧ ((win0 7).index t 0 = t.val / 8 ∧ (win0 7).index t 1 = 0 ∧ (win0 7).index t 2 = t.val % 8 - 4)) := by decide +kernel

/-- Only the points of the second half of a sequence write the caches back. -/
theorem late : ∀ t : Fin grid0.N, ((win0 6).flush t = true → 4 ≤ t.val % 8) ∧ ((win0 7).flush t = true → 4 ≤ t.val % 8) := by decide +kernel

theorem out3 : (outsAt0 m c t.val t.isLt).1 = k0_pay4 (iblk m c 0 t) (iblk m c 1 t) (View.ld (iblk m c 2 t) (Rect.unit (s := S3584x1024) ![0, 0] ![512, 1024] inb_S3584x1024_S512x1024_0_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array3 : (dats m 0 c).arrAt 3 cfg0.N = wide (tokens m c) (gains m c) (weights m c) 0 (by omega) := by
  refine (dats m 0 c).arrAt_eq_of_covers 3 _ (by decide +kernel) fun t hf y => ?_
  blk_simp
  rw [after0_3, out3]
  obtain ⟨⟨a0, a1⟩, _, _, _, _, _, _, _⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay4_at _ _ _ r j).trans ((point_feature m c t r ⟨0 + j.val, by omega⟩ _ fun k => part_wide j (iblk m c 2 t) 0 (by omega) _ k).trans ?_)
  refine rowFeature_congr _ _ _ ?_ ?_
  · show 512 * t.val + r.val = _
    blk_simp [a0, a1]
    omega
  · show 0 + j.val = 0 + _
    blk_simp [a0, a1]

theorem out4 : (outsAt0 m c t.val t.isLt).2.1 = k0_pay5 (iblk m c 0 t) (iblk m c 1 t) (View.ld (iblk m c 2 t) (Rect.unit (s := S3584x1024) ![512, 0] ![512, 1024] inb_S3584x1024_S512x1024_512_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array4 : (dats m 0 c).arrAt 4 cfg0.N = wide (tokens m c) (gains m c) (weights m c) 512 (by omega) := by
  refine (dats m 0 c).arrAt_eq_of_covers 4 _ (by decide +kernel) fun t hf y => ?_
  blk_simp
  rw [after0_4, out4]
  obtain ⟨_, ⟨a0, a1⟩, _, _, _, _, _, _⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay5_at _ _ _ r j).trans ((point_feature m c t r ⟨512 + j.val, by omega⟩ _ fun k => part_wide j (iblk m c 2 t) 512 (by omega) _ k).trans ?_)
  refine rowFeature_congr _ _ _ ?_ ?_
  · show 512 * t.val + r.val = _
    blk_simp [a0, a1]
    omega
  · show 512 + j.val = 512 + _
    blk_simp [a0, a1]

theorem out5 : (outsAt0 m c t.val t.isLt).2.2.1 = k0_pay6 (k0_pay3 (iblk m c 0 t) (iblk m c 1 t)) (View.ld (iblk m c 2 t) (Rect.unit (s := S3584x1024) ![1024, 0] ![512, 1024] inb_S3584x1024_S512x1024_1024_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array5 : (dats m 0 c).arrAt 5 cfg0.N = wide (tokens m c) (gains m c) (weights m c) 1024 (by omega) := by
  refine (dats m 0 c).arrAt_eq_of_covers 5 _ (by decide +kernel) fun t hf y => ?_
  blk_simp
  rw [after0_5, out5]
  obtain ⟨_, _, ⟨a0, a1⟩, _, _, _, _, _⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay6_at _ _ _ r j).trans ((point_feature m c t r ⟨1024 + j.val, by omega⟩ _ fun k => part_wide j (iblk m c 2 t) 1024 (by omega) _ k).trans ?_)
  refine rowFeature_congr _ _ _ ?_ ?_
  · show 512 * t.val + r.val = _
    blk_simp [a0, a1]
    omega
  · show 1024 + j.val = 1024 + _
    blk_simp [a0, a1]

theorem out6 (h : 4 ≤ t.val % 8) : (outsAt0 m c t.val t.isLt).2.2.2.1 = k0_pay7 (k0_pay3 (iblk m c 0 t) (iblk m c 1 t)) (View.ld (iblk m c 2 t) (Rect.unit (s := S3584x1024) ![512, 0] ![512, 1024] inb_S3584x1024_S512x1024_512_0)) := by
  have h : (t.val % 8 = 4 ∨ t.val % 8 = 5 ∨ t.val % 8 = 6 ∨ t.val % 8 = 7) := by omega
  rw [outsAt0_B m c t h h]; dsimp only; frame_out; rfl

theorem array6 : (dats m 0 c).arrAt 6 cfg0.N = cached (tokens m c) (gains m c) (weights m c) 512 (by omega) := by
  refine (dats m 0 c).arrAt_eq_of_covers 6 _ (by decide +kernel) fun t hf y => ?_
  have h : 4 ≤ t.val % 8 := (late t).1 hf
  blk_simp
  rw [after0_6, out6 m c t h]
  obtain ⟨a0, a1, a2⟩ := (idx_cached t h).1
  obtain ⟨j, r, hq⟩ : ∃ (j : Fin 512) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (pay7_at _ _ _ r j).trans ((point_feature m c t r ⟨512 + j.val, by omega⟩ _ fun k => part_wide j (iblk m c 2 t) 512 (by omega) _ k).trans ?_)
  have := ht t
  refine feature_congr _ _ _ ?_ ?_ ?_
  · show (512 * t.val + r.val) / 4096 = _
    blk_simp [a0, a1, a2]
    omega
  · show (512 * t.val + r.val) % 4096 = 2048 + _
    blk_simp [a0, a1, a2]
    omega
  · blk_simp [a0, a1, a2]

theorem out7 (h : 4 ≤ t.val % 8) : (outsAt0 m c t.val t.isLt).2.2.2.2.1 = k0_pay8 (k0_pay3 (iblk m c 0 t) (iblk m c 1 t)) (View.ld (iblk m c 2 t) (Rect.unit (s := S3584x1024) ![1024, 0] ![512, 1024] inb_S3584x1024_S512x1024_1024_0)) := by
  have h : (t.val % 8 = 4 ∨ t.val % 8 = 5 ∨ t.val % 8 = 6 ∨ t.val % 8 = 7) := by omega
  rw [outsAt0_B m c t h h]; dsimp only; frame_out; rfl

theorem array7 : (dats m 0 c).arrAt 7 cfg0.N = cached (tokens m c) (gains m c) (weights m c) 1024 (by omega) := by
  refine (dats m 0 c).arrAt_eq_of_covers 7 _ (by decide +kernel) fun t hf y => ?_
  have h : 4 ≤ t.val % 8 := (late t).2 hf
  blk_simp
  rw [after0_7, out7 m c t h]
  obtain ⟨a0, a1, a2⟩ := (idx_cached t h).2
  obtain ⟨j, r, hq⟩ : ∃ (j : Fin 512) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (pay8_at _ _ _ r j).trans ((point_feature m c t r ⟨1024 + j.val, by omega⟩ _ fun k => part_wide j (iblk m c 2 t) 1024 (by omega) _ k).trans ?_)
  have := ht t
  refine feature_congr _ _ _ ?_ ?_ ?_
  · show (512 * t.val + r.val) / 4096 = _
    blk_simp [a0, a1, a2]
    omega
  · show (512 * t.val + r.val) % 4096 = 2048 + _
    blk_simp [a0, a1, a2]
    omega
  · blk_simp [a0, a1, a2]

theorem out8 : (outsAt0 m c t.val t.isLt).2.2.2.2.2.1 = k0_pay9 (k0_pay3 (iblk m c 0 t) (iblk m c 1 t)) (View.ld (iblk m c 2 t) (Rect.unit (s := S3584x1024) ![1536, 0] ![512, 1024] inb_S3584x1024_S512x1024_1536_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array8 : (dats m 0 c).arrAt 8 cfg0.N = wide (tokens m c) (gains m c) (weights m c) 1536 (by omega) := by
  refine (dats m 0 c).arrAt_eq_of_covers 8 _ (by decide +kernel) fun t hf y => ?_
  blk_simp
  rw [after0_8, out8]
  obtain ⟨_, _, _, ⟨a0, a1⟩, _, _, _, _⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay9_at _ _ _ r j).trans ((point_feature m c t r ⟨1536 + j.val, by omega⟩ _ fun k => part_wide j (iblk m c 2 t) 1536 (by omega) _ k).trans ?_)
  refine rowFeature_congr _ _ _ ?_ ?_
  · show 512 * t.val + r.val = _
    blk_simp [a0, a1]
    omega
  · show 1536 + j.val = 1536 + _
    blk_simp [a0, a1]

theorem out9 : (outsAt0 m c t.val t.isLt).2.2.2.2.2.2.1 = k0_pay10 (k0_pay3 (iblk m c 0 t) (iblk m c 1 t)) (View.ld (iblk m c 2 t) (Rect.unit (s := S3584x1024) ![2048, 0] ![256, 1024] inb_S3584x1024_S256x1024_2048_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array9 : (dats m 0 c).arrAt 9 cfg0.N = narrow (tokens m c) (gains m c) (weights m c) 2048 (by omega) := by
  refine (dats m 0 c).arrAt_eq_of_covers 9 _ (by decide +kernel) fun t hf y => ?_
  blk_simp
  rw [after0_9, out9]
  obtain ⟨_, _, _, _, ⟨a0, a1⟩, _, _, _⟩ := idx_out t
  obtain ⟨r, j, hq⟩ : ∃ (r : Fin 512) (j : Fin 256), y = ix2 r j :=
    ⟨y 0, y 1, by funext a; match a with | ⟨0, _⟩ => rfl | ⟨1, _⟩ => rfl⟩
  subst hq
  refine (pay10_at _ _ _ r j).trans ((point_feature m c t r ⟨2048 + j.val, by omega⟩ _ fun k => part_narrow j (iblk m c 2 t) 2048 (by omega) _ k).trans ?_)
  refine rowFeature_congr _ _ _ ?_ ?_
  · show 512 * t.val + r.val = _
    blk_simp [a0, a1]
    omega
  · show 2048 + j.val = 2048 + _
    blk_simp [a0, a1]

theorem out10 : (outsAt0 m c t.val t.isLt).2.2.2.2.2.2.2.1 = k0_pay11 (k0_pay3 (iblk m c 0 t) (iblk m c 1 t)) (View.ld (iblk m c 2 t) (Rect.unit (s := S3584x1024) ![2304, 0] ![256, 1024] inb_S3584x1024_S256x1024_2304_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array10 : (dats m 0 c).arrAt 10 cfg0.N = narrow (tokens m c) (gains m c) (weights m c) 2304 (by omega) := by
  refine (dats m 0 c).arrAt_eq_of_covers 10 _ (by decide +kernel) fun t hf y => ?_
  blk_simp
  rw [after0_10, out10]
  obtain ⟨_, _, _, _, _, ⟨a0, a1⟩, _, _⟩ := idx_out t
  obtain ⟨r, j, hq⟩ : ∃ (r : Fin 512) (j : Fin 256), y = ix2 r j :=
    ⟨y 0, y 1, by funext a; match a with | ⟨0, _⟩ => rfl | ⟨1, _⟩ => rfl⟩
  subst hq
  refine (pay11_at _ _ _ r j).trans ((point_feature m c t r ⟨2304 + j.val, by omega⟩ _ fun k => part_narrow j (iblk m c 2 t) 2304 (by omega) _ k).trans ?_)
  refine rowFeature_congr _ _ _ ?_ ?_
  · show 512 * t.val + r.val = _
    blk_simp [a0, a1]
    omega
  · show 2304 + j.val = 2304 + _
    blk_simp [a0, a1]

theorem out11 : (outsAt0 m c t.val t.isLt).2.2.2.2.2.2.2.2.1 = k0_pay1 (k0_pay3 (iblk m c 0 t) (iblk m c 1 t)) (View.ld (iblk m c 2 t) (Rect.unit (s := S3584x1024) ![2560, 0] ![512, 1024] inb_S3584x1024_S512x1024_2560_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array11 : (dats m 0 c).arrAt 11 cfg0.N = wide (tokens m c) (gains m c) (weights m c) 2560 (by omega) := by
  refine (dats m 0 c).arrAt_eq_of_covers 11 _ (by decide +kernel) fun t hf y => ?_
  blk_simp
  rw [after0_11, out11]
  obtain ⟨_, _, _, _, _, _, ⟨a0, a1⟩, _⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay1_at _ _ _ r j).trans ((point_feature m c t r ⟨2560 + j.val, by omega⟩ _ fun k => part_wide j (iblk m c 2 t) 2560 (by omega) _ k).trans ?_)
  refine rowFeature_congr _ _ _ ?_ ?_
  · show 512 * t.val + r.val = _
    blk_simp [a0, a1]
    omega
  · show 2560 + j.val = 2560 + _
    blk_simp [a0, a1]

theorem out12 : (outsAt0 m c t.val t.isLt).2.2.2.2.2.2.2.2.2 = k0_pay2 (k0_pay3 (iblk m c 0 t) (iblk m c 1 t)) (View.ld (iblk m c 2 t) (Rect.unit (s := S3584x1024) ![3072, 0] ![512, 1024] inb_S3584x1024_S512x1024_3072_0)) := by
  by_cases h : (t.val % 8 = 4 ∨ t.val % 8 = 5 ∨ t.val % 8 = 6 ∨ t.val % 8 = 7)
  · rw [outsAt0_B m c t h h]; dsimp only; frame_out; rfl
  · rw [outsAt0_A m c t h h]; dsimp only; frame_out; rfl

theorem array12 : (dats m 0 c).arrAt 12 cfg0.N = wide (tokens m c) (gains m c) (weights m c) 3072 (by omega) := by
  refine (dats m 0 c).arrAt_eq_of_covers 12 _ (by decide +kernel) fun t hf y => ?_
  blk_simp
  rw [after0_12, out12]
  obtain ⟨_, _, _, _, _, _, _, ⟨a0, a1⟩⟩ := idx_out t
  obtain ⟨r, j, hq⟩ : ∃ (r : Fin 512) (j : Fin 512), y = ix2 r j :=
    ⟨y 0, y 1, by funext a; match a with | ⟨0, _⟩ => rfl | ⟨1, _⟩ => rfl⟩
  subst hq
  refine (pay2_at _ _ _ r j).trans ((point_feature m c t r ⟨3072 + j.val, by omega⟩ _ fun k => part_wide j (iblk m c 2 t) 3072 (by omega) _ k).trans ?_)
  refine rowFeature_congr _ _ _ ?_ ?_
  · show 512 * t.val + r.val = _
    blk_simp [a0, a1]
    omega
  · show 3072 + j.val = 3072 + _
    blk_simp [a0, a1]

end Cert.Kernel2Ideal.Project

end
-- ==== Proof.ProjectOdd.Spec.lean ====
/- The odd layer's projection, feature by feature. -/
module

public import proofs.«01_k».proof.Kernel3Ideal
public import proofs.«01_k».proof.Proof.Project.Spec

@[expose] public section

noncomputable section

open Idealize.ShloMosaic

namespace Cert.Proof.ProjectOdd

open Cert.Proof.Project (project)
open Cert.Kernel3Ideal

variable (X : FVec Ideal S4x4096x1024 .f32) (g : FVec Ideal S1024 .f32) (W : FVec Ideal S1024x2864 .f32)

/-- Feature `j` of token `t` of sequence `b`. -/
def feature (b : Fin 4) (t : Fin 4096) (j : Fin 2864) : EReal :=
  project (fun k => X (ix3 b t k)) (fun k => g (ix1 k)) (fun k => W (ix2 k j))

/-- Feature `j` of row `r`, where the sequences' tokens are the rows, one sequence after the other. -/
def rowFeature (r : Fin 16384) (j : Fin 2864) : EReal := feature X g W ⟨r.val / 4096, by omega⟩ ⟨r.val % 4096, by omega⟩ j

/-- 1024 features from `o` of every row. -/
def rows1024 (o : ℕ) (ho : o + 1024 ≤ 2864) : S16384x1024.Idx → EReal := fun i =>
  rowFeature X g W (i 0) ⟨o + (i 1).val, by have := (i 1).isLt; change _ < 1024 at this; omega⟩

/-- 128 features from `o` of every row. -/
def rows128 (o : ℕ) (ho : o + 128 ≤ 2864) : S16384x128.Idx → EReal := fun i =>
  rowFeature X g W (i 0) ⟨o + (i 1).val, by have := (i 1).isLt; change _ < 128 at this; omega⟩

/-- 128 features from `o` of every token, the features first. -/
def cols128 (o : ℕ) (ho : o + 128 ≤ 2864) : S4x128x4096.Idx → EReal := fun i =>
  feature X g W (i 0) (i 2) ⟨o + (i 1).val, by have := (i 1).isLt; change _ < 128 at this; omega⟩

/-- 48 features from `o` of every token, the features first. -/
def cols48 (o : ℕ) (ho : o + 48 ≤ 2864) : S4x48x4096.Idx → EReal := fun i =>
  feature X g W (i 0) (i 2) ⟨o + (i 1).val, by have := (i 1).isLt; change _ < 48 at this; omega⟩

/-- 128 features from `o` of the last 512 tokens of each sequence, the features first. -/
def last128 (o : ℕ) (ho : o + 128 ≤ 2864) : S4x128x512.Idx → EReal := fun i =>
  feature X g W (i 0) ⟨3584 + (i 2).val, by have := (i 2).isLt; change _ < 512 at this; omega⟩
    ⟨o + (i 1).val, by have := (i 1).isLt; change _ < 128 at this; omega⟩

theorem rowFeature_congr {r r' : Fin 16384} {j j' : Fin 2864} (hr : r.val = r'.val) (hj : j.val = j'.val) :
    rowFeature X g W r j = rowFeature X g W r' j' := by
  rw [Fin.ext hr, Fin.ext hj]

theorem feature_congr {b b' : Fin 4} {t t' : Fin 4096} {j j' : Fin 2864} (hb : b.val = b'.val) (ht : t.val = t'.val) (hj : j.val = j'.val) :
    feature X g W b t j = feature X g W b' t' j' := by
  rw [Fin.ext hb, Fin.ext ht, Fin.ext hj]

end Cert.Proof.ProjectOdd

end
-- ==== Proof.ProjectOdd.Reference.lean ====
/- The reference's odd layer's projection, entry by entry. -/
module

public import proofs.«01_k».proof.Proof.Gen.Reference3Ideal.Run
public import proofs.«01_k».proof.Proof.ProjectOdd.Spec

@[expose] public section

set_option maxRecDepth 16384

noncomputable section

open Idealize.ShloMosaic Idealize.ShloMosaic.TcCoe Idealize.SL.Sem

namespace Cert.Reference3Ideal.Project

open Cert.Proof.ProjectOdd Cert.Reference3Ideal Cert.Reference3Ideal.Gen

variable (X : FVec Ideal S4x4096x1024 .f32) (g : FVec Ideal S1024 .f32) (W : FVec Ideal S1024x2864 .f32)

/-- All the features of all the tokens. -/
def product : FVec Ideal S4x4096x2864 .f32 :=
  Host.dotGeneral dot_S4x4096x1024_S1024x2864_S4x4096x2864_2_0_01_1_n_n none
    (mulf (mulf X (broadcastInDim S4x4096x1024 ![0, 1, 2] bcast_S4x4096x1_S4x4096x1024_0_1_2
      (Host.rsqrt (addf (Host.divf (broadcastInDim S4x4096x1 ![0, 1] bcast_S4x4096_S4x4096x1_0_1
        (Host.reduceAdd (mulf X X) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2 (broadcastInDim S1x1x1024 ![2] bcast_S1024_S1x1x1024_2 g))) W

theorem product_at (b : Fin 4) (t : Fin 4096) (j : Fin 2864) : (product X g W (ix3 b t j) : EReal) = feature X g W b t j := by
  pointwise [product]
  rfl

/-- 1024 features from `o`. -/
theorem slice1024 (P : FVec Ideal S4x4096x2864 .f32) (o : ℕ) (ho : o + 1024 ≤ 2864) (h) (b : Fin 4) (t : Fin 4096) (j : Fin 1024) :
    extractStridedSlice S4x4096x1024 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 128 features from `o`. -/
theorem slice128 (P : FVec Ideal S4x4096x2864 .f32) (o : ℕ) (ho : o + 128 ≤ 2864) (h) (b : Fin 4) (t : Fin 4096) (j : Fin 128) :
    extractStridedSlice S4x4096x128 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 48 features from `o`. -/
theorem slice48 (P : FVec Ideal S4x4096x2864 .f32) (o : ℕ) (ho : o + 48 ≤ 2864) (h) (b : Fin 4) (t : Fin 4096) (j : Fin 48) :
    extractStridedSlice S4x4096x48 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 1024 features as rows. -/
theorem flat1024 (P : FVec Ideal S4x4096x1024 .f32) (r : Fin 16384) (j : Fin 1024) :
    shapeCast S16384x1024 P shapeCasts_S4x4096x1024_S16384x1024 (ix2 r j) = P (ix3 ⟨r.val / 4096, by omega⟩ ⟨r.val % 4096, by omega⟩ j) := by
  pointwise

theorem rows1024_eq (o : ℕ) (ho : o + 1024 ≤ 2864) (h) :
    shapeCast S16384x1024 (extractStridedSlice S4x4096x1024 ![0, 0, o] (product X g W) h) shapeCasts_S4x4096x1024_S16384x1024 = rows1024 X g W o ho := by
  funext i
  idx_vars i
  exact (flat1024 _ _ _).trans ((slice1024 _ o ho h _ _ _).trans (product_at X g W _ _ _))

/-- 128 features as rows. -/
theorem flat128 (P : FVec Ideal S4x4096x128 .f32) (r : Fin 16384) (j : Fin 128) :
    shapeCast S16384x128 P shapeCasts_S4x4096x128_S16384x128 (ix2 r j) = P (ix3 ⟨r.val / 4096, by omega⟩ ⟨r.val % 4096, by omega⟩ j) := by
  pointwise

theorem rows128_eq (o : ℕ) (ho : o + 128 ≤ 2864) (h) :
    shapeCast S16384x128 (extractStridedSlice S4x4096x128 ![0, 0, o] (product X g W) h) shapeCasts_S4x4096x128_S16384x128 = rows128 X g W o ho := by
  funext i
  idx_vars i
  exact (flat128 _ _ _).trans ((slice128 _ o ho h _ _ _).trans (product_at X g W _ _ _))

/-- 128 features of every token, the features first. -/
theorem turned128 (P : FVec Ideal S4x4096x128 .f32) (b : Fin 4) (j : Fin 128) (t : Fin 4096) :
    transpose S4x128x4096 [0, 2, 1] P transposes_S4x4096x128_S4x128x4096_0_2_1 (ix3 b j t) = P (ix3 b t j) := by
  pointwise

theorem cols128_eq (o : ℕ) (ho : o + 128 ≤ 2864) (h) :
    transpose S4x128x4096 [0, 2, 1] (extractStridedSlice S4x4096x128 ![0, 0, o] (product X g W) h)
      transposes_S4x4096x128_S4x128x4096_0_2_1 = cols128 X g W o ho := by
  funext i
  idx_vars i
  exact (turned128 _ _ _ _).trans ((slice128 _ o ho h _ _ _).trans (product_at X g W _ _ _))

/-- 48 features of every token, the features first. -/
theorem turned48 (P : FVec Ideal S4x4096x48 .f32) (b : Fin 4) (j : Fin 48) (t : Fin 4096) :
    transpose S4x48x4096 [0, 2, 1] P transposes_S4x4096x48_S4x48x4096_0_2_1 (ix3 b j t) = P (ix3 b t j) := by
  pointwise

theorem cols48_eq (o : ℕ) (ho : o + 48 ≤ 2864) (h) :
    transpose S4x48x4096 [0, 2, 1] (extractStridedSlice S4x4096x48 ![0, 0, o] (product X g W) h)
      transposes_S4x4096x48_S4x48x4096_0_2_1 = cols48 X g W o ho := by
  funext i
  idx_vars i
  exact (turned48 _ _ _ _).trans ((slice48 _ o ho h _ _ _).trans (product_at X g W _ _ _))

/-- 128 features of the last 512 tokens, the features first. -/
theorem ended128 (P : FVec Ideal S4x4096x128 .f32) (b : Fin 4) (j : Fin 128) (t : Fin 512) :
    transpose S4x128x512 [0, 2, 1] (extractStridedSlice S4x512x128 ![0, 3584, 0] P slices_S4x4096x128_S4x512x128_0_3584_0)
      transposes_S4x512x128_S4x128x512_0_2_1 (ix3 b j t) = P (ix3 b ⟨3584 + t.val, by omega⟩ j) := by
  pointwise

theorem last128_eq (o : ℕ) (ho : o + 128 ≤ 2864) (h) :
    transpose S4x128x512 [0, 2, 1] (extractStridedSlice S4x512x128 ![0, 3584, 0]
      (extractStridedSlice S4x4096x128 ![0, 0, o] (product X g W) h) slices_S4x4096x128_S4x512x128_0_3584_0)
      transposes_S4x512x128_S4x128x512_0_2_1 = last128 X g W o ho := by
  funext i
  idx_vars i
  exact (ended128 _ _ _ _).trans ((slice128 _ o ho h _ _ _).trans (product_at X g W _ _ _))

end Cert.Reference3Ideal.Project

end
-- ==== Proof.ProjectOdd.Payloads.lean ====
/- What the odd layer's projection computes of a block of rows. -/
module

public import proofs.«01_k».proof.Proof.Gen.Kernel3Ideal.Value
public import proofs.«01_k».proof.Proof.ProjectOdd.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel3Ideal.Project

open Cert.Proof.Project (project)
open Cert.Proof.ProjectOdd Cert.Kernel3Ideal Cert.Kernel3Ideal.Gen Cert.Kernel3Ideal.Value

section
variable (x : Vec Ideal S512x1024 .f32) (g : Vec Ideal S1x1024 .f32) (r : Fin 512)

/-- The projection of a block's row by a row of transposed weights. -/
def blockProject (u : Fin 1024 → EReal) : EReal := project (fun k => x (ix2 r k)) (fun k => g (ix2 0 k)) u

theorem stored3 (w : Vec Ideal S1024x1024 .bf16) (j : Fin 1024) : (k0_pay2 x g w (ix2 r j) : EReal) = blockProject x g r fun k => w (ix2 j k) := by
  pointwise [k0_pay2, k0_pay1]
  rfl

theorem stored4 (w : Vec Ideal S128x1024 .bf16) (j : Fin 128) : (k0_pay3 x g w (ix2 r j) : EReal) = blockProject x g r fun k => w (ix2 j k) := by
  pointwise [k0_pay3, k0_pay1]
  rfl

theorem stored5 (w : Vec Ideal S128x1024 .bf16) (j : Fin 128) : (k0_pay4 (k0_pay1 x g) w (ix3 0 j r) : EReal) = blockProject x g r fun k => w (ix2 j k) := by
  pointwise [k0_pay4, k0_pay1]
  exact Finset.sum_congr rfl fun k _ => mul_comm _ _

theorem stored6 (w : Vec Ideal S128x1024 .bf16) (j : Fin 128) : (k0_pay5 (k0_pay1 x g) w (ix2 r j) : EReal) = blockProject x g r fun k => w (ix2 j k) := by
  pointwise [k0_pay5, k0_pay1]
  rfl

theorem stored7 (w : Vec Ideal S128x1024 .bf16) (j : Fin 128) : (k0_pay6 (k0_pay1 x g) w (ix3 0 j r) : EReal) = blockProject x g r fun k => w (ix2 j k) := by
  pointwise [k0_pay6, k0_pay1]
  exact Finset.sum_congr rfl fun k _ => mul_comm _ _

theorem stored9 (w : Vec Ideal S128x1024 .bf16) (j : Fin 128) : (k0_pay13 (k0_pay1 x g) w (ix3 0 j r) : EReal) = blockProject x g r fun k => w (ix2 j k) := by
  pointwise [k0_pay13, k0_pay1]
  exact Finset.sum_congr rfl fun k _ => mul_comm _ _

theorem stored10 (w : Vec Ideal S128x1024 .bf16) (j : Fin 128) : (k0_pay15 (k0_pay1 x g) w (ix3 0 j r) : EReal) = blockProject x g r fun k => w (ix2 j k) := by
  pointwise [k0_pay15, k0_pay14, k0_pay1]
  exact Finset.sum_congr rfl fun k _ => mul_comm _ _

theorem stored11 (w : Vec Ideal S128x1024 .bf16) (j : Fin 128) : (k0_pay16 (k0_pay1 x g) w (ix3 0 j r) : EReal) = blockProject x g r fun k => w (ix2 j k) := by
  pointwise [k0_pay16, k0_pay14, k0_pay1]
  exact Finset.sum_congr rfl fun k _ => mul_comm _ _

theorem stored12 (w : Vec Ideal S128x1024 .bf16) (j : Fin 128) : (k0_pay18 (k0_pay1 x g) (k0_pay17 w) (constant S512x128 .f32 0x00000000#32) (ix2 r j) : EReal) = blockProject x g r fun k => w (ix2 j k) := by
  pointwise [k0_pay18, k0_pay17, k0_pay1]
  rfl

theorem stored13 (w : Vec Ideal S128x1024 .bf16) (j : Fin 128) : (k0_pay19 (k0_pay1 x g) w (ix3 0 j r) : EReal) = blockProject x g r fun k => w (ix2 j k) := by
  pointwise [k0_pay19, k0_pay1]
  exact Finset.sum_congr rfl fun k _ => mul_comm _ _

theorem stored14 (w : Vec Ideal S128x1024 .bf16) (j : Fin 128) : (k0_pay20 (k0_pay1 x g) w (ix3 0 j r) : EReal) = blockProject x g r fun k => w (ix2 j k) := by
  pointwise [k0_pay20, k0_pay1]
  exact Finset.sum_congr rfl fun k _ => mul_comm _ _

theorem stored15 (w : Vec Ideal S128x1024 .bf16) (j : Fin 128) : (k0_pay21 (k0_pay1 x g) w (ix3 0 j r) : EReal) = blockProject x g r fun k => w (ix2 j k) := by
  pointwise [k0_pay21, k0_pay1]
  exact Finset.sum_congr rfl fun k _ => mul_comm _ _

theorem stored16 (w : Vec Ideal S48x1024 .bf16) (j : Fin 48) : (k0_pay22 (k0_pay1 x g) w (ix3 0 j r) : EReal) = blockProject x g r fun k => w (ix2 j k) := by
  pointwise [k0_pay22, k0_pay1]
  exact Finset.sum_congr rfl fun k _ => mul_comm _ _

theorem stored17 (w : Vec Ideal S1024x1024 .bf16) (j : Fin 1024) : (k0_pay23 (k0_pay1 x g) w (ix2 r j) : EReal) = blockProject x g r fun k => w (ix2 j k) := by
  pointwise [k0_pay23, k0_pay1]
  rfl

/-- A part of 1024 rows of the weights. -/
theorem part1024 (A : Vec Ideal S2864x1024 .bf16) (o : ℕ) (ho : o + 1024 ≤ 2864) (h) (j : Fin 1024) (k : Fin 1024) :
    (View.ld A (Rect.unit (s := S2864x1024) ![o, 0] ![1024, 1024] h) : Vec Ideal S1024x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

/-- A part of 128 rows of the weights. -/
theorem part128 (A : Vec Ideal S2864x1024 .bf16) (o : ℕ) (ho : o + 128 ≤ 2864) (h) (j : Fin 128) (k : Fin 1024) :
    (View.ld A (Rect.unit (s := S2864x1024) ![o, 0] ![128, 1024] h) : Vec Ideal S128x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

/-- A part of 48 rows of the weights. -/
theorem part48 (A : Vec Ideal S2864x1024 .bf16) (o : ℕ) (ho : o + 48 ≤ 2864) (h) (j : Fin 48) (k : Fin 1024) :
    (View.ld A (Rect.unit (s := S2864x1024) ![o, 0] ![48, 1024] h) : Vec Ideal S48x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

end

/-- Where the windows read by the point `t` lie. -/
theorem idx_in : ∀ t : Fin grid0.N, ((win0 0).index t 0 = t.val ∧ (win0 0).index t 1 = 0)
    ∧ ((win0 1).index t 0 = 0 ∧ (win0 1).index t 1 = 0) ∧ ((win0 2).index t 0 = 0 ∧ (win0 2).index t 1 = 0) := by decide +kernel

theorem tokens_at (X : FVec Ideal S4x4096x1024 .f32) (r : Fin 16384) (k : Fin 1024) :
    shapeCast S16384x1024 X shapeCasts_S4x4096x1024_S16384x1024 (ix2 r k) = X (ix3 ⟨r.val / 4096, by omega⟩ ⟨r.val % 4096, by omega⟩ k) := by
  pointwise

theorem gains_at (g : FVec Ideal S1024 .f32) (k : Fin 1024) : shapeCast S1x1024 g shapeCasts_S1024_S1x1024 (ix2 0 k) = g (ix1 k) := by
  pointwise

theorem weights_at (W : FVec Ideal S1024x2864 .f32) (j : Fin 2864) (k : Fin 1024) :
    (truncf (F := Ideal) .bf16 (transpose S2864x1024 [1, 0] W transposes_S1024x2864_S2864x1024_1_0) bitsLt_bf16_f32 (ix2 j k) : EReal) = W (ix2 k j) := by
  pointwise

variable (m : (ℓ : Loc nD τ sig) → Buf (Elt Ideal) ℓ) (c : Dev nD) (t : Fin cfg0.N)

theorem host : V m c main_v0 = shapeCast S16384x1024 (m ((c : Thread nD τ).loc main_arg0) : FVec Ideal S4x4096x1024 .f32) shapeCasts_S4x4096x1024_S16384x1024
    ∧ V m c main_v3 = shapeCast S1x1024 (m ((c : Thread nD τ).loc main_arg1) : FVec Ideal S1024 .f32) shapeCasts_S1024_S1x1024
    ∧ V m c main_v2 = truncf (F := Ideal) .bf16 (transpose S2864x1024 [1, 0] (m ((c : Thread nD τ).loc main_arg2) : FVec Ideal S1024x2864 .f32)
        transposes_S1024x2864_S2864x1024_1_0) bitsLt_bf16_f32 := by
  refine ⟨?_, ?_, ?_⟩ <;> (simp only [V]; after_reads_simp) <;> rfl

theorem ht : t.val < 32 := lt_of_lt_of_eq t.isLt N_0

theorem x_block (r : Fin 512) (k : Fin 1024) : (iblk m c 0 t : FVec Ideal S512x1024 .f32) (ix2 r k)
    = (m ((c : Thread nD τ).loc main_arg0) : FVec Ideal S4x4096x1024 .f32) (ix3 ⟨(512 * t.val + r.val) / 4096, by have := ht t; omega⟩ ⟨(512 * t.val + r.val) % 4096, by omega⟩ k) := by
  obtain ⟨⟨a0, a1⟩, _⟩ := idx_in t
  have := ht t
  refine Eq.trans (b := V m c main_v0 (ix2 ⟨512 * t.val + r.val, by omega⟩ k)) ?_ ?_
  · blk_ext [iblk, a0, a1]
  · rw [(host m c).1]
    exact tokens_at _ _ _

theorem g_block (k : Fin 1024) : (iblk m c 1 t : FVec Ideal S1x1024 .f32) (ix2 0 k)
    = (m ((c : Thread nD τ).loc main_arg1) : FVec Ideal S1024 .f32) (ix1 k) := by
  obtain ⟨_, ⟨a0, a1⟩, _⟩ := idx_in t
  refine Eq.trans (b := V m c main_v3 (ix2 0 k)) ?_ ?_
  · blk_ext [iblk, a0, a1]
  · rw [(host m c).2.1]
    exact gains_at _ _

theorem w_block (j : Fin 2864) (k : Fin 1024) : ((iblk m c 2 t : FVec Ideal S2864x1024 .bf16) (ix2 j k) : EReal)
    = (m ((c : Thread nD τ).loc main_arg2) : FVec Ideal S1024x2864 .f32) (ix2 k j) := by
  obtain ⟨_, _, ⟨a0, a1⟩⟩ := idx_in t
  refine Eq.trans (b := V m c main_v2 (ix2 j k)) ?_ ?_
  · blk_ext [iblk, a0, a1]
  · rw [(host m c).2.2]
    exact weights_at _ _ _

/-- A point's projection of a row is that row's feature. -/
theorem point_feature (r : Fin 512) (j : Fin 2864) (u : Fin 1024 → EReal)
    (hu : ∀ k, u k = (iblk m c 2 t : FVec Ideal S2864x1024 .bf16) (ix2 j k)) :
    blockProject (iblk m c 0 t) (iblk m c 1 t) r u
      = rowFeature (m ((c : Thread nD τ).loc main_arg0)) (m ((c : Thread nD τ).loc main_arg1)) (m ((c : Thread nD τ).loc main_arg2))
        ⟨512 * t.val + r.val, by have := ht t; omega⟩ j := by
  have h0 : (fun k => (iblk m c 0 t : FVec Ideal S512x1024 .f32) (ix2 r k)) = _ := funext fun k => x_block m c t r k
  have h1 : (fun k => (iblk m c 1 t : FVec Ideal S1x1024 .f32) (ix2 0 k)) = _ := funext fun k => g_block m c t k
  have h2 : u = _ := funext fun k => (hu k).trans (w_block m c t j k)
  rw [blockProject, h0, h1, h2]
  rfl

end Cert.Kernel3Ideal.Project

end
-- ==== Proof.ProjectOdd.Arrays.lean ====
/- The arrays the odd layer's projection leaves. -/
module

public import proofs.«01_k».proof.Proof.ProjectOdd.Payloads

@[expose] public section

set_option maxRecDepth 16384

noncomputable section

open Idealize.ShloMosaic Idealize.ShloMosaic.TcCoe Idealize.SL.Sem

namespace Cert.Kernel3Ideal.Project

open Cert.Proof.ProjectOdd Cert.Kernel3Ideal Cert.Kernel3Ideal.Gen Cert.Kernel3Ideal.Value

variable (m : (ℓ : Loc nD τ sig) → Buf (Elt Ideal) ℓ) (c : Dev nD) (t : Fin cfg0.N)

/-- The arguments. -/
abbrev tokens : FVec Ideal S4x4096x1024 .f32 := m ((c : Thread nD τ).loc main_arg0)
abbrev gains : FVec Ideal S1024 .f32 := m ((c : Thread nD τ).loc main_arg1)
abbrev weights : FVec Ideal S1024x2864 .f32 := m ((c : Thread nD τ).loc main_arg2)

/-- Where the windows of rows written by the point `t` lie. -/
theorem idx_rows : ∀ t : Fin grid0.N, ((win0 3).index t 0 = t.val ∧ (win0 3).index t 1 = 0)
    ∧ ((win0 4).index t 0 = t.val ∧ (win0 4).index t 1 = 0)
    ∧ ((win0 6).index t 0 = t.val ∧ (win0 6).index t 1 = 0)
    ∧ ((win0 12).index t 0 = t.val ∧ (win0 12).index t 1 = 0)
    ∧ ((win0 17).index t 0 = t.val ∧ (win0 17).index t 1 = 0) := by decide +kernel

theorem idx_cols : ∀ t : Fin grid0.N, ((win0 5).index t 0 = t.val / 8 ∧ (win0 5).index t 1 = 0 ∧ (win0 5).index t 2 = t.val % 8)
    ∧ ((win0 7).index t 0 = t.val / 8 ∧ (win0 7).index t 1 = 0 ∧ (win0 7).index t 2 = t.val % 8)
    ∧ ((win0 9).index t 0 = t.val / 8 ∧ (win0 9).index t 1 = 0 ∧ (win0 9).index t 2 = t.val % 8)
    ∧ ((win0 10).index t 0 = t.val / 8 ∧ (win0 10).index t 1 = 0 ∧ (win0 10).index t 2 = t.val % 8)
    ∧ ((win0 11).index t 0 = t.val / 8 ∧ (win0 11).index t 1 = 0 ∧ (win0 11).index t 2 = t.val % 8)
    ∧ ((win0 14).index t 0 = t.val / 8 ∧ (win0 14).index t 1 = 0 ∧ (win0 14).index t 2 = t.val % 8)
    ∧ ((win0 16).index t 0 = t.val / 8 ∧ (win0 16).index t 1 = 0 ∧ (win0 16).index t 2 = t.val % 8) := by decide +kernel

theorem idx_last : ∀ t : Fin grid0.N, t.val % 8 = 7 → ((win0 13).index t 0 = t.val / 8 ∧ (win0 13).index t 1 = 0 ∧ (win0 13).index t 2 = 0)
    ∧ ((win0 15).index t 0 = t.val / 8 ∧ (win0 15).index t 1 = 0 ∧ (win0 15).index t 2 = 0) := by decide +kernel

theorem out3 : (outsAt0 m c t.val t.isLt).1 = k0_pay2 (iblk m c 0 t) (iblk m c 1 t) (View.ld (iblk m c 2 t) (Rect.unit (s := S2864x1024) ![0, 0] ![1024, 1024] inb_S2864x1024_S1024x1024_0_0)) := by
  by_cases h : t.val % 8 = 7
  · rw [outsAt0_B m c t h h]; dsimp only; frame_out; rfl
  · rw [outsAt0_A m c t h h]; dsimp only; frame_out; rfl

theorem array3 : (dats m 0 c).arrAt 3 cfg0.N = rows1024 (tokens m c) (gains m c) (weights m c) 0 (by omega) := by
  refine (dats m 0 c).arrAt_eq_of_covers 3 _ (by decide +kernel) fun t hf y => ?_
  blk_simp
  rw [after0_3, out3]
  obtain ⟨⟨a0, a1⟩, _, _, _, _⟩ := idx_rows t
  obtain ⟨r, j, hq⟩ : ∃ (r : Fin 512) (j : Fin 1024), y = ix2 r j :=
    ⟨y 0, y 1, by funext a; match a with | ⟨0, _⟩ => rfl | ⟨1, _⟩ => rfl⟩
  subst hq
  refine (stored3 _ _ r _ j).trans ((point_feature m c t r ⟨0 + j.val, by omega⟩ _ fun k => part1024 (iblk m c 2 t) 0 (by omega) _ j k).trans ?_)
  refine rowFeature_congr _ _ _ ?_ ?_
  · show 512 * t.val + r.val = _
    blk_simp [a0, a1]
    omega
  · show 0 + j.val = 0 + _
    blk_simp [a0, a1]

theorem out4 : (outsAt0 m c t.val t.isLt).2.1 = k0_pay3 (iblk m c 0 t) (iblk m c 1 t) (View.ld (iblk m c 2 t) (Rect.unit (s := S2864x1024) ![1024, 0] ![128, 1024] inb_S2864x1024_S128x1024_1024_0)) := by
  by_cases h : t.val % 8 = 7
  · rw [outsAt0_B m c t h h]; dsimp only; frame_out; rfl
  · rw [outsAt0_A m c t h h]; dsimp only; frame_out; rfl

theorem array4 : (dats m 0 c).arrAt 4 cfg0.N = rows128 (tokens m c) (gains m c) (weights m c) 1024 (by omega) := by
  refine (dats m 0 c).arrAt_eq_of_covers 4 _ (by decide +kernel) fun t hf y => ?_
  blk_simp
  rw [after0_4, out4]
  obtain ⟨_, ⟨a0, a1⟩, _, _, _⟩ := idx_rows t
  obtain ⟨r, j, hq⟩ : ∃ (r : Fin 512) (j : Fin 128), y = ix2 r j :=
    ⟨y 0, y 1, by funext a; match a with | ⟨0, _⟩ => rfl | ⟨1, _⟩ => rfl⟩
  subst hq
  refine (stored4 _ _ r _ j).trans ((point_feature m c t r ⟨1024 + j.val, by omega⟩ _ fun k => part128 (iblk m c 2 t) 1024 (by omega) _ j k).trans ?_)
  refine rowFeature_congr _ _ _ ?_ ?_
  · show 512 * t.val + r.val = _
    blk_simp [a0, a1]
    omega
  · show 1024 + j.val = 1024 + _
    blk_simp [a0, a1]

theorem out5 : (outsAt0 m c t.val t.isLt).2.2.1 = k0_pay4 (k0_pay1 (iblk m c 0 t) (iblk m c 1 t)) (View.ld (iblk m c 2 t) (Rect.unit (s := S2864x1024) ![1024, 0] ![128, 1024] inb_S2864x1024_S128x1024_1024_0)) := by
  by_cases h : t.val % 8 = 7
  · rw [outsAt0_B m c t h h]; dsimp only; frame_out; rfl
  · rw [outsAt0_A m c t h h]; dsimp only; frame_out; rfl

theorem array5 : (dats m 0 c).arrAt 5 cfg0.N = cols128 (tokens m c) (gains m c) (weights m c) 1024 (by omega) := by
  refine (dats m 0 c).arrAt_eq_of_covers 5 _ (by decide +kernel) fun t hf y => ?_
  blk_simp
  rw [after0_5, out5]
  obtain ⟨⟨a0, a1, a2⟩, _, _, _, _, _, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored5 _ _ r _ j).trans ((point_feature m c t r ⟨1024 + j.val, by omega⟩ _ fun k => part128 (iblk m c 2 t) 1024 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1024 + j.val = 1024 + _
    blk_simp [a0, a1, a2]

theorem out6 : (outsAt0 m c t.val t.isLt).2.2.2.1 = k0_pay5 (k0_pay1 (iblk m c 0 t) (iblk m c 1 t)) (View.ld (iblk m c 2 t) (Rect.unit (s := S2864x1024) ![1152, 0] ![128, 1024] inb_S2864x1024_S128x1024_1152_0)) := by
  by_cases h : t.val % 8 = 7
  · rw [outsAt0_B m c t h h]; dsimp only; frame_out; rfl
  · rw [outsAt0_A m c t h h]; dsimp only; frame_out; rfl

theorem array6 : (dats m 0 c).arrAt 6 cfg0.N = rows128 (tokens m c) (gains m c) (weights m c) 1152 (by omega) := by
  refine (dats m 0 c).arrAt_eq_of_covers 6 _ (by decide +kernel) fun t hf y => ?_
  blk_simp
  rw [after0_6, out6]
  obtain ⟨_, _, ⟨a0, a1⟩, _, _⟩ := idx_rows t
  obtain ⟨r, j, hq⟩ : ∃ (r : Fin 512) (j : Fin 128), y = ix2 r j :=
    ⟨y 0, y 1, by funext a; match a with | ⟨0, _⟩ => rfl | ⟨1, _⟩ => rfl⟩
  subst hq
  refine (stored6 _ _ r _ j).trans ((point_feature m c t r ⟨1152 + j.val, by omega⟩ _ fun k => part128 (iblk m c 2 t) 1152 (by omega) _ j k).trans ?_)
  refine rowFeature_congr _ _ _ ?_ ?_
  · show 512 * t.val + r.val = _
    blk_simp [a0, a1]
    omega
  · show 1152 + j.val = 1152 + _
    blk_simp [a0, a1]

theorem out7 : (outsAt0 m c t.val t.isLt).2.2.2.2.1 = k0_pay6 (k0_pay1 (iblk m c 0 t) (iblk m c 1 t)) (View.ld (iblk m c 2 t) (Rect.unit (s := S2864x1024) ![1152, 0] ![128, 1024] inb_S2864x1024_S128x1024_1152_0)) := by
  by_cases h : t.val % 8 = 7
  · rw [outsAt0_B m c t h h]; dsimp only; frame_out; rfl
  · rw [outsAt0_A m c t h h]; dsimp only; frame_out; rfl

theorem array7 : (dats m 0 c).arrAt 7 cfg0.N = cols128 (tokens m c) (gains m c) (weights m c) 1152 (by omega) := by
  refine (dats m 0 c).arrAt_eq_of_covers 7 _ (by decide +kernel) fun t hf y => ?_
  blk_simp
  rw [after0_7, out7]
  obtain ⟨_, ⟨a0, a1, a2⟩, _, _, _, _, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored7 _ _ r _ j).trans ((point_feature m c t r ⟨1152 + j.val, by omega⟩ _ fun k => part128 (iblk m c 2 t) 1152 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1152 + j.val = 1152 + _
    blk_simp [a0, a1, a2]

theorem out9 : (outsAt0 m c t.val t.isLt).2.2.2.2.2.2.1 = k0_pay13 (k0_pay1 (iblk m c 0 t) (iblk m c 1 t)) (View.ld (iblk m c 2 t) (Rect.unit (s := S2864x1024) ![1280, 0] ![128, 1024] inb_S2864x1024_S128x1024_1280_0)) := by
  by_cases h : t.val % 8 = 7
  · rw [outsAt0_B m c t h h]; dsimp only; frame_out; rfl
  · rw [outsAt0_A m c t h h]; dsimp only; frame_out; rfl

theorem array9 : (dats m 0 c).arrAt 9 cfg0.N = cols128 (tokens m c) (gains m c) (weights m c) 1280 (by omega) := by
  refine (dats m 0 c).arrAt_eq_of_covers 9 _ (by decide +kernel) fun t hf y => ?_
  blk_simp
  rw [after0_9, out9]
  obtain ⟨_, _, ⟨a0, a1, a2⟩, _, _, _, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored9 _ _ r _ j).trans ((point_feature m c t r ⟨1280 + j.val, by omega⟩ _ fun k => part128 (iblk m c 2 t) 1280 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1280 + j.val = 1280 + _
    blk_simp [a0, a1, a2]

theorem out10 : (outsAt0 m c t.val t.isLt).2.2.2.2.2.2.2.1 = k0_pay15 (k0_pay1 (iblk m c 0 t) (iblk m c 1 t)) (View.ld (iblk m c 2 t) (Rect.unit (s := S2864x1024) ![1408, 0] ![128, 1024] inb_S2864x1024_S128x1024_1408_0)) := by
  by_cases h : t.val % 8 = 7
  · rw [outsAt0_B m c t h h]; dsimp only; frame_out; rfl
  · rw [outsAt0_A m c t h h]; dsimp only; frame_out; rfl

theorem array10 : (dats m 0 c).arrAt 10 cfg0.N = cols128 (tokens m c) (gains m c) (weights m c) 1408 (by omega) := by
  refine (dats m 0 c).arrAt_eq_of_covers 10 _ (by decide +kernel) fun t hf y => ?_
  blk_simp
  rw [after0_10, out10]
  obtain ⟨_, _, _, ⟨a0, a1, a2⟩, _, _, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored10 _ _ r _ j).trans ((point_feature m c t r ⟨1408 + j.val, by omega⟩ _ fun k => part128 (iblk m c 2 t) 1408 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1408 + j.val = 1408 + _
    blk_simp [a0, a1, a2]

theorem out11 : (outsAt0 m c t.val t.isLt).2.2.2.2.2.2.2.2.1 = k0_pay16 (k0_pay1 (iblk m c 0 t) (iblk m c 1 t)) (View.ld (iblk m c 2 t) (Rect.unit (s := S2864x1024) ![1408, 0] ![128, 1024] inb_S2864x1024_S128x1024_1408_0)) := by
  by_cases h : t.val % 8 = 7
  · rw [outsAt0_B m c t h h]; dsimp only; frame_out; rfl
  · rw [outsAt0_A m c t h h]; dsimp only; frame_out; rfl

theorem array11 : (dats m 0 c).arrAt 11 cfg0.N = cols128 (tokens m c) (gains m c) (weights m c) 1408 (by omega) := by
  refine (dats m 0 c).arrAt_eq_of_covers 11 _ (by decide +kernel) fun t hf y => ?_
  blk_simp
  rw [after0_11, out11]
  obtain ⟨_, _, _, _, ⟨a0, a1, a2⟩, _, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored11 _ _ r _ j).trans ((point_feature m c t r ⟨1408 + j.val, by omega⟩ _ fun k => part128 (iblk m c 2 t) 1408 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1408 + j.val = 1408 + _
    blk_simp [a0, a1, a2]

theorem out12 : (outsAt0 m c t.val t.isLt).2.2.2.2.2.2.2.2.2.1 = k0_pay18 (k0_pay1 (iblk m c 0 t) (iblk m c 1 t)) (k0_pay17 (View.ld (iblk m c 2 t) (Rect.unit (s := S2864x1024) ![1536, 0] ![128, 1024] inb_S2864x1024_S128x1024_1536_0))) (constant S512x128 .f32 0x00000000#32) := by
  by_cases h : t.val % 8 = 7
  · rw [outsAt0_B m c t h h]; dsimp only; frame_out; rfl
  · rw [outsAt0_A m c t h h]; dsimp only; frame_out; rfl

theorem array12 : (dats m 0 c).arrAt 12 cfg0.N = rows128 (tokens m c) (gains m c) (weights m c) 1536 (by omega) := by
  refine (dats m 0 c).arrAt_eq_of_covers 12 _ (by decide +kernel) fun t hf y => ?_
  blk_simp
  rw [after0_12, out12]
  obtain ⟨_, _, _, ⟨a0, a1⟩, _⟩ := idx_rows t
  obtain ⟨r, j, hq⟩ : ∃ (r : Fin 512) (j : Fin 128), y = ix2 r j :=
    ⟨y 0, y 1, by funext a; match a with | ⟨0, _⟩ => rfl | ⟨1, _⟩ => rfl⟩
  subst hq
  refine (stored12 _ _ r _ j).trans ((point_feature m c t r ⟨1536 + j.val, by omega⟩ _ fun k => part128 (iblk m c 2 t) 1536 (by omega) _ j k).trans ?_)
  refine rowFeature_congr _ _ _ ?_ ?_
  · show 512 * t.val + r.val = _
    blk_simp [a0, a1]
    omega
  · show 1536 + j.val = 1536 + _
    blk_simp [a0, a1]

theorem out13 (h : t.val % 8 = 7) : (outsAt0 m c t.val t.isLt).2.2.2.2.2.2.2.2.2.2.1 = k0_pay19 (k0_pay1 (iblk m c 0 t) (iblk m c 1 t)) (View.ld (iblk m c 2 t) (Rect.unit (s := S2864x1024) ![1536, 0] ![128, 1024] inb_S2864x1024_S128x1024_1536_0)) := by
  rw [outsAt0_B m c t h h]; dsimp only; frame_out; rfl

theorem array13 : (dats m 0 c).arrAt 13 cfg0.N = last128 (tokens m c) (gains m c) (weights m c) 1536 (by omega) := by
  refine (dats m 0 c).arrAt_eq_of_covers 13 _ (by decide +kernel) fun t hf y => ?_
  have h : t.val % 8 = 7 := (flush0_13 t).1 hf
  blk_simp
  rw [after0_13, out13 m c t h]
  obtain ⟨⟨a0, a1, a2⟩, _⟩ := idx_last t h
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored13 _ _ r _ j).trans ((point_feature m c t r ⟨1536 + j.val, by omega⟩ _ fun k => part128 (iblk m c 2 t) 1536 (by omega) _ j k).trans ?_)
  have := ht t
  refine feature_congr _ _ _ ?_ ?_ ?_
  · show (512 * t.val + r.val) / 4096 = _
    blk_simp [a0, a1, a2]
    omega
  · show (512 * t.val + r.val) % 4096 = 3584 + _
    blk_simp [a0, a1, a2]
    omega
  · show 1536 + j.val = 1536 + _
    blk_simp [a0, a1, a2]

theorem out14 : (outsAt0 m c t.val t.isLt).2.2.2.2.2.2.2.2.2.2.2.1 = k0_pay20 (k0_pay1 (iblk m c 0 t) (iblk m c 1 t)) (View.ld (iblk m c 2 t) (Rect.unit (s := S2864x1024) ![1664, 0] ![128, 1024] inb_S2864x1024_S128x1024_1664_0)) := by
  by_cases h : t.val % 8 = 7
  · rw [outsAt0_B m c t h h]; dsimp only; frame_out; rfl
  · rw [outsAt0_A m c t h h]; dsimp only; frame_out; rfl

theorem array14 : (dats m 0 c).arrAt 14 cfg0.N = cols128 (tokens m c) (gains m c) (weights m c) 1664 (by omega) := by
  refine (dats m 0 c).arrAt_eq_of_covers 14 _ (by decide +kernel) fun t hf y => ?_
  blk_simp
  rw [after0_14, out14]
  obtain ⟨_, _, _, _, _, ⟨a0, a1, a2⟩, _⟩ := idx_cols t
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored14 _ _ r _ j).trans ((point_feature m c t r ⟨1664 + j.val, by omega⟩ _ fun k => part128 (iblk m c 2 t) 1664 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1664 + j.val = 1664 + _
    blk_simp [a0, a1, a2]

theorem out15 (h : t.val % 8 = 7) : (outsAt0 m c t.val t.isLt).2.2.2.2.2.2.2.2.2.2.2.2.1 = k0_pay21 (k0_pay1 (iblk m c 0 t) (iblk m c 1 t)) (View.ld (iblk m c 2 t) (Rect.unit (s := S2864x1024) ![1664, 0] ![128, 1024] inb_S2864x1024_S128x1024_1664_0)) := by
  rw [outsAt0_B m c t h h]; dsimp only; frame_out; rfl

theorem array15 : (dats m 0 c).arrAt 15 cfg0.N = last128 (tokens m c) (gains m c) (weights m c) 1664 (by omega) := by
  refine (dats m 0 c).arrAt_eq_of_covers 15 _ (by decide +kernel) fun t hf y => ?_
  have h : t.val % 8 = 7 := (flush0_15 t).1 hf
  blk_simp
  rw [after0_15, out15 m c t h]
  obtain ⟨_, ⟨a0, a1, a2⟩⟩ := idx_last t h
  obtain ⟨j, r, hq⟩ : ∃ (j : Fin 128) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored15 _ _ r _ j).trans ((point_feature m c t r ⟨1664 + j.val, by omega⟩ _ fun k => part128 (iblk m c 2 t) 1664 (by omega) _ j k).trans ?_)
  have := ht t
  refine feature_congr _ _ _ ?_ ?_ ?_
  · show (512 * t.val + r.val) / 4096 = _
    blk_simp [a0, a1, a2]
    omega
  · show (512 * t.val + r.val) % 4096 = 3584 + _
    blk_simp [a0, a1, a2]
    omega
  · show 1664 + j.val = 1664 + _
    blk_simp [a0, a1, a2]

theorem out16 : (outsAt0 m c t.val t.isLt).2.2.2.2.2.2.2.2.2.2.2.2.2.1 = k0_pay22 (k0_pay1 (iblk m c 0 t) (iblk m c 1 t)) (View.ld (iblk m c 2 t) (Rect.unit (s := S2864x1024) ![1792, 0] ![48, 1024] inb_S2864x1024_S48x1024_1792_0)) := by
  by_cases h : t.val % 8 = 7
  · rw [outsAt0_B m c t h h]; dsimp only; frame_out; rfl
  · rw [outsAt0_A m c t h h]; dsimp only; frame_out; rfl

theorem array16 : (dats m 0 c).arrAt 16 cfg0.N = cols48 (tokens m c) (gains m c) (weights m c) 1792 (by omega) := by
  refine (dats m 0 c).arrAt_eq_of_covers 16 _ (by decide +kernel) fun t hf y => ?_
  blk_simp
  rw [after0_16, out16]
  obtain ⟨_, _, _, _, _, _, ⟨a0, a1, a2⟩⟩ := idx_cols t
  obtain ⟨j, r, hq⟩ : ∃ (j : Fin 48) (r : Fin 512), y = ix3 0 j r := by
    refine ⟨y 1, y 2, ?_⟩
    funext a
    match a with
    | ⟨0, _⟩ => exact Subsingleton.elim (α := Fin 1) _ _
    | ⟨1, _⟩ => rfl
    | ⟨2, _⟩ => rfl
  subst hq
  refine (stored16 _ _ r _ j).trans ((point_feature m c t r ⟨1792 + j.val, by omega⟩ _ fun k => part48 (iblk m c 2 t) 1792 (by omega) _ j k).trans ?_)
  have := ht t
  refine feature_congr _ _ _ ?_ ?_ ?_
  · show (512 * t.val + r.val) / 4096 = _
    blk_simp [a0, a1, a2]
    omega
  · show (512 * t.val + r.val) % 4096 = _
    blk_simp [a0, a1, a2]
    omega
  · show 1792 + j.val = 1792 + _
    blk_simp [a0, a1, a2]

theorem out17 : (outsAt0 m c t.val t.isLt).2.2.2.2.2.2.2.2.2.2.2.2.2.2 = k0_pay23 (k0_pay1 (iblk m c 0 t) (iblk m c 1 t)) (View.ld (iblk m c 2 t) (Rect.unit (s := S2864x1024) ![1840, 0] ![1024, 1024] inb_S2864x1024_S1024x1024_1840_0)) := by
  by_cases h : t.val % 8 = 7
  · rw [outsAt0_B m c t h h]; dsimp only; frame_out; rfl
  · rw [outsAt0_A m c t h h]; dsimp only; frame_out; rfl

theorem array17 : (dats m 0 c).arrAt 17 cfg0.N = rows1024 (tokens m c) (gains m c) (weights m c) 1840 (by omega) := by
  refine (dats m 0 c).arrAt_eq_of_covers 17 _ (by decide +kernel) fun t hf y => ?_
  blk_simp
  rw [after0_17, out17]
  obtain ⟨_, _, _, _, ⟨a0, a1⟩⟩ := idx_rows t
  obtain ⟨r, j, hq⟩ : ∃ (r : Fin 512) (j : Fin 1024), y = ix2 r j :=
    ⟨y 0, y 1, by funext a; match a with | ⟨0, _⟩ => rfl | ⟨1, _⟩ => rfl⟩
  subst hq
  refine (stored17 _ _ r _ j).trans ((point_feature m c t r ⟨1840 + j.val, by omega⟩ _ fun k => part1024 (iblk m c 2 t) 1840 (by omega) _ j k).trans ?_)
  refine rowFeature_congr _ _ _ ?_ ?_
  · show 512 * t.val + r.val = _
    blk_simp [a0, a1]
    omega
  · show 1840 + j.val = 1840 + _
    blk_simp [a0, a1]

end Cert.Kernel3Ideal.Project

end
-- ==== Proof.ProjectEvenSample.Spec.lean ====
/- The even layer's projection for the samples, feature by feature. -/
module

public import proofs.«01_k».proof.Kernel6Ideal
public import proofs.«01_k».proof.Proof.Project.Spec

@[expose] public section

noncomputable section

open Idealize.ShloMosaic

namespace Cert.Proof.ProjectEvenSample

open Cert.Proof.Project (project)
open Cert.Kernel6Ideal

variable (X : FVec Ideal S32x4x1024 .f32) (g : FVec Ideal S1024 .f32) (W : FVec Ideal S1024x3584 .f32)

/-- Feature `j` of token `t` of sequence `b`. -/
def feature (b : Fin 32) (t : Fin 4) (j : Fin 3584) : EReal :=
  project (fun k => X (ix3 b t k)) (fun k => g (ix1 k)) (fun k => W (ix2 k j))

/-- Feature `j` of row `r`, where the sequences' tokens are the rows, one sequence after the other. -/
def rowFeature (r : Fin 128) (j : Fin 3584) : EReal := feature X g W ⟨r.val / 4, by omega⟩ ⟨r.val % 4, by omega⟩ j

/-- 512 features from `o` of every row. -/
def rows512 (o : ℕ) (ho : o + 512 ≤ 3584) : S128x512.Idx → EReal := fun i =>
  rowFeature X g W (i 0) ⟨o + (i 1).val, by have := (i 1).isLt; change _ < 512 at this; omega⟩

/-- 256 features from `o` of every row. -/
def rows256 (o : ℕ) (ho : o + 256 ≤ 3584) : S128x256.Idx → EReal := fun i =>
  rowFeature X g W (i 0) ⟨o + (i 1).val, by have := (i 1).isLt; change _ < 256 at this; omega⟩

theorem rowFeature_congr {r r' : Fin 128} {j j' : Fin 3584} (hr : r.val = r'.val) (hj : j.val = j'.val) :
    rowFeature X g W r j = rowFeature X g W r' j' := by
  rw [Fin.ext hr, Fin.ext hj]

end Cert.Proof.ProjectEvenSample

end
-- ==== Proof.ProjectEvenSample.Reference.lean ====
/- The reference's even layer's projection for the samples, entry by entry. -/
module

public import proofs.«01_k».proof.Proof.Gen.Reference6Ideal.Run
public import proofs.«01_k».proof.Proof.ProjectEvenSample.Spec

@[expose] public section

set_option maxRecDepth 16384

noncomputable section

open Idealize.ShloMosaic Idealize.ShloMosaic.TcCoe Idealize.SL.Sem

namespace Cert.Reference6Ideal.Project

open Cert.Proof.ProjectEvenSample Cert.Reference6Ideal Cert.Reference6Ideal.Gen

variable (X : FVec Ideal S32x4x1024 .f32) (g : FVec Ideal S1024 .f32) (W : FVec Ideal S1024x3584 .f32)

/-- All the features of all the tokens. -/
def product : FVec Ideal S32x4x3584 .f32 :=
  Host.dotGeneral dot_S32x4x1024_S1024x3584_S32x4x3584_2_0_01_1_n_n none
    (mulf (mulf X (broadcastInDim S32x4x1024 ![0, 1, 2] bcast_S32x4x1_S32x4x1024_0_1_2
      (Host.rsqrt (addf (Host.divf (broadcastInDim S32x4x1 ![0, 1] bcast_S32x4_S32x4x1_0_1
        (Host.reduceAdd (mulf X X) (constant S_ .f32 0x00000000#32) reducesTo_S32x4x1024_S32x4_d2 h_S_))
        (broadcastInDim S32x4x1 ![] bcast_S_S32x4x1 (constant S_ .f32 0x44800000#32)))
        (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g))) W

theorem product_at (b : Fin 32) (t : Fin 4) (j : Fin 3584) : (product X g W (ix3 b t j) : EReal) = feature X g W b t j := by
  pointwise [product]
  rfl

/-- 512 features from `o`. -/
theorem slice512 (P : FVec Ideal S32x4x3584 .f32) (o : ℕ) (ho : o + 512 ≤ 3584) (h) (b : Fin 32) (t : Fin 4) (j : Fin 512) :
    extractStridedSlice S32x4x512 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 256 features from `o`. -/
theorem slice256 (P : FVec Ideal S32x4x3584 .f32) (o : ℕ) (ho : o + 256 ≤ 3584) (h) (b : Fin 32) (t : Fin 4) (j : Fin 256) :
    extractStridedSlice S32x4x256 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 512 features as rows. -/
theorem flat512 (P : FVec Ideal S32x4x512 .f32) (r : Fin 128) (j : Fin 512) :
    shapeCast S128x512 P shapeCasts_S32x4x512_S128x512 (ix2 r j) = P (ix3 ⟨r.val / 4, by omega⟩ ⟨r.val % 4, by omega⟩ j) := by
  pointwise

theorem rows512_eq (o : ℕ) (ho : o + 512 ≤ 3584) (h) :
    shapeCast S128x512 (extractStridedSlice S32x4x512 ![0, 0, o] (product X g W) h) shapeCasts_S32x4x512_S128x512 = rows512 X g W o ho := by
  funext i
  idx_vars i
  exact (flat512 _ _ _).trans ((slice512 _ o ho h _ _ _).trans (product_at X g W _ _ _))

/-- 256 features as rows. -/
theorem flat256 (P : FVec Ideal S32x4x256 .f32) (r : Fin 128) (j : Fin 256) :
    shapeCast S128x256 P shapeCasts_S32x4x256_S128x256 (ix2 r j) = P (ix3 ⟨r.val / 4, by omega⟩ ⟨r.val % 4, by omega⟩ j) := by
  pointwise

theorem rows256_eq (o : ℕ) (ho : o + 256 ≤ 3584) (h) :
    shapeCast S128x256 (extractStridedSlice S32x4x256 ![0, 0, o] (product X g W) h) shapeCasts_S32x4x256_S128x256 = rows256 X g W o ho := by
  funext i
  idx_vars i
  exact (flat256 _ _ _).trans ((slice256 _ o ho h _ _ _).trans (product_at X g W _ _ _))

end Cert.Reference6Ideal.Project

end
-- ==== Proof.ProjectEvenSample.Payloads.lean ====
/- What the even layer's projection for the samples computes of a block of rows. -/
module

public import proofs.«01_k».proof.Proof.Gen.Kernel6Ideal.Value
public import proofs.«01_k».proof.Proof.ProjectEvenSample.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel6Ideal.Project

open Cert.Proof.Project (project)
open Cert.Proof.ProjectEvenSample Cert.Kernel6Ideal Cert.Kernel6Ideal.Gen Cert.Kernel6Ideal.Value

section
variable (x : Vec Ideal S128x1024 .f32) (g : Vec Ideal S1x1024 .f32) (r : Fin 128)

/-- The projection of a block's row by a row of transposed weights. -/
def blockProject (u : Fin 1024 → EReal) : EReal := project (fun k => x (ix2 r k)) (fun k => g (ix2 0 k)) u

theorem stored3 (w : Vec Ideal S512x1024 .bf16) (j : Fin 512) : (k0_pay7 x g w (ix2 r j) : EReal) = blockProject x g r fun k => w (ix2 j k) := by
  pointwise [k0_pay7, k0_pay6]
  rfl

theorem stored4 (w : Vec Ideal S512x1024 .bf16) (j : Fin 512) : (k0_pay8 x g w (ix2 r j) : EReal) = blockProject x g r fun k => w (ix2 j k) := by
  pointwise [k0_pay8, k0_pay6]
  rfl

theorem stored5 (w : Vec Ideal S512x1024 .bf16) (j : Fin 512) : (k0_pay9 x g w (ix2 r j) : EReal) = blockProject x g r fun k => w (ix2 j k) := by
  pointwise [k0_pay9, k0_pay6]
  rfl

theorem stored6 (w : Vec Ideal S512x1024 .bf16) (j : Fin 512) : (k0_pay1 (k0_pay6 x g) (k0_pay10 w) (constant S128x512 .f32 0x00000000#32) (ix2 r j) : EReal) = blockProject x g r fun k => w (ix2 j k) := by
  pointwise [k0_pay1, k0_pay10, k0_pay6]
  rfl

theorem stored7 (w : Vec Ideal S256x1024 .bf16) (j : Fin 256) : (k0_pay2 (k0_pay6 x g) w (ix2 r j) : EReal) = blockProject x g r fun k => w (ix2 j k) := by
  pointwise [k0_pay2, k0_pay6]
  rfl

theorem stored8 (w : Vec Ideal S256x1024 .bf16) (j : Fin 256) : (k0_pay3 (k0_pay6 x g) w (ix2 r j) : EReal) = blockProject x g r fun k => w (ix2 j k) := by
  pointwise [k0_pay3, k0_pay6]
  rfl

theorem stored9 (w : Vec Ideal S512x1024 .bf16) (j : Fin 512) : (k0_pay4 (k0_pay6 x g) w (ix2 r j) : EReal) = blockProject x g r fun k => w (ix2 j k) := by
  pointwise [k0_pay4, k0_pay6]
  rfl

theorem stored10 (w : Vec Ideal S512x1024 .bf16) (j : Fin 512) : (k0_pay5 (k0_pay6 x g) w (ix2 r j) : EReal) = blockProject x g r fun k => w (ix2 j k) := by
  pointwise [k0_pay5, k0_pay6]
  rfl

/-- A part of 512 rows of the weights. -/
theorem part512 (A : Vec Ideal S3584x1024 .bf16) (o : ℕ) (ho : o + 512 ≤ 3584) (h) (j : Fin 512) (k : Fin 1024) :
    (View.ld A (Rect.unit (s := S3584x1024) ![o, 0] ![512, 1024] h) : Vec Ideal S512x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

/-- A part of 256 rows of the weights. -/
theorem part256 (A : Vec Ideal S3584x1024 .bf16) (o : ℕ) (ho : o + 256 ≤ 3584) (h) (j : Fin 256) (k : Fin 1024) :
    (View.ld A (Rect.unit (s := S3584x1024) ![o, 0] ![256, 1024] h) : Vec Ideal S256x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

end

/-- Where the windows read by the point `t` lie. -/
theorem idx_in : ∀ t : Fin grid0.N, ((win0 0).index t 0 = t.val ∧ (win0 0).index t 1 = 0)
    ∧ ((win0 1).index t 0 = 0 ∧ (win0 1).index t 1 = 0) ∧ ((win0 2).index t 0 = 0 ∧ (win0 2).index t 1 = 0) := by decide +kernel

theorem tokens_at (X : FVec Ideal S32x4x1024 .f32) (r : Fin 128) (k : Fin 1024) :
    shapeCast S128x1024 X shapeCasts_S32x4x1024_S128x1024 (ix2 r k) = X (ix3 ⟨r.val / 4, by omega⟩ ⟨r.val % 4, by omega⟩ k) := by
  pointwise

theorem gains_at (g : FVec Ideal S1024 .f32) (k : Fin 1024) : shapeCast S1x1024 g shapeCasts_S1024_S1x1024 (ix2 0 k) = g (ix1 k) := by
  pointwise

theorem weights_at (W : FVec Ideal S1024x3584 .f32) (j : Fin 3584) (k : Fin 1024) :
    (truncf (F := Ideal) .bf16 (transpose S3584x1024 [1, 0] W transposes_S1024x3584_S3584x1024_1_0) bitsLt_bf16_f32 (ix2 j k) : EReal) = W (ix2 k j) := by
  pointwise

variable (m : (ℓ : Loc nD τ sig) → Buf (Elt Ideal) ℓ) (c : Dev nD) (t : Fin cfg0.N)

theorem host : V m c main_v0 = shapeCast S128x1024 (m ((c : Thread nD τ).loc main_arg0) : FVec Ideal S32x4x1024 .f32) shapeCasts_S32x4x1024_S128x1024
    ∧ V m c main_v3 = shapeCast S1x1024 (m ((c : Thread nD τ).loc main_arg1) : FVec Ideal S1024 .f32) shapeCasts_S1024_S1x1024
    ∧ V m c main_v2 = truncf (F := Ideal) .bf16 (transpose S3584x1024 [1, 0] (m ((c : Thread nD τ).loc main_arg2) : FVec Ideal S1024x3584 .f32)
        transposes_S1024x3584_S3584x1024_1_0) bitsLt_bf16_f32 := by
  refine ⟨?_, ?_, ?_⟩ <;> (simp only [V]; after_reads_simp) <;> rfl

theorem ht : t.val < 1 := lt_of_lt_of_eq t.isLt N_0

theorem x_block (r : Fin 128) (k : Fin 1024) : (iblk m c 0 t : FVec Ideal S128x1024 .f32) (ix2 r k)
    = (m ((c : Thread nD τ).loc main_arg0) : FVec Ideal S32x4x1024 .f32) (ix3 ⟨(128 * t.val + r.val) / 4, by have := ht t; omega⟩ ⟨(128 * t.val + r.val) % 4, by omega⟩ k) := by
  obtain ⟨⟨a0, a1⟩, _⟩ := idx_in t
  have := ht t
  refine Eq.trans (b := V m c main_v0 (ix2 ⟨128 * t.val + r.val, by omega⟩ k)) ?_ ?_
  · blk_ext [iblk, a0, a1]
  · rw [(host m c).1]
    exact tokens_at _ _ _

theorem g_block (k : Fin 1024) : (iblk m c 1 t : FVec Ideal S1x1024 .f32) (ix2 0 k)
    = (m ((c : Thread nD τ).loc main_arg1) : FVec Ideal S1024 .f32) (ix1 k) := by
  obtain ⟨_, ⟨a0, a1⟩, _⟩ := idx_in t
  refine Eq.trans (b := V m c main_v3 (ix2 0 k)) ?_ ?_
  · blk_ext [iblk, a0, a1]
  · rw [(host m c).2.1]
    exact gains_at _ _

theorem w_block (j : Fin 3584) (k : Fin 1024) : ((iblk m c 2 t : FVec Ideal S3584x1024 .bf16) (ix2 j k) : EReal)
    = (m ((c : Thread nD τ).loc main_arg2) : FVec Ideal S1024x3584 .f32) (ix2 k j) := by
  obtain ⟨_, _, ⟨a0, a1⟩⟩ := idx_in t
  refine Eq.trans (b := V m c main_v2 (ix2 j k)) ?_ ?_
  · blk_ext [iblk, a0, a1]
  · rw [(host m c).2.2]
    exact weights_at _ _ _

/-- A point's projection of a row is that row's feature. -/
theorem point_feature (r : Fin 128) (j : Fin 3584) (u : Fin 1024 → EReal)
    (hu : ∀ k, u k = (iblk m c 2 t : FVec Ideal S3584x1024 .bf16) (ix2 j k)) :
    blockProject (iblk m c 0 t) (iblk m c 1 t) r u
      = rowFeature (m ((c : Thread nD τ).loc main_arg0)) (m ((c : Thread nD τ).loc main_arg1)) (m ((c : Thread nD τ).loc main_arg2))
        ⟨128 * t.val + r.val, by have := ht t; omega⟩ j := by
  have h0 : (fun k => (iblk m c 0 t : FVec Ideal S128x1024 .f32) (ix2 r k)) = _ := funext fun k => x_block m c t r k
  have h1 : (fun k => (iblk m c 1 t : FVec Ideal S1x1024 .f32) (ix2 0 k)) = _ := funext fun k => g_block m c t k
  have h2 : u = _ := funext fun k => (hu k).trans (w_block m c t j k)
  rw [blockProject, h0, h1, h2]
  rfl

end Cert.Kernel6Ideal.Project

end
-- ==== Proof.ProjectEvenSample.Arrays.lean ====
/- The arrays the even layer's projection for the samples leaves. -/
module

public import proofs.«01_k».proof.Proof.ProjectEvenSample.Payloads

@[expose] public section

set_option maxRecDepth 16384

noncomputable section

open Idealize.ShloMosaic Idealize.ShloMosaic.TcCoe Idealize.SL.Sem

namespace Cert.Kernel6Ideal.Project

open Cert.Proof.ProjectEvenSample Cert.Kernel6Ideal Cert.Kernel6Ideal.Gen Cert.Kernel6Ideal.Value

variable (m : (ℓ : Loc nD τ sig) → Buf (Elt Ideal) ℓ) (c : Dev nD) (t : Fin cfg0.N)

/-- The arguments. -/
abbrev tokens : FVec Ideal S32x4x1024 .f32 := m ((c : Thread nD τ).loc main_arg0)
abbrev gains : FVec Ideal S1024 .f32 := m ((c : Thread nD τ).loc main_arg1)
abbrev weights : FVec Ideal S1024x3584 .f32 := m ((c : Thread nD τ).loc main_arg2)

/-- Where the windows of rows written by the point `t` lie. -/
theorem idx_rows : ∀ t : Fin grid0.N, ((win0 3).index t 0 = t.val ∧ (win0 3).index t 1 = 0)
    ∧ ((win0 4).index t 0 = t.val ∧ (win0 4).index t 1 = 0)
    ∧ ((win0 5).index t 0 = t.val ∧ (win0 5).index t 1 = 0)
    ∧ ((win0 6).index t 0 = t.val ∧ (win0 6).index t 1 = 0)
    ∧ ((win0 7).index t 0 = t.val ∧ (win0 7).index t 1 = 0)
    ∧ ((win0 8).index t 0 = t.val ∧ (win0 8).index t 1 = 0)
    ∧ ((win0 9).index t 0 = t.val ∧ (win0 9).index t 1 = 0)
    ∧ ((win0 10).index t 0 = t.val ∧ (win0 10).index t 1 = 0) := by decide +kernel

theorem out3 : out0_3 (iblk m c 0 t) (iblk m c 1 t) (iblk m c 2 t) = k0_pay7 (iblk m c 0 t) (iblk m c 1 t) (View.ld (iblk m c 2 t) (Rect.unit (s := S3584x1024) ![0, 0] ![512, 1024] inb_S3584x1024_S512x1024_0_0)) := by
  unfold_out out0_3; frame_out; rfl

theorem array3 : (dats m 0 c).arrAt 3 cfg0.N = rows512 (tokens m c) (gains m c) (weights m c) 0 (by omega) := by
  refine (dats m 0 c).arrAt_eq_of_covers 3 _ (by decide +kernel) fun t hf y => ?_
  blk_simp
  rw [after0_3, out3]
  obtain ⟨⟨a0, a1⟩, _, _, _, _, _, _, _⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored3 _ _ r _ j).trans ((point_feature m c t r ⟨0 + j.val, by omega⟩ _ fun k => part512 (iblk m c 2 t) 0 (by omega) _ j k).trans ?_)
  refine rowFeature_congr _ _ _ ?_ ?_
  · show 128 * t.val + r.val = _
    blk_simp [a0, a1]
    omega
  · show 0 + j.val = 0 + _
    blk_simp [a0, a1]

theorem out4 : out0_4 (iblk m c 0 t) (iblk m c 1 t) (iblk m c 2 t) = k0_pay8 (iblk m c 0 t) (iblk m c 1 t) (View.ld (iblk m c 2 t) (Rect.unit (s := S3584x1024) ![512, 0] ![512, 1024] inb_S3584x1024_S512x1024_512_0)) := by
  unfold_out out0_4; frame_out; rfl

theorem array4 : (dats m 0 c).arrAt 4 cfg0.N = rows512 (tokens m c) (gains m c) (weights m c) 512 (by omega) := by
  refine (dats m 0 c).arrAt_eq_of_covers 4 _ (by decide +kernel) fun t hf y => ?_
  blk_simp
  rw [after0_4, out4]
  obtain ⟨_, ⟨a0, a1⟩, _, _, _, _, _, _⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored4 _ _ r _ j).trans ((point_feature m c t r ⟨512 + j.val, by omega⟩ _ fun k => part512 (iblk m c 2 t) 512 (by omega) _ j k).trans ?_)
  refine rowFeature_congr _ _ _ ?_ ?_
  · show 128 * t.val + r.val = _
    blk_simp [a0, a1]
    omega
  · show 512 + j.val = 512 + _
    blk_simp [a0, a1]

theorem out5 : out0_5 (iblk m c 0 t) (iblk m c 1 t) (iblk m c 2 t) = k0_pay9 (iblk m c 0 t) (iblk m c 1 t) (View.ld (iblk m c 2 t) (Rect.unit (s := S3584x1024) ![1024, 0] ![512, 1024] inb_S3584x1024_S512x1024_1024_0)) := by
  unfold_out out0_5; frame_out; rfl

theorem array5 : (dats m 0 c).arrAt 5 cfg0.N = rows512 (tokens m c) (gains m c) (weights m c) 1024 (by omega) := by
  refine (dats m 0 c).arrAt_eq_of_covers 5 _ (by decide +kernel) fun t hf y => ?_
  blk_simp
  rw [after0_5, out5]
  obtain ⟨_, _, ⟨a0, a1⟩, _, _, _, _, _⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored5 _ _ r _ j).trans ((point_feature m c t r ⟨1024 + j.val, by omega⟩ _ fun k => part512 (iblk m c 2 t) 1024 (by omega) _ j k).trans ?_)
  refine rowFeature_congr _ _ _ ?_ ?_
  · show 128 * t.val + r.val = _
    blk_simp [a0, a1]
    omega
  · show 1024 + j.val = 1024 + _
    blk_simp [a0, a1]

theorem out6 : out0_6 (iblk m c 0 t) (iblk m c 1 t) (iblk m c 2 t) = k0_pay1 (k0_pay6 (iblk m c 0 t) (iblk m c 1 t)) (k0_pay10 (View.ld (iblk m c 2 t) (Rect.unit (s := S3584x1024) ![1536, 0] ![512, 1024] inb_S3584x1024_S512x1024_1536_0))) (constant S128x512 .f32 0x00000000#32) := by
  unfold_out out0_6; frame_out; rfl

theorem array6 : (dats m 0 c).arrAt 6 cfg0.N = rows512 (tokens m c) (gains m c) (weights m c) 1536 (by omega) := by
  refine (dats m 0 c).arrAt_eq_of_covers 6 _ (by decide +kernel) fun t hf y => ?_
  blk_simp
  rw [after0_6, out6]
  obtain ⟨_, _, _, ⟨a0, a1⟩, _, _, _, _⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored6 _ _ r _ j).trans ((point_feature m c t r ⟨1536 + j.val, by omega⟩ _ fun k => part512 (iblk m c 2 t) 1536 (by omega) _ j k).trans ?_)
  refine rowFeature_congr _ _ _ ?_ ?_
  · show 128 * t.val + r.val = _
    blk_simp [a0, a1]
    omega
  · show 1536 + j.val = 1536 + _
    blk_simp [a0, a1]

theorem out7 : out0_7 (iblk m c 0 t) (iblk m c 1 t) (iblk m c 2 t) = k0_pay2 (k0_pay6 (iblk m c 0 t) (iblk m c 1 t)) (View.ld (iblk m c 2 t) (Rect.unit (s := S3584x1024) ![2048, 0] ![256, 1024] inb_S3584x1024_S256x1024_2048_0)) := by
  unfold_out out0_7; frame_out; rfl

theorem array7 : (dats m 0 c).arrAt 7 cfg0.N = rows256 (tokens m c) (gains m c) (weights m c) 2048 (by omega) := by
  refine (dats m 0 c).arrAt_eq_of_covers 7 _ (by decide +kernel) fun t hf y => ?_
  blk_simp
  rw [after0_7, out7]
  obtain ⟨_, _, _, _, ⟨a0, a1⟩, _, _, _⟩ := idx_rows t
  obtain ⟨r, j, hq⟩ : ∃ (r : Fin 128) (j : Fin 256), y = ix2 r j :=
    ⟨y 0, y 1, by funext a; match a with | ⟨0, _⟩ => rfl | ⟨1, _⟩ => rfl⟩
  subst hq
  refine (stored7 _ _ r _ j).trans ((point_feature m c t r ⟨2048 + j.val, by omega⟩ _ fun k => part256 (iblk m c 2 t) 2048 (by omega) _ j k).trans ?_)
  refine rowFeature_congr _ _ _ ?_ ?_
  · show 128 * t.val + r.val = _
    blk_simp [a0, a1]
    omega
  · show 2048 + j.val = 2048 + _
    blk_simp [a0, a1]

theorem out8 : out0_8 (iblk m c 0 t) (iblk m c 1 t) (iblk m c 2 t) = k0_pay3 (k0_pay6 (iblk m c 0 t) (iblk m c 1 t)) (View.ld (iblk m c 2 t) (Rect.unit (s := S3584x1024) ![2304, 0] ![256, 1024] inb_S3584x1024_S256x1024_2304_0)) := by
  unfold_out out0_8; frame_out; rfl

theorem array8 : (dats m 0 c).arrAt 8 cfg0.N = rows256 (tokens m c) (gains m c) (weights m c) 2304 (by omega) := by
  refine (dats m 0 c).arrAt_eq_of_covers 8 _ (by decide +kernel) fun t hf y => ?_
  blk_simp
  rw [after0_8, out8]
  obtain ⟨_, _, _, _, _, ⟨a0, a1⟩, _, _⟩ := idx_rows t
  obtain ⟨r, j, hq⟩ : ∃ (r : Fin 128) (j : Fin 256), y = ix2 r j :=
    ⟨y 0, y 1, by funext a; match a with | ⟨0, _⟩ => rfl | ⟨1, _⟩ => rfl⟩
  subst hq
  refine (stored8 _ _ r _ j).trans ((point_feature m c t r ⟨2304 + j.val, by omega⟩ _ fun k => part256 (iblk m c 2 t) 2304 (by omega) _ j k).trans ?_)
  refine rowFeature_congr _ _ _ ?_ ?_
  · show 128 * t.val + r.val = _
    blk_simp [a0, a1]
    omega
  · show 2304 + j.val = 2304 + _
    blk_simp [a0, a1]

theorem out9 : out0_9 (iblk m c 0 t) (iblk m c 1 t) (iblk m c 2 t) = k0_pay4 (k0_pay6 (iblk m c 0 t) (iblk m c 1 t)) (View.ld (iblk m c 2 t) (Rect.unit (s := S3584x1024) ![2560, 0] ![512, 1024] inb_S3584x1024_S512x1024_2560_0)) := by
  unfold_out out0_9; frame_out; rfl

theorem array9 : (dats m 0 c).arrAt 9 cfg0.N = rows512 (tokens m c) (gains m c) (weights m c) 2560 (by omega) := by
  refine (dats m 0 c).arrAt_eq_of_covers 9 _ (by decide +kernel) fun t hf y => ?_
  blk_simp
  rw [after0_9, out9]
  obtain ⟨_, _, _, _, _, _, ⟨a0, a1⟩, _⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored9 _ _ r _ j).trans ((point_feature m c t r ⟨2560 + j.val, by omega⟩ _ fun k => part512 (iblk m c 2 t) 2560 (by omega) _ j k).trans ?_)
  refine rowFeature_congr _ _ _ ?_ ?_
  · show 128 * t.val + r.val = _
    blk_simp [a0, a1]
    omega
  · show 2560 + j.val = 2560 + _
    blk_simp [a0, a1]

theorem out10 : out0_10 (iblk m c 0 t) (iblk m c 1 t) (iblk m c 2 t) = k0_pay5 (k0_pay6 (iblk m c 0 t) (iblk m c 1 t)) (View.ld (iblk m c 2 t) (Rect.unit (s := S3584x1024) ![3072, 0] ![512, 1024] inb_S3584x1024_S512x1024_3072_0)) := by
  unfold_out out0_10; frame_out; rfl

theorem array10 : (dats m 0 c).arrAt 10 cfg0.N = rows512 (tokens m c) (gains m c) (weights m c) 3072 (by omega) := by
  refine (dats m 0 c).arrAt_eq_of_covers 10 _ (by decide +kernel) fun t hf y => ?_
  blk_simp
  rw [after0_10, out10]
  obtain ⟨_, _, _, _, _, _, _, ⟨a0, a1⟩⟩ := idx_rows t
  obtain ⟨r, j, hq⟩ : ∃ (r : Fin 128) (j : Fin 512), y = ix2 r j :=
    ⟨y 0, y 1, by funext a; match a with | ⟨0, _⟩ => rfl | ⟨1, _⟩ => rfl⟩
  subst hq
  refine (stored10 _ _ r _ j).trans ((point_feature m c t r ⟨3072 + j.val, by omega⟩ _ fun k => part512 (iblk m c 2 t) 3072 (by omega) _ j k).trans ?_)
  refine rowFeature_congr _ _ _ ?_ ?_
  · show 128 * t.val + r.val = _
    blk_simp [a0, a1]
    omega
  · show 3072 + j.val = 3072 + _
    blk_simp [a0, a1]

end Cert.Kernel6Ideal.Project

end
-- ==== Proof.ProjectOddSample.Spec.lean ====
/- The odd layer's projection for the samples, feature by feature. -/
module

public import proofs.«01_k».proof.Kernel7Ideal
public import proofs.«01_k».proof.Proof.Project.Spec

@[expose] public section

noncomputable section

open Idealize.ShloMosaic

namespace Cert.Proof.ProjectOddSample

open Cert.Proof.Project (project)
open Cert.Kernel7Ideal

variable (X : FVec Ideal S32x4x1024 .f32) (g : FVec Ideal S1024 .f32) (W : FVec Ideal S1024x2864 .f32)

/-- Feature `j` of token `t` of sequence `b`. -/
def feature (b : Fin 32) (t : Fin 4) (j : Fin 2864) : EReal :=
  project (fun k => X (ix3 b t k)) (fun k => g (ix1 k)) (fun k => W (ix2 k j))

/-- Feature `j` of row `r`, where the sequences' tokens are the rows, one sequence after the other. -/
def rowFeature (r : Fin 128) (j : Fin 2864) : EReal := feature X g W ⟨r.val / 4, by omega⟩ ⟨r.val % 4, by omega⟩ j

/-- 1024 features from `o` of every row. -/
def rows1024 (o : ℕ) (ho : o + 1024 ≤ 2864) : S128x1024.Idx → EReal := fun i =>
  rowFeature X g W (i 0) ⟨o + (i 1).val, by have := (i 1).isLt; change _ < 1024 at this; omega⟩

/-- 128 features from `o` of every row. -/
def rows128 (o : ℕ) (ho : o + 128 ≤ 2864) : S128x128.Idx → EReal := fun i =>
  rowFeature X g W (i 0) ⟨o + (i 1).val, by have := (i 1).isLt; change _ < 128 at this; omega⟩

/-- 48 features from `o` of every row. -/
def rows48 (o : ℕ) (ho : o + 48 ≤ 2864) : S128x48.Idx → EReal := fun i =>
  rowFeature X g W (i 0) ⟨o + (i 1).val, by have := (i 1).isLt; change _ < 48 at this; omega⟩

theorem rowFeature_congr {r r' : Fin 128} {j j' : Fin 2864} (hr : r.val = r'.val) (hj : j.val = j'.val) :
    rowFeature X g W r j = rowFeature X g W r' j' := by
  rw [Fin.ext hr, Fin.ext hj]

end Cert.Proof.ProjectOddSample

end
-- ==== Proof.ProjectOddSample.Reference.lean ====
/- The reference's odd layer's projection for the samples, entry by entry. -/
module

public import proofs.«01_k».proof.Proof.Gen.Reference7Ideal.Run
public import proofs.«01_k».proof.Proof.ProjectOddSample.Spec

@[expose] public section

set_option maxRecDepth 16384

noncomputable section

open Idealize.ShloMosaic Idealize.ShloMosaic.TcCoe Idealize.SL.Sem

namespace Cert.Reference7Ideal.Project

open Cert.Proof.ProjectOddSample Cert.Reference7Ideal Cert.Reference7Ideal.Gen

variable (X : FVec Ideal S32x4x1024 .f32) (g : FVec Ideal S1024 .f32) (W : FVec Ideal S1024x2864 .f32)

/-- All the features of all the tokens. -/
def product : FVec Ideal S32x4x2864 .f32 :=
  Host.dotGeneral dot_S32x4x1024_S1024x2864_S32x4x2864_2_0_01_1_n_n none
    (mulf (mulf X (broadcastInDim S32x4x1024 ![0, 1, 2] bcast_S32x4x1_S32x4x1024_0_1_2
      (Host.rsqrt (addf (Host.divf (broadcastInDim S32x4x1 ![0, 1] bcast_S32x4_S32x4x1_0_1
        (Host.reduceAdd (mulf X X) (constant S_ .f32 0x00000000#32) reducesTo_S32x4x1024_S32x4_d2 h_S_))
        (broadcastInDim S32x4x1 ![] bcast_S_S32x4x1 (constant S_ .f32 0x44800000#32)))
        (broadcastInDim S32x4x1 ![] bcast_S_S32x4x1 (constant S_ .f32 0x358637BD#32))))))
      (broadcastInDim S32x4x1024 ![0, 1, 2] bcast_S1x1x1024_S32x4x1024_0_1_2 (broadcastInDim S1x1x1024 ![2] bcast_S1024_S1x1x1024_2 g))) W

theorem product_at (b : Fin 32) (t : Fin 4) (j : Fin 2864) : (product X g W (ix3 b t j) : EReal) = feature X g W b t j := by
  pointwise [product]
  rfl

/-- 1024 features from `o`. -/
theorem slice1024 (P : FVec Ideal S32x4x2864 .f32) (o : ℕ) (ho : o + 1024 ≤ 2864) (h) (b : Fin 32) (t : Fin 4) (j : Fin 1024) :
    extractStridedSlice S32x4x1024 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 128 features from `o`. -/
theorem slice128 (P : FVec Ideal S32x4x2864 .f32) (o : ℕ) (ho : o + 128 ≤ 2864) (h) (b : Fin 32) (t : Fin 4) (j : Fin 128) :
    extractStridedSlice S32x4x128 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 48 features from `o`. -/
theorem slice48 (P : FVec Ideal S32x4x2864 .f32) (o : ℕ) (ho : o + 48 ≤ 2864) (h) (b : Fin 32) (t : Fin 4) (j : Fin 48) :
    extractStridedSlice S32x4x48 ![0, 0, o] P h (ix3 b t j) = P (ix3 b t ⟨o + j.val, by omega⟩) := by
  unfold extractStridedSlice
  congr 1
  funext a
  apply Fin.ext
  match a with
  | ⟨0, _⟩ => show 0 + b.val = b.val; omega
  | ⟨1, _⟩ => show 0 + t.val = t.val; omega
  | ⟨2, _⟩ => rfl

/-- 1024 features as rows. -/
theorem flat1024 (P : FVec Ideal S32x4x1024 .f32) (r : Fin 128) (j : Fin 1024) :
    shapeCast S128x1024 P shapeCasts_S32x4x1024_S128x1024 (ix2 r j) = P (ix3 ⟨r.val / 4, by omega⟩ ⟨r.val % 4, by omega⟩ j) := by
  pointwise

theorem rows1024_eq (o : ℕ) (ho : o + 1024 ≤ 2864) (h) :
    shapeCast S128x1024 (extractStridedSlice S32x4x1024 ![0, 0, o] (product X g W) h) shapeCasts_S32x4x1024_S128x1024 = rows1024 X g W o ho := by
  funext i
  idx_vars i
  exact (flat1024 _ _ _).trans ((slice1024 _ o ho h _ _ _).trans (product_at X g W _ _ _))

/-- 128 features as rows. -/
theorem flat128 (P : FVec Ideal S32x4x128 .f32) (r : Fin 128) (j : Fin 128) :
    shapeCast S128x128 P shapeCasts_S32x4x128_S128x128 (ix2 r j) = P (ix3 ⟨r.val / 4, by omega⟩ ⟨r.val % 4, by omega⟩ j) := by
  pointwise

theorem rows128_eq (o : ℕ) (ho : o + 128 ≤ 2864) (h) :
    shapeCast S128x128 (extractStridedSlice S32x4x128 ![0, 0, o] (product X g W) h) shapeCasts_S32x4x128_S128x128 = rows128 X g W o ho := by
  funext i
  idx_vars i
  exact (flat128 _ _ _).trans ((slice128 _ o ho h _ _ _).trans (product_at X g W _ _ _))

/-- 48 features as rows. -/
theorem flat48 (P : FVec Ideal S32x4x48 .f32) (r : Fin 128) (j : Fin 48) :
    shapeCast S128x48 P shapeCasts_S32x4x48_S128x48 (ix2 r j) = P (ix3 ⟨r.val / 4, by omega⟩ ⟨r.val % 4, by omega⟩ j) := by
  pointwise

theorem rows48_eq (o : ℕ) (ho : o + 48 ≤ 2864) (h) :
    shapeCast S128x48 (extractStridedSlice S32x4x48 ![0, 0, o] (product X g W) h) shapeCasts_S32x4x48_S128x48 = rows48 X g W o ho := by
  funext i
  idx_vars i
  exact (flat48 _ _ _).trans ((slice48 _ o ho h _ _ _).trans (product_at X g W _ _ _))

end Cert.Reference7Ideal.Project

end
-- ==== Proof.ProjectOddSample.Payloads.lean ====
/- What the odd layer's projection for the samples computes of a block of rows. -/
module

public import proofs.«01_k».proof.Proof.Gen.Kernel7Ideal.Value
public import proofs.«01_k».proof.Proof.ProjectOddSample.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel7Ideal.Project

open Cert.Proof.Project (project)
open Cert.Proof.ProjectOddSample Cert.Kernel7Ideal Cert.Kernel7Ideal.Gen Cert.Kernel7Ideal.Value

section
variable (x : Vec Ideal S128x1024 .f32) (g : Vec Ideal S1x1024 .f32) (r : Fin 128)

/-- The projection of a block's row by a row of transposed weights. -/
def blockProject (u : Fin 1024 → EReal) : EReal := project (fun k => x (ix2 r k)) (fun k => g (ix2 0 k)) u

theorem stored3 (w : Vec Ideal S1024x1024 .bf16) (j : Fin 1024) : (k0_pay8 x g w (ix2 r j) : EReal) = blockProject x g r fun k => w (ix2 j k) := by
  pointwise [k0_pay8, k0_pay7]
  rfl

theorem stored4 (w : Vec Ideal S128x1024 .bf16) (j : Fin 128) : (k0_pay9 x g w (ix2 r j) : EReal) = blockProject x g r fun k => w (ix2 j k) := by
  pointwise [k0_pay9, k0_pay7]
  rfl

theorem stored5 (w : Vec Ideal S128x1024 .bf16) (j : Fin 128) : (k0_pay10 x g w (ix2 r j) : EReal) = blockProject x g r fun k => w (ix2 j k) := by
  pointwise [k0_pay10, k0_pay7]
  rfl

theorem stored6 (w : Vec Ideal S128x1024 .bf16) (j : Fin 128) : (k0_pay1 (k0_pay7 x g) (k0_pay11 w) (ix2 r j) : EReal) = blockProject x g r fun k => w (ix2 j k) := by
  pointwise [k0_pay1, k0_pay11, k0_pay7]
  rfl

theorem stored7 (w : Vec Ideal S128x1024 .bf16) (j : Fin 128) : (k0_pay2 (k0_pay7 x g) w (ix2 r j) : EReal) = blockProject x g r fun k => w (ix2 j k) := by
  pointwise [k0_pay2, k0_pay7]
  rfl

theorem stored8 (w : Vec Ideal S128x1024 .bf16) (j : Fin 128) : (k0_pay3 (k0_pay7 x g) w (ix2 r j) : EReal) = blockProject x g r fun k => w (ix2 j k) := by
  pointwise [k0_pay3, k0_pay7]
  rfl

theorem stored9 (w : Vec Ideal S128x1024 .bf16) (j : Fin 128) : (k0_pay4 (k0_pay7 x g) w (ix2 r j) : EReal) = blockProject x g r fun k => w (ix2 j k) := by
  pointwise [k0_pay4, k0_pay7]
  rfl

theorem stored10 (w : Vec Ideal S48x1024 .bf16) (j : Fin 48) : (k0_pay5 (k0_pay7 x g) w (ix2 r j) : EReal) = blockProject x g r fun k => w (ix2 j k) := by
  pointwise [k0_pay5, k0_pay7]
  rfl

theorem stored11 (w : Vec Ideal S1024x1024 .bf16) (j : Fin 1024) : (k0_pay6 (k0_pay7 x g) w (ix2 r j) : EReal) = blockProject x g r fun k => w (ix2 j k) := by
  pointwise [k0_pay6, k0_pay7]
  rfl

/-- A part of 1024 rows of the weights. -/
theorem part1024 (A : Vec Ideal S2864x1024 .bf16) (o : ℕ) (ho : o + 1024 ≤ 2864) (h) (j : Fin 1024) (k : Fin 1024) :
    (View.ld A (Rect.unit (s := S2864x1024) ![o, 0] ![1024, 1024] h) : Vec Ideal S1024x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

/-- A part of 128 rows of the weights. -/
theorem part128 (A : Vec Ideal S2864x1024 .bf16) (o : ℕ) (ho : o + 128 ≤ 2864) (h) (j : Fin 128) (k : Fin 1024) :
    (View.ld A (Rect.unit (s := S2864x1024) ![o, 0] ![128, 1024] h) : Vec Ideal S128x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

/-- A part of 48 rows of the weights. -/
theorem part48 (A : Vec Ideal S2864x1024 .bf16) (o : ℕ) (ho : o + 48 ≤ 2864) (h) (j : Fin 48) (k : Fin 1024) :
    (View.ld A (Rect.unit (s := S2864x1024) ![o, 0] ![48, 1024] h) : Vec Ideal S48x1024 .bf16) (ix2 j k) = A (ix2 ⟨o + j.val, by omega⟩ k) := by
  rw [View.ld_apply]
  congr 1
  funext a
  apply Fin.ext
  match a with
  | ⟨0, _⟩ => show o + 1 * j.val = o + j.val; omega
  | ⟨1, _⟩ => show 0 + 1 * k.val = k.val; omega

end

/-- Where the windows read by the point `t` lie. -/
theorem idx_in : ∀ t : Fin grid0.N, ((win0 0).index t 0 = t.val ∧ (win0 0).index t 1 = 0)
    ∧ ((win0 1).index t 0 = 0 ∧ (win0 1).index t 1 = 0) ∧ ((win0 2).index t 0 = 0 ∧ (win0 2).index t 1 = 0) := by decide +kernel

theorem tokens_at (X : FVec Ideal S32x4x1024 .f32) (r : Fin 128) (k : Fin 1024) :
    shapeCast S128x1024 X shapeCasts_S32x4x1024_S128x1024 (ix2 r k) = X (ix3 ⟨r.val / 4, by omega⟩ ⟨r.val % 4, by omega⟩ k) := by
  pointwise

theorem gains_at (g : FVec Ideal S1024 .f32) (k : Fin 1024) : shapeCast S1x1024 g shapeCasts_S1024_S1x1024 (ix2 0 k) = g (ix1 k) := by
  pointwise

theorem weights_at (W : FVec Ideal S1024x2864 .f32) (j : Fin 2864) (k : Fin 1024) :
    (truncf (F := Ideal) .bf16 (transpose S2864x1024 [1, 0] W transposes_S1024x2864_S2864x1024_1_0) bitsLt_bf16_f32 (ix2 j k) : EReal) = W (ix2 k j) := by
  pointwise

variable (m : (ℓ : Loc nD τ sig) → Buf (Elt Ideal) ℓ) (c : Dev nD) (t : Fin cfg0.N)

theorem host : V m c main_v0 = shapeCast S128x1024 (m ((c : Thread nD τ).loc main_arg0) : FVec Ideal S32x4x1024 .f32) shapeCasts_S32x4x1024_S128x1024
    ∧ V m c main_v3 = shapeCast S1x1024 (m ((c : Thread nD τ).loc main_arg1) : FVec Ideal S1024 .f32) shapeCasts_S1024_S1x1024
    ∧ V m c main_v2 = truncf (F := Ideal) .bf16 (transpose S2864x1024 [1, 0] (m ((c : Thread nD τ).loc main_arg2) : FVec Ideal S1024x2864 .f32)
        transposes_S1024x2864_S2864x1024_1_0) bitsLt_bf16_f32 := by
  refine ⟨?_, ?_, ?_⟩ <;> (simp only [V]; after_reads_simp) <;> rfl

theorem ht : t.val < 1 := lt_of_lt_of_eq t.isLt N_0

theorem x_block (r : Fin 128) (k : Fin 1024) : (iblk m c 0 t : FVec Ideal S128x1024 .f32) (ix2 r k)
    = (m ((c : Thread nD τ).loc main_arg0) : FVec Ideal S32x4x1024 .f32) (ix3 ⟨(128 * t.val + r.val) / 4, by have := ht t; omega⟩ ⟨(128 * t.val + r.val) % 4, by omega⟩ k) := by
  obtain ⟨⟨a0, a1⟩, _⟩ := idx_in t
  have := ht t
  refine Eq.trans (b := V m c main_v0 (ix2 ⟨128 * t.val + r.val, by omega⟩ k)) ?_ ?_
  · blk_ext [iblk, a0, a1]
  · rw [(host m c).1]
    exact tokens_at _ _ _

theorem g_block (k : Fin 1024) : (iblk m c 1 t : FVec Ideal S1x1024 .f32) (ix2 0 k)
    = (m ((c : Thread nD τ).loc main_arg1) : FVec Ideal S1024 .f32) (ix1 k) := by
  obtain ⟨_, ⟨a0, a1⟩, _⟩ := idx_in t
  refine Eq.trans (b := V m c main_v3 (ix2 0 k)) ?_ ?_
  · blk_ext [iblk, a0, a1]
  · rw [(host m c).2.1]
    exact gains_at _ _

theorem w_block (j : Fin 2864) (k : Fin 1024) : ((iblk m c 2 t : FVec Ideal S2864x1024 .bf16) (ix2 j k) : EReal)
    = (m ((c : Thread nD τ).loc main_arg2) : FVec Ideal S1024x2864 .f32) (ix2 k j) := by
  obtain ⟨_, _, ⟨a0, a1⟩⟩ := idx_in t
  refine Eq.trans (b := V m c main_v2 (ix2 j k)) ?_ ?_
  · blk_ext [iblk, a0, a1]
  · rw [(host m c).2.2]
    exact weights_at _ _ _

/-- A point's projection of a row is that row's feature. -/
theorem point_feature (r : Fin 128) (j : Fin 2864) (u : Fin 1024 → EReal)
    (hu : ∀ k, u k = (iblk m c 2 t : FVec Ideal S2864x1024 .bf16) (ix2 j k)) :
    blockProject (iblk m c 0 t) (iblk m c 1 t) r u
      = rowFeature (m ((c : Thread nD τ).loc main_arg0)) (m ((c : Thread nD τ).loc main_arg1)) (m ((c : Thread nD τ).loc main_arg2))
        ⟨128 * t.val + r.val, by have := ht t; omega⟩ j := by
  have h0 : (fun k => (iblk m c 0 t : FVec Ideal S128x1024 .f32) (ix2 r k)) = _ := funext fun k => x_block m c t r k
  have h1 : (fun k => (iblk m c 1 t : FVec Ideal S1x1024 .f32) (ix2 0 k)) = _ := funext fun k => g_block m c t k
  have h2 : u = _ := funext fun k => (hu k).trans (w_block m c t j k)
  rw [blockProject, h0, h1, h2]
  rfl

end Cert.Kernel7Ideal.Project

end
-- ==== Proof.ProjectOddSample.Arrays.lean ====
/- The arrays the odd layer's projection for the samples leaves. -/
module

public import proofs.«01_k».proof.Proof.ProjectOddSample.Payloads

@[expose] public section

set_option maxRecDepth 16384

noncomputable section

open Idealize.ShloMosaic Idealize.ShloMosaic.TcCoe Idealize.SL.Sem

namespace Cert.Kernel7Ideal.Project

open Cert.Proof.ProjectOddSample Cert.Kernel7Ideal Cert.Kernel7Ideal.Gen Cert.Kernel7Ideal.Value

variable (m : (ℓ : Loc nD τ sig) → Buf (Elt Ideal) ℓ) (c : Dev nD) (t : Fin cfg0.N)

/-- The arguments. -/
abbrev tokens : FVec Ideal S32x4x1024 .f32 := m ((c : Thread nD τ).loc main_arg0)
abbrev gains : FVec Ideal S1024 .f32 := m ((c : Thread nD τ).loc main_arg1)
abbrev weights : FVec Ideal S1024x2864 .f32 := m ((c : Thread nD τ).loc main_arg2)

/-- Where the windows of rows written by the point `t` lie. -/
theorem idx_rows : ∀ t : Fin grid0.N, ((win0 3).index t 0 = t.val ∧ (win0 3).index t 1 = 0)
    ∧ ((win0 4).index t 0 = t.val ∧ (win0 4).index t 1 = 0)
    ∧ ((win0 5).index t 0 = t.val ∧ (win0 5).index t 1 = 0)
    ∧ ((win0 6).index t 0 = t.val ∧ (win0 6).index t 1 = 0)
    ∧ ((win0 7).index t 0 = t.val ∧ (win0 7).index t 1 = 0)
    ∧ ((win0 8).index t 0 = t.val ∧ (win0 8).index t 1 = 0)
    ∧ ((win0 9).index t 0 = t.val ∧ (win0 9).index t 1 = 0)
    ∧ ((win0 10).index t 0 = t.val ∧ (win0 10).index t 1 = 0)
    ∧ ((win0 11).index t 0 = t.val ∧ (win0 11).index t 1 = 0) := by decide +kernel

theorem out3 : out0_3 (iblk m c 0 t) (iblk m c 1 t) (iblk m c 2 t) = k0_pay8 (iblk m c 0 t) (iblk m c 1 t) (View.ld (iblk m c 2 t) (Rect.unit (s := S2864x1024) ![0, 0] ![1024, 1024] inb_S2864x1024_S1024x1024_0_0)) := by
  unfold_out out0_3; frame_out; rfl

theorem array3 : (dats m 0 c).arrAt 3 cfg0.N = rows1024 (tokens m c) (gains m c) (weights m c) 0 (by omega) := by
  refine (dats m 0 c).arrAt_eq_of_covers 3 _ (by decide +kernel) fun t hf y => ?_
  blk_simp
  rw [after0_3, out3]
  obtain ⟨⟨a0, a1⟩, _, _, _, _, _, _, _, _⟩ := idx_rows t
  obtain ⟨r, j, hq⟩ : ∃ (r : Fin 128) (j : Fin 1024), y = ix2 r j :=
    ⟨y 0, y 1, by funext a; match a with | ⟨0, _⟩ => rfl | ⟨1, _⟩ => rfl⟩
  subst hq
  refine (stored3 _ _ r _ j).trans ((point_feature m c t r ⟨0 + j.val, by omega⟩ _ fun k => part1024 (iblk m c 2 t) 0 (by omega) _ j k).trans ?_)
  refine rowFeature_congr _ _ _ ?_ ?_
  · show 128 * t.val + r.val = _
    blk_simp [a0, a1]
    omega
  · show 0 + j.val = 0 + _
    blk_simp [a0, a1]

theorem out4 : out0_4 (iblk m c 0 t) (iblk m c 1 t) (iblk m c 2 t) = k0_pay9 (iblk m c 0 t) (iblk m c 1 t) (View.ld (iblk m c 2 t) (Rect.unit (s := S2864x1024) ![1024, 0] ![128, 1024] inb_S2864x1024_S128x1024_1024_0)) := by
  unfold_out out0_4; frame_out; rfl

theorem array4 : (dats m 0 c).arrAt 4 cfg0.N = rows128 (tokens m c) (gains m c) (weights m c) 1024 (by omega) := by
  refine (dats m 0 c).arrAt_eq_of_covers 4 _ (by decide +kernel) fun t hf y => ?_
  blk_simp
  rw [after0_4, out4]
  obtain ⟨_, ⟨a0, a1⟩, _, _, _, _, _, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored4 _ _ r _ j).trans ((point_feature m c t r ⟨1024 + j.val, by omega⟩ _ fun k => part128 (iblk m c 2 t) 1024 (by omega) _ j k).trans ?_)
  refine rowFeature_congr _ _ _ ?_ ?_
  · show 128 * t.val + r.val = _
    blk_simp [a0, a1]
    omega
  · show 1024 + j.val = 1024 + _
    blk_simp [a0, a1]

theorem out5 : out0_5 (iblk m c 0 t) (iblk m c 1 t) (iblk m c 2 t) = k0_pay10 (iblk m c 0 t) (iblk m c 1 t) (View.ld (iblk m c 2 t) (Rect.unit (s := S2864x1024) ![1152, 0] ![128, 1024] inb_S2864x1024_S128x1024_1152_0)) := by
  unfold_out out0_5; frame_out; rfl

theorem array5 : (dats m 0 c).arrAt 5 cfg0.N = rows128 (tokens m c) (gains m c) (weights m c) 1152 (by omega) := by
  refine (dats m 0 c).arrAt_eq_of_covers 5 _ (by decide +kernel) fun t hf y => ?_
  blk_simp
  rw [after0_5, out5]
  obtain ⟨_, _, ⟨a0, a1⟩, _, _, _, _, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored5 _ _ r _ j).trans ((point_feature m c t r ⟨1152 + j.val, by omega⟩ _ fun k => part128 (iblk m c 2 t) 1152 (by omega) _ j k).trans ?_)
  refine rowFeature_congr _ _ _ ?_ ?_
  · show 128 * t.val + r.val = _
    blk_simp [a0, a1]
    omega
  · show 1152 + j.val = 1152 + _
    blk_simp [a0, a1]

theorem out6 : out0_6 (iblk m c 0 t) (iblk m c 1 t) (iblk m c 2 t) = k0_pay1 (k0_pay7 (iblk m c 0 t) (iblk m c 1 t)) (k0_pay11 (View.ld (iblk m c 2 t) (Rect.unit (s := S2864x1024) ![1280, 0] ![128, 1024] inb_S2864x1024_S128x1024_1280_0))) := by
  unfold_out out0_6; frame_out; rfl

theorem array6 : (dats m 0 c).arrAt 6 cfg0.N = rows128 (tokens m c) (gains m c) (weights m c) 1280 (by omega) := by
  refine (dats m 0 c).arrAt_eq_of_covers 6 _ (by decide +kernel) fun t hf y => ?_
  blk_simp
  rw [after0_6, out6]
  obtain ⟨_, _, _, ⟨a0, a1⟩, _, _, _, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored6 _ _ r _ j).trans ((point_feature m c t r ⟨1280 + j.val, by omega⟩ _ fun k => part128 (iblk m c 2 t) 1280 (by omega) _ j k).trans ?_)
  refine rowFeature_congr _ _ _ ?_ ?_
  · show 128 * t.val + r.val = _
    blk_simp [a0, a1]
    omega
  · show 1280 + j.val = 1280 + _
    blk_simp [a0, a1]

theorem out7 : out0_7 (iblk m c 0 t) (iblk m c 1 t) (iblk m c 2 t) = k0_pay2 (k0_pay7 (iblk m c 0 t) (iblk m c 1 t)) (View.ld (iblk m c 2 t) (Rect.unit (s := S2864x1024) ![1408, 0] ![128, 1024] inb_S2864x1024_S128x1024_1408_0)) := by
  unfold_out out0_7; frame_out; rfl

theorem array7 : (dats m 0 c).arrAt 7 cfg0.N = rows128 (tokens m c) (gains m c) (weights m c) 1408 (by omega) := by
  refine (dats m 0 c).arrAt_eq_of_covers 7 _ (by decide +kernel) fun t hf y => ?_
  blk_simp
  rw [after0_7, out7]
  obtain ⟨_, _, _, _, ⟨a0, a1⟩, _, _, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored7 _ _ r _ j).trans ((point_feature m c t r ⟨1408 + j.val, by omega⟩ _ fun k => part128 (iblk m c 2 t) 1408 (by omega) _ j k).trans ?_)
  refine rowFeature_congr _ _ _ ?_ ?_
  · show 128 * t.val + r.val = _
    blk_simp [a0, a1]
    omega
  · show 1408 + j.val = 1408 + _
    blk_simp [a0, a1]

theorem out8 : out0_8 (iblk m c 0 t) (iblk m c 1 t) (iblk m c 2 t) = k0_pay3 (k0_pay7 (iblk m c 0 t) (iblk m c 1 t)) (View.ld (iblk m c 2 t) (Rect.unit (s := S2864x1024) ![1536, 0] ![128, 1024] inb_S2864x1024_S128x1024_1536_0)) := by
  unfold_out out0_8; frame_out; rfl

theorem array8 : (dats m 0 c).arrAt 8 cfg0.N = rows128 (tokens m c) (gains m c) (weights m c) 1536 (by omega) := by
  refine (dats m 0 c).arrAt_eq_of_covers 8 _ (by decide +kernel) fun t hf y => ?_
  blk_simp
  rw [after0_8, out8]
  obtain ⟨_, _, _, _, _, ⟨a0, a1⟩, _, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored8 _ _ r _ j).trans ((point_feature m c t r ⟨1536 + j.val, by omega⟩ _ fun k => part128 (iblk m c 2 t) 1536 (by omega) _ j k).trans ?_)
  refine rowFeature_congr _ _ _ ?_ ?_
  · show 128 * t.val + r.val = _
    blk_simp [a0, a1]
    omega
  · show 1536 + j.val = 1536 + _
    blk_simp [a0, a1]

theorem out9 : out0_9 (iblk m c 0 t) (iblk m c 1 t) (iblk m c 2 t) = k0_pay4 (k0_pay7 (iblk m c 0 t) (iblk m c 1 t)) (View.ld (iblk m c 2 t) (Rect.unit (s := S2864x1024) ![1664, 0] ![128, 1024] inb_S2864x1024_S128x1024_1664_0)) := by
  unfold_out out0_9; frame_out; rfl

theorem array9 : (dats m 0 c).arrAt 9 cfg0.N = rows128 (tokens m c) (gains m c) (weights m c) 1664 (by omega) := by
  refine (dats m 0 c).arrAt_eq_of_covers 9 _ (by decide +kernel) fun t hf y => ?_
  blk_simp
  rw [after0_9, out9]
  obtain ⟨_, _, _, _, _, _, ⟨a0, a1⟩, _, _⟩ := idx_rows t
  obtain ⟨r, j, hq⟩ : ∃ (r : Fin 128) (j : Fin 128), y = ix2 r j :=
    ⟨y 0, y 1, by funext a; match a with | ⟨0, _⟩ => rfl | ⟨1, _⟩ => rfl⟩
  subst hq
  refine (stored9 _ _ r _ j).trans ((point_feature m c t r ⟨1664 + j.val, by omega⟩ _ fun k => part128 (iblk m c 2 t) 1664 (by omega) _ j k).trans ?_)
  refine rowFeature_congr _ _ _ ?_ ?_
  · show 128 * t.val + r.val = _
    blk_simp [a0, a1]
    omega
  · show 1664 + j.val = 1664 + _
    blk_simp [a0, a1]

theorem out10 : out0_10 (iblk m c 0 t) (iblk m c 1 t) (iblk m c 2 t) = k0_pay5 (k0_pay7 (iblk m c 0 t) (iblk m c 1 t)) (View.ld (iblk m c 2 t) (Rect.unit (s := S2864x1024) ![1792, 0] ![48, 1024] inb_S2864x1024_S48x1024_1792_0)) := by
  unfold_out out0_10; frame_out; rfl

theorem array10 : (dats m 0 c).arrAt 10 cfg0.N = rows48 (tokens m c) (gains m c) (weights m c) 1792 (by omega) := by
  refine (dats m 0 c).arrAt_eq_of_covers 10 _ (by decide +kernel) fun t hf y => ?_
  blk_simp
  rw [after0_10, out10]
  obtain ⟨_, _, _, _, _, _, _, ⟨a0, a1⟩, _⟩ := idx_rows t
  obtain ⟨r, j, hq⟩ : ∃ (r : Fin 128) (j : Fin 48), y = ix2 r j :=
    ⟨y 0, y 1, by funext a; match a with | ⟨0, _⟩ => rfl | ⟨1, _⟩ => rfl⟩
  subst hq
  refine (stored10 _ _ r _ j).trans ((point_feature m c t r ⟨1792 + j.val, by omega⟩ _ fun k => part48 (iblk m c 2 t) 1792 (by omega) _ j k).trans ?_)
  refine rowFeature_congr _ _ _ ?_ ?_
  · show 128 * t.val + r.val = _
    blk_simp [a0, a1]
    omega
  · show 1792 + j.val = 1792 + _
    blk_simp [a0, a1]

theorem out11 : out0_11 (iblk m c 0 t) (iblk m c 1 t) (iblk m c 2 t) = k0_pay6 (k0_pay7 (iblk m c 0 t) (iblk m c 1 t)) (View.ld (iblk m c 2 t) (Rect.unit (s := S2864x1024) ![1840, 0] ![1024, 1024] inb_S2864x1024_S1024x1024_1840_0)) := by
  unfold_out out0_11; frame_out; rfl

theorem array11 : (dats m 0 c).arrAt 11 cfg0.N = rows1024 (tokens m c) (gains m c) (weights m c) 1840 (by omega) := by
  refine (dats m 0 c).arrAt_eq_of_covers 11 _ (by decide +kernel) fun t hf y => ?_
  blk_simp
  rw [after0_11, out11]
  obtain ⟨_, _, _, _, _, _, _, _, ⟨a0, a1⟩⟩ := idx_rows t
  obtain ⟨r, j, hq⟩ : ∃ (r : Fin 128) (j : Fin 1024), y = ix2 r j :=
    ⟨y 0, y 1, by funext a; match a with | ⟨0, _⟩ => rfl | ⟨1, _⟩ => rfl⟩
  subst hq
  refine (stored11 _ _ r _ j).trans ((point_feature m c t r ⟨1840 + j.val, by omega⟩ _ fun k => part1024 (iblk m c 2 t) 1840 (by omega) _ j k).trans ?_)
  refine rowFeature_congr _ _ _ ?_ ?_
  · show 128 * t.val + r.val = _
    blk_simp [a0, a1]
    omega
  · show 1840 + j.val = 1840 + _
    blk_simp [a0, a1]

end Cert.Kernel7Ideal.Project

end
-- ==== Proof.OutOdd.Spec.lean ====
/- The odd layer's output for the prompts, feature by feature. -/
module

public import proofs.«01_k».proof.Kernel5Ideal
public import proofs.«01_k».proof.Proof.Project.Spec

@[expose] public section

noncomputable section

open Idealize.ShloMosaic

namespace Cert.Proof.OutOdd

open Cert.Proof.Project (scale)
open Cert.Kernel5Ideal

/-- A value times its logistic function. -/
def silu (z : EReal) : EReal := z * Ideal.logistic z

/-- A row with the gated attention's product with the weights added. -/
def hidden (x o z : Fin 1024 → EReal) (w : Fin 1024 → Fin 1024 → EReal) (j : Fin 1024) : EReal := x j + ∑ k, o k * silu (z k) * w k j

/-- Such a row brought to root mean square one, with its gains. -/
def output (x o z : Fin 1024 → EReal) (w : Fin 1024 → Fin 1024 → EReal) (g : Fin 1024 → EReal) (j : Fin 1024) : EReal :=
  hidden x o z w j * scale (hidden x o z w) * g j

variable (X : FVec Ideal S4x4096x1024 .f32) (O : FVec Ideal S4x4096x16x64 .bf16) (Z : FVec Ideal S4x4096x1024 .bf16) (W : FVec Ideal S1024x1024 .f32) (g : FVec Ideal S1024 .f32)

/-- The attention's value `k` for token `t` of sequence `b`: the heads one after the other. -/
def attention (b : Fin 4) (t : Fin 4096) (k : Fin 1024) : EReal :=
  O (ix4 b t ⟨k.val / 64, by omega⟩ ⟨k.val % 64, by omega⟩)

/-- Feature `j` of token `t` of sequence `b`. -/
def feature (b : Fin 4) (t : Fin 4096) (j : Fin 1024) : EReal :=
  output (fun k => X (ix3 b t k)) (fun k => attention O b t k) (fun k => Z (ix3 b t k)) (fun k j => W (ix2 k j)) (fun k => g (ix1 k)) j

/-- Feature `j` of row `r`, where the sequences' tokens are the rows, one sequence after the other. -/
def rowFeature (r : Fin 16384) (j : Fin 1024) : EReal := feature X O Z W g ⟨r.val / 4096, by omega⟩ ⟨r.val % 4096, by omega⟩ j

/-- All features of every row. -/
def rows : S16384x1024.Idx → EReal := fun i => rowFeature X O Z W g (i 0) (i 1)

theorem rowFeature_congr {r r' : Fin 16384} {j j' : Fin 1024} (hr : r.val = r'.val) (hj : j.val = j'.val) :
    rowFeature X O Z W g r j = rowFeature X O Z W g r' j' := by
  rw [Fin.ext hr, Fin.ext hj]

end Cert.Proof.OutOdd

end
-- ==== Proof.OutEven.Spec.lean ====
/- The even layer's output for the prompts, feature by feature. -/
module

public import proofs.«01_k».proof.Kernel4Ideal
public import proofs.«01_k».proof.Proof.OutOdd.Spec

@[expose] public section

noncomputable section

open Idealize.ShloMosaic

namespace Cert.Proof.OutEven

open Cert.Proof.OutOdd (silu)
open Cert.Kernel4Ideal

/-- A head's values less their mean. -/
def centred (v : Fin 128 → EReal) (k : Fin 128) : EReal := v k - Ideal.div (∑ i, v i) (Ideal.ofBits .f32 0x43000000#32)

/-- A head's values less their mean, brought to variance one. -/
def standard (v : Fin 128 → EReal) (k : Fin 128) : EReal :=
  centred v k * Ideal.rsqrt (Ideal.div (∑ i, centred v i * centred v i) (Ideal.ofBits .f32 0x43000000#32) + Ideal.ofBits .f32 0x3727C5AC#32)

/-- The values of head `h` among those of all the heads. -/
def head (v : Fin 512 → EReal) (h : Fin 4) (k : Fin 128) : EReal := v ⟨128 * h.val + k.val, by omega⟩

/-- The gated values of head `h`. -/
def gatedHead (v z : Fin 512 → EReal) (h : Fin 4) (k : Fin 128) : EReal := standard (head v h) k * silu (head z h k)

/-- The row the weights multiply: the gated attention, then the gated heads one after the other. -/
def mixed (a za v zb : Fin 512 → EReal) (k : Fin 1024) : EReal :=
  if hk : k.val < 512 then a ⟨k.val, hk⟩ * silu (za ⟨k.val, hk⟩)
  else gatedHead v zb ⟨(k.val - 512) / 128, by omega⟩ ⟨(k.val - 512) % 128, by omega⟩

/-- A row with that row's product with the weights added. -/
def output (x : Fin 1024 → EReal) (a za v zb : Fin 512 → EReal) (w : Fin 1024 → Fin 1024 → EReal) (j : Fin 1024) : EReal :=
  x j + ∑ k, mixed a za v zb k * w k j

/-- A sum over 1024 is the sum over the first 512 and four sums over 128. -/
theorem sum_parts (f : Fin 1024 → EReal) :
    ∑ k, f k = (((∑ k : Fin 512, f ⟨k.val, by omega⟩) + ∑ k : Fin 128, f ⟨512 + k.val, by omega⟩)
      + ∑ k : Fin 128, f ⟨640 + k.val, by omega⟩) + ∑ k : Fin 128, f ⟨768 + k.val, by omega⟩ + ∑ k : Fin 128, f ⟨896 + k.val, by omega⟩ := by
  have e1 := Fin.sum_univ_add (a := 896) (b := 128) f
  have e2 := Fin.sum_univ_add (a := 768) (b := 128) fun k => f (Fin.castAdd 128 k)
  have e3 := Fin.sum_univ_add (a := 640) (b := 128) fun k => f (Fin.castAdd 128 (Fin.castAdd 128 k))
  have e4 := Fin.sum_univ_add (a := 512) (b := 128) fun k => f (Fin.castAdd 128 (Fin.castAdd 128 (Fin.castAdd 128 k)))
  exact e1.trans (congrArg (· + _) (e2.trans (congrArg (· + _) (e3.trans (congrArg (· + _) e4)))))

/-- The first 512 values of the row. -/
theorem mixed_attention (a za v zb : Fin 512 → EReal) (k : Fin 512) : mixed a za v zb ⟨k.val, by omega⟩ = a k * silu (za k) := by
  unfold mixed
  rw [dif_pos k.isLt]

/-- The values of head `h`. -/
theorem mixed_head (a za v zb : Fin 512 → EReal) (h : Fin 4) (o : ℕ) (ho : o = 512 + 128 * h.val) (k : Fin 128) :
    mixed a za v zb ⟨o + k.val, by omega⟩ = gatedHead v zb h k := by
  subst ho
  unfold mixed
  rw [dif_neg (by simp only; omega)]
  congr 1
  · apply Fin.ext; show (512 + 128 * h.val + k.val - 512) / 128 = h.val; omega
  · apply Fin.ext; show (512 + 128 * h.val + k.val - 512) % 128 = k.val; omega

/-- The output as the sums a block takes one after the other. -/
theorem output_parts (x : Fin 1024 → EReal) (a za v zb : Fin 512 → EReal) (w : Fin 1024 → Fin 1024 → EReal) (j : Fin 1024) :
    output x a za v zb w j = ((((x j + ∑ k : Fin 512, a k * silu (za k) * w ⟨k.val, by omega⟩ j)
      + ∑ k : Fin 128, gatedHead v zb 0 k * w ⟨512 + k.val, by omega⟩ j)
      + ∑ k : Fin 128, gatedHead v zb 1 k * w ⟨640 + k.val, by omega⟩ j)
      + ∑ k : Fin 128, gatedHead v zb 2 k * w ⟨768 + k.val, by omega⟩ j)
      + ∑ k : Fin 128, gatedHead v zb 3 k * w ⟨896 + k.val, by omega⟩ j := by
  unfold output
  rw [sum_parts]
  simp only [mixed_attention, mixed_head a za v zb 0 512 rfl, mixed_head a za v zb 1 640 rfl, mixed_head a za v zb 2 768 rfl,
    mixed_head a za v zb 3 896 rfl, add_assoc]

variable (X : FVec Ideal S4x4096x1024 .f32) (A : FVec Ideal S4x4096x8x64 .bf16) (O : FVec Ideal S4x4096x4x128 .bf16)
  (Za Zb : FVec Ideal S4x4096x512 .bf16) (W : FVec Ideal S1024x1024 .f32)

/-- The attention's value `k` for token `t` of sequence `b`: the heads one after the other. -/
def attention (b : Fin 4) (t : Fin 4096) (k : Fin 512) : EReal := A (ix4 b t ⟨k.val / 64, by omega⟩ ⟨k.val % 64, by omega⟩)

/-- The retention's value `k` for token `t` of sequence `b`: the heads one after the other. -/
def retention (b : Fin 4) (t : Fin 4096) (k : Fin 512) : EReal := O (ix4 b t ⟨k.val / 128, by omega⟩ ⟨k.val % 128, by omega⟩)

/-- Feature `j` of token `t` of sequence `b`. -/
def feature (b : Fin 4) (t : Fin 4096) (j : Fin 1024) : EReal :=
  output (fun k => X (ix3 b t k)) (fun k => attention A b t k) (fun k => Za (ix3 b t k)) (fun k => retention O b t k) (fun k => Zb (ix3 b t k))
    (fun k j => W (ix2 k j)) j

/-- Feature `j` of row `r`, where the sequences' tokens are the rows, one sequence after the other. -/
def rowFeature (r : Fin 16384) (j : Fin 1024) : EReal := feature X A O Za Zb W ⟨r.val / 4096, by omega⟩ ⟨r.val % 4096, by omega⟩ j

/-- All features of every row. -/
def rows : S16384x1024.Idx → EReal := fun i => rowFeature X A O Za Zb W (i 0) (i 1)

theorem rowFeature_congr {r r' : Fin 16384} {j j' : Fin 1024} (hr : r.val = r'.val) (hj : j.val = j'.val) :
    rowFeature X A O Za Zb W r j = rowFeature X A O Za Zb W r' j' := by
  rw [Fin.ext hr, Fin.ext hj]

end Cert.Proof.OutEven

end
-- ==== Proof.OutEven.Reference.lean ====
/- The reference's even layer's output for the prompts, entry by entry. -/
module

public import proofs.«01_k».proof.Proof.Gen.Reference4Ideal.Run
public import proofs.«01_k».proof.Proof.OutEven.Spec

@[expose] public section

set_option maxRecDepth 16384

noncomputable section

open Idealize.ShloMosaic Idealize.ShloMosaic.TcCoe Idealize.SL.Sem

namespace Cert.Reference4Ideal.Out

open Cert.Proof.OutOdd (silu)
open Cert.Proof.OutEven Cert.Reference4Ideal Cert.Reference4Ideal.Gen

variable (X : FVec Ideal S4x4096x1024 .f32) (A : FVec Ideal S4x4096x8x64 .bf16) (O : FVec Ideal S4x4096x4x128 .bf16)
  (Z Za Zb : FVec Ideal S4x4096x512 .bf16) (W : FVec Ideal S1024x1024 .f32)

/-- A gate. -/
def gate : FVec Ideal S4x4096x512 .f32 :=
  mulf (extf .f32 Z bitsLt_bf16_f32) (Host.divf (broadcastInDim S4x4096x512 ![] bcast_S_S4x4096x512 (constant S_ .f32 0x3F800000#32))
    (addf (broadcastInDim S4x4096x512 ![] bcast_S_S4x4096x512 (constant S_ .f32 0x3F800000#32)) (Host.exp (Host.negf (extf .f32 Z bitsLt_bf16_f32)))))

theorem gate_at (b : Fin 4) (t : Fin 4096) (k : Fin 512) : (gate Z (ix3 b t k) : EReal) = silu (Z (ix3 b t k)) := by
  pointwise [gate, silu, Ideal.logistic]

/-- The attention, gated. -/
def gatedAttention : FVec Ideal S4x4096x512 .f32 := mulf (shapeCast _ (extf .f32 A bitsLt_bf16_f32) shapeCasts_S4x4096x8x64_S4x4096x512) (gate Za)

theorem gatedAttention_at (b : Fin 4) (t : Fin 4096) (k : Fin 512) :
    (gatedAttention A Za (ix3 b t k) : EReal) = attention A b t k * silu (Za (ix3 b t k)) := by
  pointwise [gatedAttention, attention, gate_at]

/-- The heads less their means. -/
def deviation : FVec Ideal S4x4096x4x128 .f32 :=
  subf (extf .f32 O bitsLt_bf16_f32) (broadcastInDim S4x4096x4x128 ![0, 1, 2, 3] bcast_S4x4096x4x1_S4x4096x4x128_0_1_2_3
    (Host.divf (broadcastInDim S4x4096x4x1 ![0, 1, 2] bcast_S4x4096x4_S4x4096x4x1_0_1_2
      (Host.reduceAdd (extf .f32 O bitsLt_bf16_f32) (constant S_ .f32 0x00000000#32) reducesTo_S4x4096x4x128_S4x4096x4_d3 h_S_))
      (broadcastInDim S4x4096x4x1 ![] bcast_S_S4x4096x4x1 (constant S_ .f32 0x43000000#32))))

theorem deviation_at (b : Fin 4) (t : Fin 4096) (h : Fin 4) (k : Fin 128) :
    (deviation O (ix4 b t h k) : EReal) = centred (fun i => O (ix4 b t h i)) k := by
  pointwise [deviation]
  rfl

/-- The heads less their means, brought to variance one. -/
def normed : FVec Ideal S4x4096x4x128 .f32 :=
  mulf (deviation O) (broadcastInDim S4x4096x4x128 ![0, 1, 2, 3] bcast_S4x4096x4x1_S4x4096x4x128_0_1_2_3
    (Host.rsqrt (addf (Host.divf (broadcastInDim S4x4096x4x1 ![0, 1, 2] bcast_S4x4096x4_S4x4096x4x1_0_1_2
      (Host.reduceAdd (mulf (deviation O) (deviation O)) (constant S_ .f32 0x00000000#32) reducesTo_S4x4096x4x128_S4x4096x4_d3 h_S_))
      (broadcastInDim S4x4096x4x1 ![] bcast_S_S4x4096x4x1 (constant S_ .f32 0x43000000#32)))
      (broadcastInDim S4x4096x4x1 ![] bcast_S_S4x4096x4x1 (constant S_ .f32 0x3727C5AC#32)))))

theorem normed_at (b : Fin 4) (t : Fin 4096) (h : Fin 4) (k : Fin 128) :
    (normed O (ix4 b t h k) : EReal) = standard (fun i => O (ix4 b t h i)) k := by
  pointwise [normed, deviation_at]
  rfl

/-- The heads, gated. -/
def gatedHeads : FVec Ideal S4x4096x512 .f32 := mulf (shapeCast _ (normed O) shapeCasts_S4x4096x4x128_S4x4096x512) (gate Zb)

theorem gatedHeads_at (b : Fin 4) (t : Fin 4096) (k : Fin 512) :
    (gatedHeads O Zb (ix3 b t k) : EReal)
      = standard (fun i => O (ix4 b t ⟨k.val / 128, by omega⟩ i)) ⟨k.val % 128, by omega⟩ * silu (Zb (ix3 b t k)) := by
  pointwise [gatedHeads, gate_at, normed_at]

/-- Both, one after the other. -/
def joined (P Q : FVec Ideal S4x4096x512 .f32) : FVec Ideal S4x4096x1024 .f32 :=
  concatenate S4x4096x1024 2 [⟨S4x4096x512, P⟩, ⟨S4x4096x512, Q⟩] concatenates_S4x4096x512_S4x4096x512_S4x4096x1024_d2

theorem joined_at (P Q : FVec Ideal S4x4096x512 .f32) (b : Fin 4) (t : Fin 4096) (k : Fin 1024) :
    joined P Q (ix3 b t k) = if hk : k.val < 512 then P (ix3 b t ⟨k.val, hk⟩) else Q (ix3 b t ⟨k.val - 512, by omega⟩) := by
  pointwise [joined]

theorem retention_head (b : Fin 4) (t : Fin 4096) (h : Fin 4) : head (fun k => retention O b t k) h = fun i => (O (ix4 b t h i) : EReal) := by
  funext i
  have e1 : (⟨(128 * h.val + i.val) / 128, by omega⟩ : Fin 4) = h := Fin.ext (by simp only; omega)
  have e2 : (⟨(128 * h.val + i.val) % 128, by omega⟩ : Fin 128) = i := Fin.ext (by simp only; omega)
  show O (ix4 b t ⟨(128 * h.val + i.val) / 128, _⟩ ⟨(128 * h.val + i.val) % 128, _⟩) = O (ix4 b t h i)
  rw [e1, e2]

theorem joined_mixed (b : Fin 4) (t : Fin 4096) (k : Fin 1024) :
    (joined (gatedAttention A Za) (gatedHeads O Zb) (ix3 b t k) : EReal)
      = mixed (fun k => attention A b t k) (fun k => Za (ix3 b t k)) (fun k => retention O b t k) (fun k => Zb (ix3 b t k)) k := by
  rw [joined_at]
  unfold mixed
  split
  · exact gatedAttention_at _ _ _ _ _
  · rw [gatedHeads_at, gatedHead, retention_head, head]
    congr 4
    apply Fin.ext
    show k.val - 512 = 128 * ((k.val - 512) / 128) + (k.val - 512) % 128
    omega

/-- The tokens with the product added. -/
def sums : FVec Ideal S4x4096x1024 .f32 :=
  addf X (Host.dotGeneral dot_S4x4096x1024_S1024x1024_S4x4096x1024_2_0_01_1_n_n none (joined (gatedAttention A Za) (gatedHeads O Zb)) W)

theorem sums_at (b : Fin 4) (t : Fin 4096) (j : Fin 1024) : (sums X A O Za Zb W (ix3 b t j) : EReal) = feature X A O Za Zb W b t j := by
  pointwise [sums, joined_mixed]
  rfl

theorem flat (P : FVec Ideal S4x4096x1024 .f32) (r : Fin 16384) (j : Fin 1024) :
    shapeCast S16384x1024 P shapeCasts_S4x4096x1024_S16384x1024 (ix2 r j) = P (ix3 ⟨r.val / 4096, by omega⟩ ⟨r.val % 4096, by omega⟩ j) := by
  pointwise

theorem rows_eq : shapeCast S16384x1024 (sums X A O Za Zb W) shapeCasts_S4x4096x1024_S16384x1024 = rows X A O Za Zb W := by
  funext i
  idx_vars i
  exact (flat _ _ _).trans (sums_at _ _ _ _ _ _ _ _ _)

end Cert.Reference4Ideal.Out

end
-- ==== Proof.OutEven.Payloads.lean ====
/- What the even layer's output for the prompts computes of a block of rows. -/
module

public import proofs.«01_k».proof.Proof.Gen.Kernel4Ideal.Value
public import proofs.«01_k».proof.Proof.OutEven.Spec

@[expose] public section

set_option maxRecDepth 16384

noncomputable section

open Idealize.ShloMosaic Idealize.ShloMosaic.TcCoe Idealize.SL.Sem

namespace Cert.Kernel4Ideal.Out

open Cert.Proof.OutOdd (silu)
open Cert.Proof.OutEven Cert.Kernel4Ideal Cert.Kernel4Ideal.Gen

variable (r : Fin 1024) (j : Fin 1024)

/-- The tokens with the gated attention's product added. -/
theorem attention_sum (a za : Vec Ideal S1024x512 .bf16) (x : Vec Ideal S1024x1024 .f32) (w : Vec Ideal S512x1024 .bf16) :
    (k0_pay2 a za x w (ix2 r j) : EReal) = x (ix2 r j) + ∑ k : Fin 512, a (ix2 r k) * silu (za (ix2 r k)) * w (ix2 k j) := by
  pointwise [k0_pay2]
  rfl

theorem values_at (v : Vec Ideal S1024x512 .bf16) (k : Fin 512) : (k0_pay3 v (ix2 r k) : EReal) = v (ix2 r k) := by
  pointwise [k0_pay3]

theorem gates_at (v : Vec Ideal S1024x512 .bf16) (k : Fin 512) : (k0_pay4 v (ix2 r k) : EReal) = v (ix2 r k) := by
  pointwise [k0_pay4]

/-- Head 0, less its mean and brought to variance one. -/
theorem standard0 (v : Vec Ideal S1024x512 .bf16) (k : Fin 128) :
    (k0_pay5 v (ix2 r k) : EReal) = standard (head (fun i => v (ix2 r i)) 0) k := by
  pointwise [k0_pay5, values_at]
  simp only [standard, centred, head, Fin.val_zero, Nat.mul_zero, Nat.zero_add]

theorem gate0 (v : Vec Ideal S1024x512 .bf16) (k : Fin 128) : (k0_pay6 v (ix2 r k) : EReal) = head (fun i => v (ix2 r i)) 0 k := by
  pointwise [k0_pay6, gates_at]
  simp only [head, Fin.val_zero, Nat.mul_zero, Nat.zero_add]

theorem logistic0 (v : Vec Ideal S1024x512 .bf16) (k : Fin 128) :
    (k0_pay7 v (ix2 r k) : EReal) = Ideal.logistic (head (fun i => v (ix2 r i)) 0 k) := by
  pointwise [k0_pay7, gate0]

/-- Heads 0 and 1 added. -/
theorem heads01 (s : FVec Ideal S1024x1024 .f32) (v z : FVec Ideal S1024x512 .f32) (n g l : FVec Ideal S1024x128 .f32) (w w' : Vec Ideal S128x1024 .bf16) :
    (k0_pay8 s v z n g l w w' (ix2 r j) : EReal)
      = s (ix2 r j) + (∑ k : Fin 128, n (ix2 r k) * (g (ix2 r k) * l (ix2 r k)) * w (ix2 k j))
        + ∑ k : Fin 128, gatedHead (fun i => v (ix2 r i)) (fun i => z (ix2 r i)) 1 k * w' (ix2 k j) := by
  pointwise [k0_pay8]
  rfl

theorem centred2 (v : FVec Ideal S1024x512 .f32) (k : Fin 128) : (k0_pay9 v (ix2 r k) : EReal) = centred (head (fun i => v (ix2 r i)) 2) k := by
  pointwise [k0_pay9]
  rfl

theorem variance2 (v : FVec Ideal S1024x512 .f32) : (k0_pay10 v (ix2 r 0) : EReal)
    = Ideal.div (∑ i, centred (head (fun i => v (ix2 r i)) 2) i * centred (head (fun i => v (ix2 r i)) 2) i) (Ideal.ofBits .f32 0x43000000#32) := by
  pointwise [k0_pay10, centred2]

/-- Heads 2 and 3 added. -/
theorem heads23 (v z : FVec Ideal S1024x512 .f32) (s : FVec Ideal S1024x1024 .f32) (d : FVec Ideal S1024x128 .f32) (q : FVec Ideal S1024x1 .f32)
    (w w' : Vec Ideal S128x1024 .bf16) :
    (k0_pay1 v z s d q w w' (ix2 r j) : EReal)
      = s (ix2 r j) + (∑ k : Fin 128, d (ix2 r k) * Ideal.rsqrt (q (ix2 r 0) + Ideal.ofBits .f32 0x3727C5AC#32)
          * silu (head (fun i => z (ix2 r i)) 2 k) * w (ix2 k j))
        + ∑ k : Fin 128, gatedHead (fun i => v (ix2 r i)) (fun i => z (ix2 r i)) 3 k * w' (ix2 k j) := by
  pointwise [k0_pay1]
  rfl

/-- A part of 512 rows of the weights. -/
theorem part512 (A : Vec Ideal S1024x1024 .bf16) (h) (k : Fin 512) (j : Fin 1024) :
    (View.ld A (Rect.unit (s := S1024x1024) ![0, 0] ![512, 1024] h) : Vec Ideal S512x1024 .bf16) (ix2 k j) = A (ix2 ⟨k.val, by omega⟩ j) := by
  rw [View.ld_apply]
  congr 1
  funext a
  apply Fin.ext
  match a with
  | ⟨0, _⟩ => show 0 + 1 * k.val = k.val; omega
  | ⟨1, _⟩ => show 0 + 1 * j.val = j.val; omega

/-- A part of 128 rows of the weights. -/
theorem part128 (A : Vec Ideal S1024x1024 .bf16) (o : ℕ) (ho : o + 128 ≤ 1024) (h) (k : Fin 128) (j : Fin 1024) :
    (View.ld A (Rect.unit (s := S1024x1024) ![o, 0] ![128, 1024] h) : Vec Ideal S128x1024 .bf16) (ix2 k j) = A (ix2 ⟨o + k.val, by omega⟩ j) := by
  rw [View.ld_apply]
  congr 1
  funext a
  apply Fin.ext
  match a with
  | ⟨0, _⟩ => show o + 1 * k.val = o + k.val; omega
  | ⟨1, _⟩ => show 0 + 1 * j.val = j.val; omega

/-- The value the body stores, from the blocks it reads. -/
def stored (x : Vec Ideal S1024x1024 .f32) (a za v zb : Vec Ideal S1024x512 .bf16) (w : Vec Ideal S1024x1024 .bf16) : FVec Ideal S1024x1024 .f32 :=
  k0_pay1 (k0_pay3 v) (k0_pay4 zb)
    (k0_pay8 (k0_pay2 a za x (View.ld w (Rect.unit (s := S1024x1024) ![0, 0] ![512, 1024] inb_S1024x1024_S512x1024_0_0))) (k0_pay3 v) (k0_pay4 zb)
      (k0_pay5 v) (k0_pay6 zb) (k0_pay7 zb)
      (View.ld w (Rect.unit (s := S1024x1024) ![512, 0] ![128, 1024] inb_S1024x1024_S128x1024_512_0))
      (View.ld w (Rect.unit (s := S1024x1024) ![640, 0] ![128, 1024] inb_S1024x1024_S128x1024_640_0)))
    (k0_pay9 (k0_pay3 v)) (k0_pay10 (k0_pay3 v))
    (View.ld w (Rect.unit (s := S1024x1024) ![768, 0] ![128, 1024] inb_S1024x1024_S128x1024_768_0))
    (View.ld w (Rect.unit (s := S1024x1024) ![896, 0] ![128, 1024] inb_S1024x1024_S128x1024_896_0))

theorem stored_at (x : Vec Ideal S1024x1024 .f32) (a za v zb : Vec Ideal S1024x512 .bf16) (w : Vec Ideal S1024x1024 .bf16) :
    (stored x a za v zb w (ix2 r j) : EReal)
      = output (fun k => x (ix2 r k)) (fun k => a (ix2 r k)) (fun k => za (ix2 r k)) (fun k => v (ix2 r k)) (fun k => zb (ix2 r k))
          (fun k j => w (ix2 k j)) j := by
  rw [output_parts]
  refine (heads23 r j _ _ _ _ _ _ _).trans ?_
  rw [heads01, attention_sum]
  simp only [centred2, variance2, standard0, gate0, logistic0, values_at, gates_at]
  simp only [part512 w, part128 w 512 (by omega), part128 w 640 (by omega), part128 w 768 (by omega), part128 w 896 (by omega)]
  rfl

end Cert.Kernel4Ideal.Out

end
-- ==== Proof.OutEven.Arrays.lean ====
/- The array the even layer's output for the prompts leaves. -/
module

public import proofs.«01_k».proof.Proof.OutEven.Payloads
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel4Ideal.Out

open Cert.Proof.OutEven (rowFeature rowFeature_congr rows)
open Cert.Kernel4Ideal Cert.Kernel4Ideal.Gen Cert.Kernel4Ideal.Value

/-- Where the windows read by the point `t` lie. -/
theorem idx_in : ∀ t : Fin grid0.N, ((win0 0).index t 0 = t.val ∧ (win0 0).index t 1 = 0)
    ∧ ((win0 1).index t 0 = t.val ∧ (win0 1).index t 1 = 0)
    ∧ ((win0 2).index t 0 = t.val ∧ (win0 2).index t 1 = 0)
    ∧ ((win0 3).index t 0 = t.val ∧ (win0 3).index t 1 = 0)
    ∧ ((win0 4).index t 0 = t.val ∧ (win0 4).index t 1 = 0)
    ∧ ((win0 5).index t 0 = 0 ∧ (win0 5).index t 1 = 0) := by decide +kernel

theorem tokens_at (X : FVec Ideal S4x4096x1024 .f32) (r : Fin 16384) (k : Fin 1024) :
    shapeCast S16384x1024 X shapeCasts_S4x4096x1024_S16384x1024 (ix2 r k) = X (ix3 ⟨r.val / 4096, by omega⟩ ⟨r.val % 4096, by omega⟩ k) := by
  pointwise

theorem flatGates_at (X : FVec Ideal S4x4096x512 .bf16) (r : Fin 16384) (k : Fin 512) :
    shapeCast S16384x512 X shapeCasts_S4x4096x512_S16384x512 (ix2 r k) = X (ix3 ⟨r.val / 4096, by omega⟩ ⟨r.val % 4096, by omega⟩ k) := by
  pointwise

theorem attention_at (X : FVec Ideal S4x4096x8x64 .bf16) (r : Fin 16384) (k : Fin 512) :
    shapeCast S16384x512 X shapeCasts_S4x4096x8x64_S16384x512 (ix2 r k) = X (ix4 ⟨r.val / 4096, by omega⟩ ⟨r.val % 4096, by omega⟩ ⟨k.val / 64, by omega⟩ ⟨k.val % 64, by omega⟩) := by
  pointwise

theorem retention_at (X : FVec Ideal S4x4096x4x128 .bf16) (r : Fin 16384) (k : Fin 512) :
    shapeCast S16384x512 X shapeCasts_S4x4096x4x128_S16384x512 (ix2 r k) = X (ix4 ⟨r.val / 4096, by omega⟩ ⟨r.val % 4096, by omega⟩ ⟨k.val / 128, by omega⟩ ⟨k.val % 128, by omega⟩) := by
  pointwise

variable (m : (ℓ : Loc nD τ sig) → Buf (Elt Ideal) ℓ) (c : Dev nD) (t : Fin cfg0.N)

theorem host : V m c main_v0 = shapeCast S16384x1024 (m ((c : Thread nD τ).loc main_arg0) : FVec Ideal S4x4096x1024 .f32) shapeCasts_S4x4096x1024_S16384x1024
    ∧ V m c main_v1 = shapeCast S16384x512 (m ((c : Thread nD τ).loc main_arg1) : FVec Ideal S4x4096x8x64 .bf16) shapeCasts_S4x4096x8x64_S16384x512
    ∧ V m c main_v2 = shapeCast S16384x512 (m ((c : Thread nD τ).loc main_arg3) : FVec Ideal S4x4096x512 .bf16) shapeCasts_S4x4096x512_S16384x512
    ∧ V m c main_v3 = shapeCast S16384x512 (m ((c : Thread nD τ).loc main_arg2) : FVec Ideal S4x4096x4x128 .bf16) shapeCasts_S4x4096x4x128_S16384x512
    ∧ V m c main_v4 = shapeCast S16384x512 (m ((c : Thread nD τ).loc main_arg4) : FVec Ideal S4x4096x512 .bf16) shapeCasts_S4x4096x512_S16384x512
    ∧ V m c main_v5 = truncf (F := Ideal) .bf16 (m ((c : Thread nD τ).loc main_arg5) : FVec Ideal S1024x1024 .f32) bitsLt_bf16_f32 := by
  refine ⟨?_, ?_, ?_, ?_, ?_, ?_⟩ <;> (simp only [V]; after_reads_simp) <;> rfl

theorem ht : t.val < 16 := lt_of_lt_of_eq t.isLt N_0

theorem x_block (r : Fin 1024) (k : Fin 1024) : ((iblk m c 0 t : FVec Ideal S1024x1024 .f32) (ix2 r k) : EReal)
    = (m ((c : Thread nD τ).loc main_arg0) : FVec Ideal S4x4096x1024 .f32) (ix3 ⟨(1024 * t.val + r.val) / 4096, by have := ht t; omega⟩ ⟨(1024 * t.val + r.val) % 4096, by omega⟩ k) := by
  obtain ⟨⟨a0, a1⟩, _, _, _, _, _⟩ := idx_in t
  have := ht t
  refine Eq.trans (b := V m c main_v0 (ix2 ⟨1024 * t.val + r.val, by omega⟩ k)) ?_ ?_
  · blk_ext [iblk, a0, a1]
  · rw [(host m c).1]
    exact tokens_at _ _ _

theorem a_block (r : Fin 1024) (k : Fin 512) : ((iblk m c 1 t : FVec Ideal S1024x512 .bf16) (ix2 r k) : EReal)
    = (m ((c : Thread nD τ).loc main_arg1) : FVec Ideal S4x4096x8x64 .bf16) (ix4 ⟨(1024 * t.val + r.val) / 4096, by have := ht t; omega⟩ ⟨(1024 * t.val + r.val) % 4096, by omega⟩ ⟨k.val / 64, by omega⟩ ⟨k.val % 64, by omega⟩) := by
  obtain ⟨_, ⟨a0, a1⟩, _, _, _, _⟩ := idx_in t
  have := ht t
  refine Eq.trans (b := V m c main_v1 (ix2 ⟨1024 * t.val + r.val, by omega⟩ k)) ?_ ?_
  · blk_ext [iblk, a0, a1]
  · rw [(host m c).2.1]
    exact attention_at _ _ _

theorem za_block (r : Fin 1024) (k : Fin 512) : ((iblk m c 2 t : FVec Ideal S1024x512 .bf16) (ix2 r k) : EReal)
    = (m ((c : Thread nD τ).loc main_arg3) : FVec Ideal S4x4096x512 .bf16) (ix3 ⟨(1024 * t.val + r.val) / 4096, by have := ht t; omega⟩ ⟨(1024 * t.val + r.val) % 4096, by omega⟩ k) := by
  obtain ⟨_, _, ⟨a0, a1⟩, _, _, _⟩ := idx_in t
  have := ht t
  refine Eq.trans (b := V m c main_v2 (ix2 ⟨1024 * t.val + r.val, by omega⟩ k)) ?_ ?_
  · blk_ext [iblk, a0, a1]
  · rw [(host m c).2.2.1]
    exact flatGates_at _ _ _

theorem v_block (r : Fin 1024) (k : Fin 512) : ((iblk m c 3 t : FVec Ideal S1024x512 .bf16) (ix2 r k) : EReal)
    = (m ((c : Thread nD τ).loc main_arg2) : FVec Ideal S4x4096x4x128 .bf16) (ix4 ⟨(1024 * t.val + r.val) / 4096, by have := ht t; omega⟩ ⟨(1024 * t.val + r.val) % 4096, by omega⟩ ⟨k.val / 128, by omega⟩ ⟨k.val % 128, by omega⟩) := by
  obtain ⟨_, _, _, ⟨a0, a1⟩, _, _⟩ := idx_in t
  have := ht t
  refine Eq.trans (b := V m c main_v3 (ix2 ⟨1024 * t.val + r.val, by omega⟩ k)) ?_ ?_
  · blk_ext [iblk, a0, a1]
  · rw [(host m c).2.2.2.1]
    exact retention_at _ _ _

theorem zb_block (r : Fin 1024) (k : Fin 512) : ((iblk m c 4 t : FVec Ideal S1024x512 .bf16) (ix2 r k) : EReal)
    = (m ((c : Thread nD τ).loc main_arg4) : FVec Ideal S4x4096x512 .bf16) (ix3 ⟨(1024 * t.val + r.val) / 4096, by have := ht t; omega⟩ ⟨(1024 * t.val + r.val) % 4096, by omega⟩ k) := by
  obtain ⟨_, _, _, _, ⟨a0, a1⟩, _⟩ := idx_in t
  have := ht t
  refine Eq.trans (b := V m c main_v4 (ix2 ⟨1024 * t.val + r.val, by omega⟩ k)) ?_ ?_
  · blk_ext [iblk, a0, a1]
  · rw [(host m c).2.2.2.2.1]
    exact flatGates_at _ _ _

theorem w_block (k j : Fin 1024) : ((iblk m c 5 t : FVec Ideal S1024x1024 .bf16) (ix2 k j) : EReal)
    = (m ((c : Thread nD τ).loc main_arg5) : FVec Ideal S1024x1024 .f32) (ix2 k j) := by
  obtain ⟨_, _, _, _, _, ⟨a0, a1⟩⟩ := idx_in t
  refine Eq.trans (b := V m c main_v5 (ix2 k j)) ?_ ?_
  · blk_ext [iblk, a0, a1]
  · rw [(host m c).2.2.2.2.2]
    exact rfl

/-- The arguments. -/
abbrev tokens : FVec Ideal S4x4096x1024 .f32 := m ((c : Thread nD τ).loc main_arg0)
abbrev heads : FVec Ideal S4x4096x8x64 .bf16 := m ((c : Thread nD τ).loc main_arg1)
abbrev retained : FVec Ideal S4x4096x4x128 .bf16 := m ((c : Thread nD τ).loc main_arg2)
abbrev headGates : FVec Ideal S4x4096x512 .bf16 := m ((c : Thread nD τ).loc main_arg3)
abbrev retainedGates : FVec Ideal S4x4096x512 .bf16 := m ((c : Thread nD τ).loc main_arg4)
abbrev weights : FVec Ideal S1024x1024 .f32 := m ((c : Thread nD τ).loc main_arg5)

/-- A point's output for a row is that row's feature. -/
theorem point_feature (r : Fin 1024) (j : Fin 1024) :
    (stored (iblk m c 0 t) (iblk m c 1 t) (iblk m c 2 t) (iblk m c 3 t) (iblk m c 4 t) (iblk m c 5 t) (ix2 r j) : EReal)
      = rowFeature (tokens m c) (heads m c) (retained m c) (headGates m c) (retainedGates m c) (weights m c) ⟨1024 * t.val + r.val, by have := ht t; omega⟩ j := by
  have hx : (fun k => ((iblk m c 0 t : FVec Ideal S1024x1024 .f32) (ix2 r k) : EReal)) = _ := funext fun k => x_block m c t r k
  have ha : (fun k => ((iblk m c 1 t : FVec Ideal S1024x512 .bf16) (ix2 r k) : EReal)) = _ := funext fun k => a_block m c t r k
  have hza : (fun k => ((iblk m c 2 t : FVec Ideal S1024x512 .bf16) (ix2 r k) : EReal)) = _ := funext fun k => za_block m c t r k
  have hv : (fun k => ((iblk m c 3 t : FVec Ideal S1024x512 .bf16) (ix2 r k) : EReal)) = _ := funext fun k => v_block m c t r k
  have hzb : (fun k => ((iblk m c 4 t : FVec Ideal S1024x512 .bf16) (ix2 r k) : EReal)) = _ := funext fun k => zb_block m c t r k
  have hw : (fun k j => ((iblk m c 5 t : FVec Ideal S1024x1024 .bf16) (ix2 k j) : EReal)) = _ := funext fun k => funext fun j => w_block m c t k j
  refine (stored_at r j _ _ _ _ _ _).trans ?_
  rw [hx, ha, hza, hv, hzb, hw]
  rfl

/-- Where the rows written by the point `t` lie. -/
theorem idx_out : ∀ t : Fin grid0.N, (win0 6).index t 0 = t.val ∧ (win0 6).index t 1 = 0 := by decide +kernel

theorem out : out0_6 (iblk m c 0 t) (iblk m c 1 t) (iblk m c 2 t) (iblk m c 3 t) (iblk m c 4 t) (iblk m c 5 t) = stored (iblk m c 0 t) (iblk m c 1 t) (iblk m c 2 t) (iblk m c 3 t) (iblk m c 4 t) (iblk m c 5 t) := by
  unfold_out out0_6; frame_out; rfl

theorem array : (dats m 0 c).arrAt 6 cfg0.N = rows (tokens m c) (heads m c) (retained m c) (headGates m c) (retainedGates m c) (weights m c) := by
  refine (dats m 0 c).arrAt_eq_of_covers 6 _ (by decide +kernel) fun t hf y => ?_
  blk_simp
  rw [after0_6, out]
  obtain ⟨a0, a1⟩ := idx_out t
  obtain ⟨r, j, hq⟩ : ∃ (r : Fin 1024) (j : Fin 1024), y = ix2 r j :=
    ⟨y 0, y 1, by funext a; match a with | ⟨0, _⟩ => rfl | ⟨1, _⟩ => rfl⟩
  subst hq
  refine (point_feature m c t r j).trans ?_
  refine rowFeature_congr _ _ _ _ _ _ ?_ ?_
  · show 1024 * t.val + r.val = _
    blk_simp [a0, a1]
    omega
  · show j.val = _
    blk_simp [a0, a1]

end Cert.Kernel4Ideal.Out

end
-- ==== Proof.OutOdd.Reference.lean ====
/- The reference's odd layer's output for the prompts, entry by entry. -/
module

public import proofs.«01_k».proof.Proof.Gen.Reference5Ideal.Run
public import proofs.«01_k».proof.Proof.OutOdd.Spec

@[expose] public section

set_option maxRecDepth 16384

noncomputable section

open Idealize.ShloMosaic Idealize.ShloMosaic.TcCoe Idealize.SL.Sem

namespace Cert.Reference5Ideal.Out

open Cert.Proof.Project (scale)
open Cert.Proof.OutOdd (silu hidden output)
open Cert.Proof.OutOdd (attention feature rowFeature rows)
open Cert.Reference5Ideal Cert.Reference5Ideal.Gen

variable (X : FVec Ideal S4x4096x1024 .f32) (O : FVec Ideal S4x4096x16x64 .bf16) (Z : FVec Ideal S4x4096x1024 .bf16) (W : FVec Ideal S1024x1024 .f32) (g : FVec Ideal S1024 .f32)

/-- The gated attention. -/
def gated : FVec Ideal S4x4096x1024 .f32 :=
  mulf (shapeCast _ (extf .f32 O bitsLt_bf16_f32) shapeCasts_S4x4096x16x64_S4x4096x1024)
    (mulf (extf .f32 Z bitsLt_bf16_f32) (Host.divf (broadcastInDim S4x4096x1024 ![] bcast_S_S4x4096x1024 (constant S_ .f32 0x3F800000#32))
      (addf (broadcastInDim S4x4096x1024 ![] bcast_S_S4x4096x1024 (constant S_ .f32 0x3F800000#32)) (Host.exp (Host.negf (extf .f32 Z bitsLt_bf16_f32))))))

theorem gated_at (b : Fin 4) (t : Fin 4096) (k : Fin 1024) : (gated O Z (ix3 b t k) : EReal) = attention O b t k * silu (Z (ix3 b t k)) := by
  pointwise [gated, attention, silu, Ideal.logistic]

/-- The tokens with the product added. -/
def sums : FVec Ideal S4x4096x1024 .f32 := addf X (Host.dotGeneral dot_S4x4096x1024_S1024x1024_S4x4096x1024_2_0_01_1_n_n none (gated O Z) W)

theorem sums_at (b : Fin 4) (t : Fin 4096) (j : Fin 1024) : (sums X O Z W (ix3 b t j) : EReal)
    = hidden (fun k => X (ix3 b t k)) (fun k => attention O b t k) (fun k => Z (ix3 b t k)) (fun k j => W (ix2 k j)) j := by
  pointwise [sums, gated_at]
  rfl

/-- The normalised tokens with their gains. -/
def normed (H : FVec Ideal S4x4096x1024 .f32) : FVec Ideal S4x4096x1024 .f32 :=
  mulf (mulf H (broadcastInDim S4x4096x1024 ![0, 1, 2] bcast_S4x4096x1_S4x4096x1024_0_1_2
    (Host.rsqrt (addf (Host.divf (broadcastInDim S4x4096x1 ![0, 1] bcast_S4x4096_S4x4096x1_0_1
      (Host.reduceAdd (mulf H H) (constant S_ .f32 0x00000000#32) reducesTo_S4x4096x1024_S4x4096_d2 h_S_))
      (broadcastInDim S4x4096x1 ![] bcast_S_S4x4096x1 (constant S_ .f32 0x44800000#32))) (broadcastInDim S4x4096x1 ![] bcast_S_S4x4096x1 (constant S_ .f32 0x358637BD#32))))))
    (broadcastInDim S4x4096x1024 ![0, 1, 2] bcast_S1x1x1024_S4x4096x1024_0_1_2 (broadcastInDim S1x1x1024 ![2] bcast_S1024_S1x1x1024_2 g))

theorem normed_at (H : FVec Ideal S4x4096x1024 .f32) (b : Fin 4) (t : Fin 4096) (j : Fin 1024) :
    (normed g H (ix3 b t j) : EReal) = H (ix3 b t j) * scale (fun k => H (ix3 b t k)) * g (ix1 j) := by
  pointwise [normed]
  rfl

theorem flat (P : FVec Ideal S4x4096x1024 .f32) (r : Fin 16384) (j : Fin 1024) :
    shapeCast S16384x1024 P shapeCasts_S4x4096x1024_S16384x1024 (ix2 r j) = P (ix3 ⟨r.val / 4096, by omega⟩ ⟨r.val % 4096, by omega⟩ j) := by
  pointwise

theorem rows_eq : shapeCast S16384x1024 (normed g (sums X O Z W)) shapeCasts_S4x4096x1024_S16384x1024 = rows X O Z W g := by
  funext i
  idx_vars i
  refine (flat _ _ _).trans ((normed_at g _ _ _ _).trans ?_)
  simp only [sums_at]
  rfl

end Cert.Reference5Ideal.Out

end
-- ==== Proof.OutOdd.Payloads.lean ====
/- What the odd layer's output for the prompts computes of a block of rows. -/
module

public import proofs.«01_k».proof.Proof.Gen.Kernel5Ideal.Value
public import proofs.«01_k».proof.Proof.OutOdd.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel5Ideal.Out

open Cert.Proof.Project (scale)
open Cert.Proof.OutOdd (silu hidden output)
open Cert.Proof.OutOdd (attention feature rowFeature rows)
open Cert.Kernel5Ideal Cert.Kernel5Ideal.Gen Cert.Kernel5Ideal.Value

/-- The value stored for a row of the block. -/
theorem stored (x : Vec Ideal S1024x1024 .f32) (o : Vec Ideal S1024x1024 .bf16) (z : Vec Ideal S1024x1024 .bf16) (w : Vec Ideal S1024x1024 .bf16) (g : Vec Ideal S1x1024 .f32)
    (r : Fin 1024) (j : Fin 1024) : (k0_pay1 o z x w g (ix2 r j) : EReal)
      = output (fun k => x (ix2 r k)) (fun k => o (ix2 r k)) (fun k => z (ix2 r k)) (fun k j => w (ix2 k j)) (fun k => g (ix2 0 k)) j := by
  pointwise [k0_pay1]
  rfl

/-- Where the windows read by the point `t` lie. -/
theorem idx_in : ∀ t : Fin grid0.N, ((win0 0).index t 0 = t.val ∧ (win0 0).index t 1 = 0)
    ∧ ((win0 1).index t 0 = t.val ∧ (win0 1).index t 1 = 0)
    ∧ ((win0 2).index t 0 = t.val ∧ (win0 2).index t 1 = 0)
    ∧ ((win0 3).index t 0 = 0 ∧ (win0 3).index t 1 = 0)
    ∧ ((win0 4).index t 0 = 0 ∧ (win0 4).index t 1 = 0) := by decide +kernel

theorem tokens_at (X : FVec Ideal S4x4096x1024 .f32) (r : Fin 16384) (k : Fin 1024) :
    shapeCast S16384x1024 X shapeCasts_S4x4096x1024_S16384x1024 (ix2 r k) = X (ix3 ⟨r.val / 4096, by omega⟩ ⟨r.val % 4096, by omega⟩ k) := by
  pointwise

theorem gates_at (X : FVec Ideal S4x4096x1024 .bf16) (r : Fin 16384) (k : Fin 1024) :
    shapeCast S16384x1024 X shapeCasts_S4x4096x1024_S16384x1024 (ix2 r k) = X (ix3 ⟨r.val / 4096, by omega⟩ ⟨r.val % 4096, by omega⟩ k) := by
  pointwise

theorem heads_at (X : FVec Ideal S4x4096x16x64 .bf16) (r : Fin 16384) (k : Fin 1024) :
    shapeCast S16384x1024 X shapeCasts_S4x4096x16x64_S16384x1024 (ix2 r k)
      = X (ix4 ⟨r.val / 4096, by omega⟩ ⟨r.val % 4096, by omega⟩ ⟨k.val / 64, by omega⟩ ⟨k.val % 64, by omega⟩) := by
  pointwise

theorem gains_at (g : FVec Ideal S1024 .f32) (k : Fin 1024) : shapeCast S1x1024 g shapeCasts_S1024_S1x1024 (ix2 0 k) = g (ix1 k) := by
  pointwise

variable (m : (ℓ : Loc nD τ sig) → Buf (Elt Ideal) ℓ) (c : Dev nD) (t : Fin cfg0.N)

theorem host : V m c main_v0 = shapeCast S16384x1024 (m ((c : Thread nD τ).loc main_arg0) : FVec Ideal S4x4096x1024 .f32) shapeCasts_S4x4096x1024_S16384x1024
    ∧ V m c main_v1 = shapeCast S16384x1024 (m ((c : Thread nD τ).loc main_arg1) : FVec Ideal S4x4096x16x64 .bf16) shapeCasts_S4x4096x16x64_S16384x1024
    ∧ V m c main_v2 = shapeCast S16384x1024 (m ((c : Thread nD τ).loc main_arg2) : FVec Ideal S4x4096x1024 .bf16) shapeCasts_S4x4096x1024_S16384x1024
    ∧ V m c main_v3 = truncf (F := Ideal) .bf16 (m ((c : Thread nD τ).loc main_arg3) : FVec Ideal S1024x1024 .f32) bitsLt_bf16_f32
    ∧ V m c main_v4 = shapeCast S1x1024 (m ((c : Thread nD τ).loc main_arg4) : FVec Ideal S1024 .f32) shapeCasts_S1024_S1x1024 := by
  refine ⟨?_, ?_, ?_, ?_, ?_⟩ <;> (simp only [V]; after_reads_simp) <;> rfl

theorem ht : t.val < 16 := lt_of_lt_of_eq t.isLt N_0

theorem x_block (r : Fin 1024) (k : Fin 1024) : ((iblk m c 0 t : FVec Ideal S1024x1024 .f32) (ix2 r k) : EReal)
    = (m ((c : Thread nD τ).loc main_arg0) : FVec Ideal S4x4096x1024 .f32) (ix3 ⟨(1024 * t.val + r.val) / 4096, by have := ht t; omega⟩ ⟨(1024 * t.val + r.val) % 4096, by omega⟩ k) := by
  obtain ⟨⟨a0, a1⟩, _, _, _, _⟩ := idx_in t
  have := ht t
  refine Eq.trans (b := V m c main_v0 (ix2 ⟨1024 * t.val + r.val, by omega⟩ k)) ?_ ?_
  · blk_ext [iblk, a0, a1]
  · rw [(host m c).1]
    exact tokens_at _ _ _

theorem o_block (r : Fin 1024) (k : Fin 1024) : ((iblk m c 1 t : FVec Ideal S1024x1024 .bf16) (ix2 r k) : EReal)
    = (m ((c : Thread nD τ).loc main_arg1) : FVec Ideal S4x4096x16x64 .bf16) (ix4 ⟨(1024 * t.val + r.val) / 4096, by have := ht t; omega⟩ ⟨(1024 * t.val + r.val) % 4096, by omega⟩ ⟨k.val / 64, by omega⟩ ⟨k.val % 64, by omega⟩) := by
  obtain ⟨_, ⟨a0, a1⟩, _, _, _⟩ := idx_in t
  have := ht t
  refine Eq.trans (b := V m c main_v1 (ix2 ⟨1024 * t.val + r.val, by omega⟩ k)) ?_ ?_
  · blk_ext [iblk, a0, a1]
  · rw [(host m c).2.1]
    exact heads_at _ _ _

theorem z_block (r : Fin 1024) (k : Fin 1024) : ((iblk m c 2 t : FVec Ideal S1024x1024 .bf16) (ix2 r k) : EReal)
    = (m ((c : Thread nD τ).loc main_arg2) : FVec Ideal S4x4096x1024 .bf16) (ix3 ⟨(1024 * t.val + r.val) / 4096, by have := ht t; omega⟩ ⟨(1024 * t.val + r.val) % 4096, by omega⟩ k) := by
  obtain ⟨_, _, ⟨a0, a1⟩, _, _⟩ := idx_in t
  have := ht t
  refine Eq.trans (b := V m c main_v2 (ix2 ⟨1024 * t.val + r.val, by omega⟩ k)) ?_ ?_
  · blk_ext [iblk, a0, a1]
  · rw [(host m c).2.2.1]
    exact gates_at _ _ _

theorem w_block (k j : Fin 1024) : ((iblk m c 3 t : FVec Ideal S1024x1024 .bf16) (ix2 k j) : EReal)
    = (m ((c : Thread nD τ).loc main_arg3) : FVec Ideal S1024x1024 .f32) (ix2 k j) := by
  obtain ⟨_, _, _, ⟨a0, a1⟩, _⟩ := idx_in t
  refine Eq.trans (b := V m c main_v3 (ix2 k j)) ?_ ?_
  · blk_ext [iblk, a0, a1]
  · rw [(host m c).2.2.2.1]
    exact rfl

theorem g_block (k : Fin 1024) : ((iblk m c 4 t : FVec Ideal S1x1024 .f32) (ix2 0 k) : EReal)
    = (m ((c : Thread nD τ).loc main_arg4) : FVec Ideal S1024 .f32) (ix1 k) := by
  obtain ⟨_, _, _, _, ⟨a0, a1⟩⟩ := idx_in t
  refine Eq.trans (b := V m c main_v4 (ix2 0 k)) ?_ ?_
  · blk_ext [iblk, a0, a1]
  · rw [(host m c).2.2.2.2]
    exact gains_at _ _

/-- A point's output for a row is that row's feature. -/
theorem point_feature (r : Fin 1024) (j : Fin 1024) :
    (k0_pay1 (iblk m c 1 t) (iblk m c 2 t) (iblk m c 0 t) (iblk m c 3 t) (iblk m c 4 t) (ix2 r j) : EReal)
      = rowFeature (m ((c : Thread nD τ).loc main_arg0)) (m ((c : Thread nD τ).loc main_arg1)) (m ((c : Thread nD τ).loc main_arg2)) (m ((c : Thread nD τ).loc main_arg3)) (m ((c : Thread nD τ).loc main_arg4))
        ⟨1024 * t.val + r.val, by have := ht t; omega⟩ j := by
  have hx : (fun k => ((iblk m c 0 t : FVec Ideal S1024x1024 .f32) (ix2 r k) : EReal)) = _ := funext fun k => x_block m c t r k
  have hz : (fun k => ((iblk m c 2 t : FVec Ideal S1024x1024 .bf16) (ix2 r k) : EReal)) = _ := funext fun k => z_block m c t r k
  have hg : (fun k => ((iblk m c 4 t : FVec Ideal S1x1024 .f32) (ix2 0 k) : EReal)) = _ := funext fun k => g_block m c t k
  have ho : (fun k => ((iblk m c 1 t : FVec Ideal S1024x1024 .bf16) (ix2 r k) : EReal)) = _ := funext fun k => o_block m c t r k
  have hw : (fun k j => ((iblk m c 3 t : FVec Ideal S1024x1024 .bf16) (ix2 k j) : EReal)) = _ := funext fun k => funext fun j => w_block m c t k j
  refine (stored _ _ _ _ _ r j).trans ?_
  rw [hx, ho, hz, hw, hg]
  rfl

end Cert.Kernel5Ideal.Out

end
-- ==== Proof.OutOdd.Arrays.lean ====
/- The array the odd layer's output for the prompts leaves. -/
module

public import proofs.«01_k».proof.Proof.OutOdd.Payloads

@[expose] public section

set_option maxRecDepth 16384

noncomputable section

open Idealize.ShloMosaic Idealize.ShloMosaic.TcCoe Idealize.SL.Sem

namespace Cert.Kernel5Ideal.Out

open Cert.Proof.OutOdd (rowFeature rowFeature_congr rows)
open Cert.Kernel5Ideal Cert.Kernel5Ideal.Gen Cert.Kernel5Ideal.Value

variable (m : (ℓ : Loc nD τ sig) → Buf (Elt Ideal) ℓ) (c : Dev nD) (t : Fin cfg0.N)

/-- The arguments. -/
abbrev tokens : FVec Ideal S4x4096x1024 .f32 := m ((c : Thread nD τ).loc main_arg0)
abbrev heads : FVec Ideal S4x4096x16x64 .bf16 := m ((c : Thread nD τ).loc main_arg1)
abbrev gates : FVec Ideal S4x4096x1024 .bf16 := m ((c : Thread nD τ).loc main_arg2)
abbrev weights : FVec Ideal S1024x1024 .f32 := m ((c : Thread nD τ).loc main_arg3)
abbrev gains : FVec Ideal S1024 .f32 := m ((c : Thread nD τ).loc main_arg4)

/-- Where the rows written by the point `t` lie. -/
theorem idx_out : ∀ t : Fin grid0.N, (win0 5).index t 0 = t.val ∧ (win0 5).index t 1 = 0 := by decide +kernel

theorem out : out0_5 (iblk m c 0 t) (iblk m c 1 t) (iblk m c 2 t) (iblk m c 3 t) (iblk m c 4 t) = k0_pay1 (iblk m c 1 t) (iblk m c 2 t) (iblk m c 0 t) (iblk m c 3 t) (iblk m c 4 t) := by
  frame_out

theorem array : (dats m 0 c).arrAt 5 cfg0.N = rows (tokens m c) (heads m c) (gates m c) (weights m c) (gains m c) := by
  refine (dats m 0 c).arrAt_eq_of_covers 5 _ (by decide +kernel) fun t hf y => ?_
  blk_simp
  rw [after0_5, out]
  obtain ⟨a0, a1⟩ := idx_out t
  obtain ⟨r, j, hq⟩ : ∃ (r : Fin 1024) (j : Fin 1024), y = ix2 r j :=
    ⟨y 0, y 1, by funext a; match a with | ⟨0, _⟩ => rfl | ⟨1, _⟩ => rfl⟩
  subst hq
  refine (point_feature m c t r j).trans ?_
  refine rowFeature_congr _ _ _ _ _ ?_ ?_
  · show 1024 * t.val + r.val = _
    blk_simp [a0, a1]
    omega
  · show j.val = _
    blk_simp [a0, a1]

end Cert.Kernel5Ideal.Out

end
-- ==== Proof.OutOddSample.Spec.lean ====
/- The odd layer's output for the samples, feature by feature. -/
module

public import proofs.«01_k».proof.Kernel8Ideal
public import proofs.«01_k».proof.Proof.OutOdd.Spec

@[expose] public section

noncomputable section

open Idealize.ShloMosaic

namespace Cert.Proof.OutOddSample

open Cert.Proof.OutOdd (output)
open Cert.Kernel8Ideal

variable (X : FVec Ideal S32x4x1024 .f32) (O O' : FVec Ideal S32x4x16x64 .f32) (Z : FVec Ideal S32x4x1024 .bf16) (W : FVec Ideal S1024x1024 .f32) (g : FVec Ideal S1024 .f32)

/-- The attention's value `k` for token `t` of sequence `b`: the heads one after the other. -/
def attention (b : Fin 32) (t : Fin 4) (k : Fin 1024) : EReal :=
  O (ix4 b t ⟨k.val / 64, by omega⟩ ⟨k.val % 64, by omega⟩) + O' (ix4 b t ⟨k.val / 64, by omega⟩ ⟨k.val % 64, by omega⟩)

/-- Feature `j` of token `t` of sequence `b`. -/
def feature (b : Fin 32) (t : Fin 4) (j : Fin 1024) : EReal :=
  output (fun k => X (ix3 b t k)) (fun k => attention O O' b t k) (fun k => Z (ix3 b t k)) (fun k j => W (ix2 k j)) (fun k => g (ix1 k)) j

/-- Feature `j` of row `r`, where the sequences' tokens are the rows, one sequence after the other. -/
def rowFeature (r : Fin 128) (j : Fin 1024) : EReal := feature X O O' Z W g ⟨r.val / 4, by omega⟩ ⟨r.val % 4, by omega⟩ j

/-- All features of every row. -/
def rows : S128x1024.Idx → EReal := fun i => rowFeature X O O' Z W g (i 0) (i 1)

theorem rowFeature_congr {r r' : Fin 128} {j j' : Fin 1024} (hr : r.val = r'.val) (hj : j.val = j'.val) :
    rowFeature X O O' Z W g r j = rowFeature X O O' Z W g r' j' := by
  rw [Fin.ext hr, Fin.ext hj]

end Cert.Proof.OutOddSample

end
-- ==== Proof.OutOddSample.Reference.lean ====
/- The reference's odd layer's output for the samples, entry by entry. -/
module

public import proofs.«01_k».proof.Proof.Gen.Reference8Ideal.Run
public import proofs.«01_k».proof.Proof.OutOddSample.Spec

@[expose] public section

set_option maxRecDepth 16384

noncomputable section

open Idealize.ShloMosaic Idealize.ShloMosaic.TcCoe Idealize.SL.Sem

namespace Cert.Reference8Ideal.Out

open Cert.Proof.Project (scale)
open Cert.Proof.OutOdd (silu hidden output)
open Cert.Proof.OutOddSample (attention feature rowFeature rows)
open Cert.Reference8Ideal Cert.Reference8Ideal.Gen

variable (X : FVec Ideal S32x4x1024 .f32) (O O' : FVec Ideal S32x4x16x64 .f32) (Z : FVec Ideal S32x4x1024 .bf16) (W : FVec Ideal S1024x1024 .f32) (g : FVec Ideal S1024 .f32)

/-- The gated attention. -/
def gated : FVec Ideal S32x4x1024 .f32 :=
  mulf (shapeCast _ (addf O O') shapeCasts_S32x4x16x64_S32x4x1024)
    (mulf (extf .f32 Z bitsLt_bf16_f32) (Host.divf (broadcastInDim S32x4x1024 ![] bcast_S_S32x4x1024 (constant S_ .f32 0x3F800000#32))
      (addf (broadcastInDim S32x4x1024 ![] bcast_S_S32x4x1024 (constant S_ .f32 0x3F800000#32)) (Host.exp (Host.negf (extf .f32 Z bitsLt_bf16_f32))))))

theorem gated_at (b : Fin 32) (t : Fin 4) (k : Fin 1024) : (gated O O' Z (ix3 b t k) : EReal) = attention O O' b t k * silu (Z (ix3 b t k)) := by
  pointwise [gated, attention, silu, Ideal.logistic]

/-- The tokens with the product added. -/
def sums : FVec Ideal S32x4x1024 .f32 := addf X (Host.dotGeneral dot_S32x4x1024_S1024x1024_S32x4x1024_2_0_01_1_n_n none (gated O O' Z) W)

theorem sums_at (b : Fin 32) (t : Fin 4) (j : Fin 1024) : (sums X O O' Z W (ix3 b t j) : EReal)
    = hidden (fun k => X (ix3 b t k)) (fun k => attention O O' b t k) (fun k => Z (ix3 b t k)) (fun k j => W (ix2 k j)) j := by
  pointwise [sums, gated_at]
  rfl

/-- The normalised tokens with their gains. -/
def normed (H : FVec Ideal S32x4x1024 .f32) : FVec Ideal S32x4x1024 .f32 :=
  mulf (mulf H (broadcastInDim S32x4x1024 ![0, 1, 2] bcast_S32x4x1_S32x4x1024_0_1_2
    (Host.rsqrt (addf (Host.divf (broadcastInDim S32x4x1 ![0, 1] bcast_S32x4_S32x4x1_0_1
      (Host.reduceAdd (mulf H H) (constant S_ .f32 0x00000000#32) reducesTo_S32x4x1024_S32x4_d2 h_S_))
      (broadcastInDim S32x4x1 ![] bcast_S_S32x4x1 (constant S_ .f32 0x44800000#32))) (broadcastInDim S32x4x1 ![] bcast_S_S32x4x1 (constant S_ .f32 0x358637BD#32))))))
    (broadcastInDim S32x4x1024 ![0, 1, 2] bcast_S1x1x1024_S32x4x1024_0_1_2 (broadcastInDim S1x1x1024 ![2] bcast_S1024_S1x1x1024_2 g))

theorem normed_at (H : FVec Ideal S32x4x1024 .f32) (b : Fin 32) (t : Fin 4) (j : Fin 1024) :
    (normed g H (ix3 b t j) : EReal) = H (ix3 b t j) * scale (fun k => H (ix3 b t k)) * g (ix1 j) := by
  pointwise [normed]
  rfl

theorem flat (P : FVec Ideal S32x4x1024 .f32) (r : Fin 128) (j : Fin 1024) :
    shapeCast S128x1024 P shapeCasts_S32x4x1024_S128x1024 (ix2 r j) = P (ix3 ⟨r.val / 4, by omega⟩ ⟨r.val % 4, by omega⟩ j) := by
  pointwise

theorem rows_eq : shapeCast S128x1024 (normed g (sums X O O' Z W)) shapeCasts_S32x4x1024_S128x1024 = rows X O O' Z W g := by
  funext i
  idx_vars i
  refine (flat _ _ _).trans ((normed_at g _ _ _ _).trans ?_)
  simp only [sums_at]
  rfl

end Cert.Reference8Ideal.Out

end
-- ==== Proof.OutOddSample.Payloads.lean ====
/- What the odd layer's output for the samples computes of a block of rows. -/
module

public import proofs.«01_k».proof.Proof.Gen.Kernel8Ideal.Value
public import proofs.«01_k».proof.Proof.OutOddSample.Spec
public import Idealize.ShloMosaic.Lib.StableHlo.ReadAt

@[expose] public section

set_option maxRecDepth 16384

noncomputable section

open Idealize.ShloMosaic Idealize.ShloMosaic.TcCoe Idealize.SL.Sem Idealize.ShloMosaic.StableHlo

namespace Cert.Kernel8Ideal.Out

open Cert.Proof.Project (scale)
open Cert.Proof.OutOdd (silu hidden output)
open Cert.Proof.OutOddSample (attention feature rowFeature rows)
open Cert.Kernel8Ideal Cert.Kernel8Ideal.Gen Cert.Kernel8Ideal.Value

/-- The two parts of the attention, added. -/
def both (a b : Fin 1024 → EReal) : Fin 1024 → EReal := fun k => a k + b k

/-- The value stored for a row of the block. -/
theorem stored (x : Vec Ideal S128x1024 .f32) (o o' : Vec Ideal S128x1024 .f32) (z : Vec Ideal S128x1024 .bf16) (w : Vec Ideal S1024x1024 .bf16) (g : Vec Ideal S1x1024 .f32)
    (r : Fin 128) (j : Fin 1024) : (k0_pay1 o o' z x w g (ix2 r j) : EReal)
      = output (fun k => x (ix2 r k)) (both (fun k => o (ix2 r k)) (fun k => o' (ix2 r k))) (fun k => z (ix2 r k)) (fun k j => w (ix2 k j)) (fun k => g (ix2 0 k)) j := by
  pointwise [k0_pay1]
  rfl

/-- Where the windows read by the point `t` lie. -/
theorem idx_in : ∀ t : Fin grid0.N, ((win0 0).index t 0 = t.val ∧ (win0 0).index t 1 = 0)
    ∧ ((win0 1).index t 0 = t.val ∧ (win0 1).index t 1 = 0)
    ∧ ((win0 2).index t 0 = t.val ∧ (win0 2).index t 1 = 0)
    ∧ ((win0 3).index t 0 = t.val ∧ (win0 3).index t 1 = 0)
    ∧ ((win0 4).index t 0 = 0 ∧ (win0 4).index t 1 = 0)
    ∧ ((win0 5).index t 0 = 0 ∧ (win0 5).index t 1 = 0) := by decide +kernel

theorem tokens_at (X : FVec Ideal S32x4x1024 .f32) (r : Fin 128) (k : Fin 1024) :
    shapeCast S128x1024 X shapeCasts_S32x4x1024_S128x1024 (ix2 r k) = X (ix3 ⟨r.val / 4, by omega⟩ ⟨r.val % 4, by omega⟩ k) := by
  pointwise

theorem gates_at (X : FVec Ideal S32x4x1024 .bf16) (r : Fin 128) (k : Fin 1024) :
    shapeCast S128x1024 X shapeCasts_S32x4x1024_S128x1024 (ix2 r k) = X (ix3 ⟨r.val / 4, by omega⟩ ⟨r.val % 4, by omega⟩ k) := by
  pointwise

theorem heads_at (X : FVec Ideal S32x4x16x64 .f32) (r : Fin 128) (k : Fin 1024) :
    shapeCast S128x1024 X shapeCasts_S32x4x16x64_S128x1024 (ix2 r k)
      = X (ix4 ⟨r.val / 4, by omega⟩ ⟨r.val % 4, by omega⟩ ⟨k.val / 64, by omega⟩ ⟨k.val % 64, by omega⟩) := by
  pointwise

theorem gains_at (g : FVec Ideal S1024 .f32) (k : Fin 1024) : shapeCast S1x1024 g shapeCasts_S1024_S1x1024 (ix2 0 k) = g (ix1 k) := by
  pointwise

variable (m : (ℓ : Loc nD τ sig) → Buf (Elt Ideal) ℓ) (c : Dev nD) (t : Fin cfg0.N)

theorem host : V m c main_v0 = shapeCast S128x1024 (m ((c : Thread nD τ).loc main_arg0) : FVec Ideal S32x4x1024 .f32) shapeCasts_S32x4x1024_S128x1024
    ∧ V m c main_v1 = shapeCast S128x1024 (m ((c : Thread nD τ).loc main_arg1) : FVec Ideal S32x4x16x64 .f32) shapeCasts_S32x4x16x64_S128x1024
    ∧ V m c main_v2 = shapeCast S128x1024 (m ((c : Thread nD τ).loc main_arg2) : FVec Ideal S32x4x16x64 .f32) shapeCasts_S32x4x16x64_S128x1024
    ∧ V m c main_v3 = shapeCast S128x1024 (m ((c : Thread nD τ).loc main_arg3) : FVec Ideal S32x4x1024 .bf16) shapeCasts_S32x4x1024_S128x1024
    ∧ V m c main_v4 = truncf (F := Ideal) .bf16 (m ((c : Thread nD τ).loc main_arg4) : FVec Ideal S1024x1024 .f32) bitsLt_bf16_f32
    ∧ V m c main_v5 = shapeCast S1x1024 (m ((c : Thread nD τ).loc main_arg5) : FVec Ideal S1024 .f32) shapeCasts_S1024_S1x1024 := by
  refine ⟨?_, ?_, ?_, ?_, ?_, ?_⟩ <;> (simp only [V]; after_reads_simp) <;> rfl

theorem ht : t.val < 1 := lt_of_lt_of_eq t.isLt N_0

theorem x_block (r : Fin 128) (k : Fin 1024) : ((iblk m c 0 t : FVec Ideal S128x1024 .f32) (ix2 r k) : EReal)
    = (m ((c : Thread nD τ).loc main_arg0) : FVec Ideal S32x4x1024 .f32) (ix3 ⟨(128 * t.val + r.val) / 4, by have := ht t; omega⟩ ⟨(128 * t.val + r.val) % 4, by omega⟩ k) := by
  obtain ⟨⟨a0, a1⟩, _, _, _, _, _⟩ := idx_in t
  have := ht t
  refine Eq.trans (b := V m c main_v0 (ix2 ⟨128 * t.val + r.val, by omega⟩ k)) ?_ ?_
  · blk_ext [iblk, a0, a1]
  · rw [(host m c).1]
    exact tokens_at _ _ _

theorem o_block (r : Fin 128) (k : Fin 1024) : ((iblk m c 1 t : FVec Ideal S128x1024 .f32) (ix2 r k) : EReal)
    = (m ((c : Thread nD τ).loc main_arg1) : FVec Ideal S32x4x16x64 .f32) (ix4 ⟨(128 * t.val + r.val) / 4, by have := ht t; omega⟩ ⟨(128 * t.val + r.val) % 4, by omega⟩ ⟨k.val / 64, by omega⟩ ⟨k.val % 64, by omega⟩) := by
  obtain ⟨_, ⟨a0, a1⟩, _, _, _, _⟩ := idx_in t
  have := ht t
  refine Eq.trans (b := V m c main_v1 (ix2 ⟨128 * t.val + r.val, by omega⟩ k)) ?_ ?_
  · blk_ext [iblk, a0, a1]
  · rw [(host m c).2.1]
    exact heads_at _ _ _

theorem o2_block (r : Fin 128) (k : Fin 1024) : ((iblk m c 2 t : FVec Ideal S128x1024 .f32) (ix2 r k) : EReal)
    = (m ((c : Thread nD τ).loc main_arg2) : FVec Ideal S32x4x16x64 .f32) (ix4 ⟨(128 * t.val + r.val) / 4, by have := ht t; omega⟩ ⟨(128 * t.val + r.val) % 4, by omega⟩ ⟨k.val / 64, by omega⟩ ⟨k.val % 64, by omega⟩) := by
  obtain ⟨_, _, ⟨a0, a1⟩, _, _, _⟩ := idx_in t
  have := ht t
  refine Eq.trans (b := V m c main_v2 (ix2 ⟨128 * t.val + r.val, by omega⟩ k)) ?_ ?_
  · blk_ext [iblk, a0, a1]
  · rw [(host m c).2.2.1]
    exact heads_at _ _ _

theorem z_block (r : Fin 128) (k : Fin 1024) : ((iblk m c 3 t : FVec Ideal S128x1024 .bf16) (ix2 r k) : EReal)
    = (m ((c : Thread nD τ).loc main_arg3) : FVec Ideal S32x4x1024 .bf16) (ix3 ⟨(128 * t.val + r.val) / 4, by have := ht t; omega⟩ ⟨(128 * t.val + r.val) % 4, by omega⟩ k) := by
  obtain ⟨_, _, _, ⟨a0, a1⟩, _, _⟩ := idx_in t
  have := ht t
  refine Eq.trans (b := V m c main_v3 (ix2 ⟨128 * t.val + r.val, by omega⟩ k)) ?_ ?_
  · blk_ext [iblk, a0, a1]
  · rw [(host m c).2.2.2.1]
    exact gates_at _ _ _

theorem w_block (k j : Fin 1024) : ((iblk m c 4 t : FVec Ideal S1024x1024 .bf16) (ix2 k j) : EReal)
    = (m ((c : Thread nD τ).loc main_arg4) : FVec Ideal S1024x1024 .f32) (ix2 k j) := by
  obtain ⟨_, _, _, _, ⟨a0, a1⟩, _⟩ := idx_in t
  refine Eq.trans (b := V m c main_v4 (ix2 k j)) ?_ ?_
  · blk_ext [iblk, a0, a1]
  · rw [(host m c).2.2.2.2.1]
    exact rfl

theorem g_block (k : Fin 1024) : ((iblk m c 5 t : FVec Ideal S1x1024 .f32) (ix2 0 k) : EReal)
    = (m ((c : Thread nD τ).loc main_arg5) : FVec Ideal S1024 .f32) (ix1 k) := by
  obtain ⟨_, _, _, _, _, ⟨a0, a1⟩⟩ := idx_in t
  refine Eq.trans (b := V m c main_v5 (ix2 0 k)) ?_ ?_
  · blk_ext [iblk, a0, a1]
  · rw [(host m c).2.2.2.2.2]
    exact gains_at _ _

/-- A point's output for a row is that row's feature. -/
theorem point_feature (r : Fin 128) (j : Fin 1024) :
    (k0_pay1 (iblk m c 1 t) (iblk m c 2 t) (iblk m c 3 t) (iblk m c 0 t) (iblk m c 4 t) (iblk m c 5 t) (ix2 r j) : EReal)
      = rowFeature (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        ⟨128 * t.val + r.val, by have := ht t; omega⟩ j := by
  have hx : (fun k => ((iblk m c 0 t : FVec Ideal S128x1024 .f32) (ix2 r k) : EReal)) = _ := funext fun k => x_block m c t r k
  have hz : (fun k => ((iblk m c 3 t : FVec Ideal S128x1024 .bf16) (ix2 r k) : EReal)) = _ := funext fun k => z_block m c t r k
  have hg : (fun k => ((iblk m c 5 t : FVec Ideal S1x1024 .f32) (ix2 0 k) : EReal)) = _ := funext fun k => g_block m c t k
  have ho : (fun k => ((iblk m c 1 t : FVec Ideal S128x1024 .f32) (ix2 r k) : EReal)) = _ := funext fun k => o_block m c t r k
  have ho2 : (fun k => ((iblk m c 2 t : FVec Ideal S128x1024 .f32) (ix2 r k) : EReal)) = _ := funext fun k => o2_block m c t r k
  have hw : (fun k j => ((iblk m c 4 t : FVec Ideal S1024x1024 .bf16) (ix2 k j) : EReal)) = _ := funext fun k => funext fun j => w_block m c t k j
  refine (stored _ _ _ _ _ _ r j).trans ?_
  rw [hx, ho, ho2, hz, hw, hg]
  rfl

end Cert.Kernel8Ideal.Out

end
-- ==== Proof.OutOddSample.Arrays.lean ====
/- The array the odd layer's output for the samples leaves. -/
module

public import proofs.«01_k».proof.Proof.OutOddSample.Payloads

@[expose] public section

set_option maxRecDepth 16384

noncomputable section

open Idealize.ShloMosaic Idealize.ShloMosaic.TcCoe Idealize.SL.Sem

namespace Cert.Kernel8Ideal.Out

open Cert.Proof.OutOddSample (rowFeature rowFeature_congr rows)
open Cert.Kernel8Ideal Cert.Kernel8Ideal.Gen Cert.Kernel8Ideal.Value

variable (m : (ℓ : Loc nD τ sig) → Buf (Elt Ideal) ℓ) (c : Dev nD) (t : Fin cfg0.N)

/-- The arguments. -/
abbrev tokens : FVec Ideal S32x4x1024 .f32 := m ((c : Thread nD τ).loc main_arg0)
abbrev heads : FVec Ideal S32x4x16x64 .f32 := m ((c : Thread nD τ).loc main_arg1)
abbrev heads2 : FVec Ideal S32x4x16x64 .f32 := m ((c : Thread nD τ).loc main_arg2)
abbrev gates : FVec Ideal S32x4x1024 .bf16 := m ((c : Thread nD τ).loc main_arg3)
abbrev weights : FVec Ideal S1024x1024 .f32 := m ((c : Thread nD τ).loc main_arg4)
abbrev gains : FVec Ideal S1024 .f32 := m ((c : Thread nD τ).loc main_arg5)

/-- Where the rows written by the point `t` lie. -/
theorem idx_out : ∀ t : Fin grid0.N, (win0 6).index t 0 = t.val ∧ (win0 6).index t 1 = 0 := by decide +kernel

theorem out : out0_6 (iblk m c 0 t) (iblk m c 1 t) (iblk m c 2 t) (iblk m c 3 t) (iblk m c 4 t) (iblk m c 5 t) = k0_pay1 (iblk m c 1 t) (iblk m c 2 t) (iblk m c 3 t) (iblk m c 0 t) (iblk m c 4 t) (iblk m c 5 t) := by
  frame_out

theorem array : (dats m 0 c).arrAt 6 cfg0.N = rows (tokens m c) (heads m c) (heads2 m c) (gates m c) (weights m c) (gains m c) := by
  refine (dats m 0 c).arrAt_eq_of_covers 6 _ (by decide +kernel) fun t hf y => ?_
  blk_simp
  rw [after0_6, out]
  obtain ⟨a0, a1⟩ := idx_out t
  obtain ⟨r, j, hq⟩ : ∃ (r : Fin 128) (j : Fin 1024), y = ix2 r j :=
    ⟨y 0, y 1, by funext a; match a with | ⟨0, _⟩ => rfl | ⟨1, _⟩ => rfl⟩
  subst hq
  refine (point_feature m c t r j).trans ?_
  refine rowFeature_congr _ _ _ _ _ _ ?_ ?_
  · show 128 * t.val + r.val = _
    blk_simp [a0, a1]
    omega
  · show j.val = _
    blk_simp [a0, a1]

end Cert.Kernel8Ideal.Out

end
-- ==== Proof.lean ====
/- The claims: the runs of the kernel and of the reference end, leave their arguments, and give the same results over the reals. -/
module

public import proofs.«01_k».proof.Proof.Gen.KernelIdeal.Value
public import proofs.«01_k».proof.Proof.Gen.ReferenceIdeal.Run
public import proofs.«01_k».proof.Proof.Retention.Entry
public import proofs.«01_k».proof.Proof.Retention.Sweep
public import proofs.«01_k».proof.Proof.Retention.Finite
public import proofs.«01_k».proof.Proof.Project.Reference
public import proofs.«01_k».proof.Proof.Project.Arrays
public import proofs.«01_k».proof.Proof.ProjectOdd.Reference
public import proofs.«01_k».proof.Proof.ProjectOdd.Arrays
public import proofs.«01_k».proof.Proof.ProjectEvenSample.Reference
public import proofs.«01_k».proof.Proof.ProjectEvenSample.Arrays
public import proofs.«01_k».proof.Proof.ProjectOddSample.Reference
public import proofs.«01_k».proof.Proof.ProjectOddSample.Arrays
public import proofs.«01_k».proof.Proof.OutEven.Reference
public import proofs.«01_k».proof.Proof.OutEven.Arrays
public import proofs.«01_k».proof.Proof.OutOdd.Reference
public import proofs.«01_k».proof.Proof.OutOdd.Arrays
public import proofs.«01_k».proof.Proof.OutOddSample.Reference
public import proofs.«01_k».proof.Proof.OutOddSample.Arrays

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Pre_finite
public import Idealize.ShloMosaic.Adequacy
public import Idealize.ShloMosaic.Init
public import Idealize.ShloMosaic.Lib.Quiescent

@[expose] public section

noncomputable section

namespace Cert.Proof

open Idealize.ShloMosaic Idealize.SL.Sem

/-- Both programs' results are the same real numbers. -/
theorem algebraic : Cert.algebraic_KernelIdeal_ReferenceIdeal_pre_finite := by
  intro m g m' g' hpre hargs
  have hk := Cert.KernelIdeal.Value.run m g
  have hr := Cert.ReferenceIdeal.Value.run m' g'
  refine ⟨fun c => Cert.KernelIdeal.Value.G10 m c, fun c => Cert.KernelIdeal.Value.G11 m c, hk, ?_⟩
  refine (θ_run _ _ _).mono (fun r h c => ?_) hr
  obtain ⟨h0, h1, h2⟩ := h c
  obtain ⟨e0, e1, e2⟩ := hargs c
  obtain ⟨f0, f1, f2⟩ := Retention.finite_reals _ _ _ (hpre c)
  refine ⟨h0.trans ?_, h1.trans ?_, h2⟩
  · funext i
    idx_vars i
    have hv : i2 = Cert.KernelIdeal.Retention.vlane ⟨i2.val / 128, by omega⟩ ⟨i2.val % 128, by omega⟩ :=
      Fin.ext (by show i2.val = 128 * (i2.val / 128) + i2.val % 128; omega)
    rw [hv]
    exact (Cert.ReferenceIdeal.Retention.ref_output m' c _ _ _ (fun b t j => (congrFun e0 _).trans (f0 (ix3 b t j)))
      (fun b t j => (congrFun e1 _).trans (f1 (ix3 b t j))) (fun b t j => (congrFun e2 _).trans (f2 (ix3 b t j))) i0 i1 _ _).trans
      (Cert.KernelIdeal.Retention.ker_output m c _ _ _ (fun b t j => f0 (ix3 b t j)) (fun b t j => f1 (ix3 b t j))
        (fun b t j => f2 (ix3 b t j)) i0 i1 _ _).symm
  · funext i
    idx_vars i
    exact (Cert.ReferenceIdeal.Retention.ref_state m' c _ _ _ (fun b t j => (congrFun e0 _).trans (f0 (ix3 b t j)))
      (fun b t j => (congrFun e1 _).trans (f1 (ix3 b t j))) (fun b t j => (congrFun e2 _).trans (f2 (ix3 b t j))) i0 i1 i2 i3).trans
      (Cert.KernelIdeal.Retention.ker_state m c _ _ (fun b t j => f1 (ix3 b t j)) (fun b t j => f2 (ix3 b t j)) i0 i1 i2 i3).symm

/-- The reference's run ends and leaves its arguments; it has no semaphores. -/
theorem reference_frame : Cert.quiescent_ReferenceIdeal := fun m g _ =>
  (θ_run _ _ _).mono (fun r h => ⟨fun c => (h c).2.2, sem_eq_zero_of_no_sems rfl r.2⟩) (Cert.ReferenceIdeal.Value.run m g)

/-- Both programs' projections are the same extended reals. -/
theorem algebraic_projection : Cert.algebraic_Kernel2Ideal_Reference2Ideal := by
  intro m g m' g' _ hargs
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N, fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N, fun c => (Cert.Kernel2Ideal.Gen.dats m 0 c).arrAt 8 Cert.Kernel2Ideal.cfg0.N, fun c => (Cert.Kernel2Ideal.Gen.dats m 0 c).arrAt 9 Cert.Kernel2Ideal.cfg0.N, fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N,
    Cert.Kernel2Ideal.Value.run_blocks m g, ?_⟩
  refine (θ_run _ _ _).mono (fun r h c => ?_) (Cert.Reference2Ideal.Value.run m' g')
  obtain ⟨h3, h4, h5, h6, h7, h8, h9, h10, h11, h12, ha⟩ := h c
  obtain ⟨e0, e1, e2⟩ := hargs c
  rw [e0, e1, e2] at h3 h4 h5 h6 h7 h8 h9 h10 h11 h12
  refine ⟨h3.trans ?_, h4.trans ?_, h5.trans ?_, h6.trans ?_, h7.trans ?_, h8.trans ?_, h9.trans ?_, h10.trans ?_, h11.trans ?_, h12.trans ?_, ha⟩
  · exact (Cert.Reference2Ideal.Project.wide_eq _ _ _ 0 (by omega) _).trans (Cert.Kernel2Ideal.Project.array3 m c).symm
  · exact (Cert.Reference2Ideal.Project.wide_eq _ _ _ 512 (by omega) _).trans (Cert.Kernel2Ideal.Project.array4 m c).symm
  · exact (Cert.Reference2Ideal.Project.wide_eq _ _ _ 1024 (by omega) _).trans (Cert.Kernel2Ideal.Project.array5 m c).symm
  · exact (Cert.Reference2Ideal.Project.cached_eq _ _ _ 512 (by omega) _).trans (Cert.Kernel2Ideal.Project.array6 m c).symm
  · exact (Cert.Reference2Ideal.Project.cached_eq _ _ _ 1024 (by omega) _).trans (Cert.Kernel2Ideal.Project.array7 m c).symm
  · exact (Cert.Reference2Ideal.Project.wide_eq _ _ _ 1536 (by omega) Cert.Reference2Ideal.Gen.slices_S4x4096x3584_S4x4096x512_0_0_1536).trans (Cert.Kernel2Ideal.Project.array8 m c).symm
  · exact (Cert.Reference2Ideal.Project.narrow_eq _ _ _ 2048 (by omega) _).trans (Cert.Kernel2Ideal.Project.array9 m c).symm
  · exact (Cert.Reference2Ideal.Project.narrow_eq _ _ _ 2304 (by omega) _).trans (Cert.Kernel2Ideal.Project.array10 m c).symm
  · exact (Cert.Reference2Ideal.Project.wide_eq _ _ _ 2560 (by omega) _).trans (Cert.Kernel2Ideal.Project.array11 m c).symm
  · exact (Cert.Reference2Ideal.Project.wide_eq _ _ _ 3072 (by omega) Cert.Reference2Ideal.Gen.slices_S4x4096x3584_S4x4096x512_0_0_3072).trans (Cert.Kernel2Ideal.Project.array12 m c).symm

/-- The projection's reference ends and leaves its arguments; it has no semaphores. -/
theorem projection_frame : Cert.quiescent_Reference2Ideal := fun m g _ =>
  (θ_run _ _ _).mono (fun r h => ⟨fun c => (h c).2.2.2.2.2.2.2.2.2.2, sem_eq_zero_of_no_sems rfl r.2⟩) (Cert.Reference2Ideal.Value.run m g)

set_option maxHeartbeats 4000000 in
/-- Both programs' odd layer's projections are the same extended reals. -/
theorem algebraic_projection_odd : Cert.algebraic_Kernel3Ideal_Reference3Ideal := by
  intro m g m' g' _ hargs
  refine ⟨fun c => (Cert.Kernel3Ideal.Gen.dats m 0 c).arrAt 3 Cert.Kernel3Ideal.cfg0.N,
    fun c => (Cert.Kernel3Ideal.Gen.dats m 0 c).arrAt 4 Cert.Kernel3Ideal.cfg0.N,
    fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N,
    fun c => (Cert.Kernel3Ideal.Gen.dats m 0 c).arrAt 13 Cert.Kernel3Ideal.cfg0.N,
    fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    (θ_run _ _ _).mono (fun r h c => by obtain ⟨h3, h4, h5, h6, h7, h8, h9, h10, h11, h12, h13, h14, h15, h16, h17, ha⟩ := h c; exact ⟨h3, h4, h5, h6, h7, h9, h10, h11, h12, h13, h14, h15, h16, h17, ha⟩) (Cert.Kernel3Ideal.Value.run_blocks m g), ?_⟩
  refine (θ_run _ _ _).mono (fun r h c => ?_) (Cert.Reference3Ideal.Value.run m' g')
  obtain ⟨h3, h4, h5, h6, h7, h9, h10, h11, h12, h13, h14, h15, h16, h17, ha⟩ := h c
  obtain ⟨e0, e1, e2⟩ := hargs c
  rw [e0, e1, e2] at h3 h4 h5 h6 h7 h9 h10 h11 h12 h13 h14 h15 h16 h17
  refine ⟨h3.trans ?_, h4.trans ?_, h5.trans ?_, h6.trans ?_, h7.trans ?_, h9.trans ?_, h10.trans ?_, h11.trans ?_, h12.trans ?_, h13.trans ?_, h14.trans ?_, h15.trans ?_, h16.trans ?_, h17.trans ?_, ha⟩
  · exact (Cert.Reference3Ideal.Project.rows1024_eq _ _ _ 0 (by omega) Cert.Reference3Ideal.Gen.slices_S4x4096x2864_S4x4096x1024_0_0_0).trans (Cert.Kernel3Ideal.Project.array3 m c).symm
  · exact (Cert.Reference3Ideal.Project.rows128_eq _ _ _ 1024 (by omega) Cert.Reference3Ideal.Gen.slices_S4x4096x2864_S4x4096x128_0_0_1024).trans (Cert.Kernel3Ideal.Project.array4 m c).symm
  · exact (Cert.Reference3Ideal.Project.cols128_eq _ _ _ 1024 (by omega) _).trans (Cert.Kernel3Ideal.Project.array5 m c).symm
  · exact (Cert.Reference3Ideal.Project.rows128_eq _ _ _ 1152 (by omega) Cert.Reference3Ideal.Gen.slices_S4x4096x2864_S4x4096x128_0_0_1152).trans (Cert.Kernel3Ideal.Project.array6 m c).symm
  · exact (Cert.Reference3Ideal.Project.cols128_eq _ _ _ 1152 (by omega) _).trans (Cert.Kernel3Ideal.Project.array7 m c).symm
  · exact (Cert.Reference3Ideal.Project.cols128_eq _ _ _ 1280 (by omega) _).trans (Cert.Kernel3Ideal.Project.array9 m c).symm
  · exact (Cert.Reference3Ideal.Project.cols128_eq _ _ _ 1408 (by omega) Cert.Reference3Ideal.Gen.slices_S4x4096x2864_S4x4096x128_0_0_1408).trans (Cert.Kernel3Ideal.Project.array10 m c).symm
  · exact (Cert.Reference3Ideal.Project.cols128_eq _ _ _ 1408 (by omega) _).trans (Cert.Kernel3Ideal.Project.array11 m c).symm
  · exact (Cert.Reference3Ideal.Project.rows128_eq _ _ _ 1536 (by omega) Cert.Reference3Ideal.Gen.slices_S4x4096x2864_S4x4096x128_0_0_1536).trans (Cert.Kernel3Ideal.Project.array12 m c).symm
  · exact (Cert.Reference3Ideal.Project.last128_eq _ _ _ 1536 (by omega) _).trans (Cert.Kernel3Ideal.Project.array13 m c).symm
  · exact (Cert.Reference3Ideal.Project.cols128_eq _ _ _ 1664 (by omega) Cert.Reference3Ideal.Gen.slices_S4x4096x2864_S4x4096x128_0_0_1664).trans (Cert.Kernel3Ideal.Project.array14 m c).symm
  · exact (Cert.Reference3Ideal.Project.last128_eq _ _ _ 1664 (by omega) _).trans (Cert.Kernel3Ideal.Project.array15 m c).symm
  · exact (Cert.Reference3Ideal.Project.cols48_eq _ _ _ 1792 (by omega) _).trans (Cert.Kernel3Ideal.Project.array16 m c).symm
  · exact (Cert.Reference3Ideal.Project.rows1024_eq _ _ _ 1840 (by omega) Cert.Reference3Ideal.Gen.slices_S4x4096x2864_S4x4096x1024_0_0_1840).trans (Cert.Kernel3Ideal.Project.array17 m c).symm

theorem projection_odd_frame : Cert.quiescent_Reference3Ideal := fun m g _ =>
  (θ_run _ _ _).mono (fun r h => ⟨fun c => (h c).2.2.2.2.2.2.2.2.2.2.2.2.2.2, sem_eq_zero_of_no_sems rfl r.2⟩) (Cert.Reference3Ideal.Value.run m g)

/-- Both programs' even layer's outputs are the same extended reals. -/
theorem algebraic_output_even : Cert.algebraic_Kernel4Ideal_Reference4Ideal := by
  intro m g m' g' _ hargs
  refine ⟨fun c => (Cert.Kernel4Ideal.Gen.dats m 0 c).arrAt 6 Cert.Kernel4Ideal.cfg0.N, Cert.Kernel4Ideal.Value.run_blocks m g, ?_⟩
  refine (θ_run _ _ _).mono (fun r h c => ?_) (Cert.Reference4Ideal.Value.run m' g')
  obtain ⟨h0, ha⟩ := h c
  obtain ⟨e0, e1, e2, e3, e4, e5⟩ := hargs c
  rw [e0, e1, e2, e3, e4, e5] at h0
  exact ⟨h0.trans ((Cert.Reference4Ideal.Out.rows_eq _ _ _ _ _ _).trans (Cert.Kernel4Ideal.Out.array m c).symm), ha⟩

theorem output_even_frame : Cert.quiescent_Reference4Ideal := fun m g _ =>
  (θ_run _ _ _).mono (fun r h => ⟨fun c => (h c).2, sem_eq_zero_of_no_sems rfl r.2⟩) (Cert.Reference4Ideal.Value.run m g)

/-- Both programs' odd layer's outputs are the same extended reals. -/
theorem algebraic_output_odd : Cert.algebraic_Kernel5Ideal_Reference5Ideal := by
  intro m g m' g' _ hargs
  refine ⟨fun c => (Cert.Kernel5Ideal.Gen.dats m 0 c).arrAt 5 Cert.Kernel5Ideal.cfg0.N, Cert.Kernel5Ideal.Value.run_blocks m g, ?_⟩
  refine (θ_run _ _ _).mono (fun r h c => ?_) (Cert.Reference5Ideal.Value.run m' g')
  obtain ⟨h0, ha⟩ := h c
  obtain ⟨e0, e1, e2, e3, e4⟩ := hargs c
  rw [e0, e1, e2, e3, e4] at h0
  exact ⟨h0.trans ((Cert.Reference5Ideal.Out.rows_eq _ _ _ _ _).trans (Cert.Kernel5Ideal.Out.array m c).symm), ha⟩

theorem output_odd_frame : Cert.quiescent_Reference5Ideal := fun m g _ =>
  (θ_run _ _ _).mono (fun r h => ⟨fun c => (h c).2, sem_eq_zero_of_no_sems rfl r.2⟩) (Cert.Reference5Ideal.Value.run m g)

/-- Both programs' even layer's projections for the samples are the same extended reals. -/
theorem algebraic_projection_even_sample : Cert.algebraic_Kernel6Ideal_Reference6Ideal := by
  intro m g m' g' _ hargs
  refine ⟨fun c => (Cert.Kernel6Ideal.Gen.dats m 0 c).arrAt 3 Cert.Kernel6Ideal.cfg0.N,
    fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks m g, ?_⟩
  refine (θ_run _ _ _).mono (fun r h c => ?_) (Cert.Reference6Ideal.Value.run m' g')
  obtain ⟨h3, h4, h5, h6, h7, h8, h9, h10, ha⟩ := h c
  obtain ⟨e0, e1, e2⟩ := hargs c
  rw [e0, e1, e2] at h3 h4 h5 h6 h7 h8 h9 h10
  refine ⟨h3.trans ?_, h4.trans ?_, h5.trans ?_, h6.trans ?_, h7.trans ?_, h8.trans ?_, h9.trans ?_, h10.trans ?_, ha⟩
  · exact (Cert.Reference6Ideal.Project.rows512_eq _ _ _ 0 (by omega) _).trans (Cert.Kernel6Ideal.Project.array3 m c).symm
  · exact (Cert.Reference6Ideal.Project.rows512_eq _ _ _ 512 (by omega) _).trans (Cert.Kernel6Ideal.Project.array4 m c).symm
  · exact (Cert.Reference6Ideal.Project.rows512_eq _ _ _ 1024 (by omega) _).trans (Cert.Kernel6Ideal.Project.array5 m c).symm
  · exact (Cert.Reference6Ideal.Project.rows512_eq _ _ _ 1536 (by omega) Cert.Reference6Ideal.Gen.slices_S32x4x3584_S32x4x512_0_0_1536).trans (Cert.Kernel6Ideal.Project.array6 m c).symm
  · exact (Cert.Reference6Ideal.Project.rows256_eq _ _ _ 2048 (by omega) _).trans (Cert.Kernel6Ideal.Project.array7 m c).symm
  · exact (Cert.Reference6Ideal.Project.rows256_eq _ _ _ 2304 (by omega) _).trans (Cert.Kernel6Ideal.Project.array8 m c).symm
  · exact (Cert.Reference6Ideal.Project.rows512_eq _ _ _ 2560 (by omega) _).trans (Cert.Kernel6Ideal.Project.array9 m c).symm
  · exact (Cert.Reference6Ideal.Project.rows512_eq _ _ _ 3072 (by omega) Cert.Reference6Ideal.Gen.slices_S32x4x3584_S32x4x512_0_0_3072).trans (Cert.Kernel6Ideal.Project.array10 m c).symm

theorem projection_even_sample_frame : Cert.quiescent_Reference6Ideal := fun m g _ =>
  (θ_run _ _ _).mono (fun r h => ⟨fun c => (h c).2.2.2.2.2.2.2.2, sem_eq_zero_of_no_sems rfl r.2⟩) (Cert.Reference6Ideal.Value.run m g)

/-- Both programs' odd layer's projections for the samples are the same extended reals. -/
theorem algebraic_projection_odd_sample : Cert.algebraic_Kernel7Ideal_Reference7Ideal := by
  intro m g m' g' _ hargs
  refine ⟨fun c => (Cert.Kernel7Ideal.Gen.dats m 0 c).arrAt 3 Cert.Kernel7Ideal.cfg0.N,
    fun c => (Cert.Kernel7Ideal.Gen.dats m 0 c).arrAt 4 Cert.Kernel7Ideal.cfg0.N,
    fun c => (Cert.Kernel7Ideal.Gen.dats m 0 c).arrAt 5 Cert.Kernel7Ideal.cfg0.N,
    fun c => (Cert.Kernel7Ideal.Gen.dats m 0 c).arrAt 6 Cert.Kernel7Ideal.cfg0.N,
    fun c => (Cert.Kernel7Ideal.Gen.dats m 0 c).arrAt 7 Cert.Kernel7Ideal.cfg0.N,
    fun c => (Cert.Kernel7Ideal.Gen.dats m 0 c).arrAt 8 Cert.Kernel7Ideal.cfg0.N,
    fun c => (Cert.Kernel7Ideal.Gen.dats m 0 c).arrAt 9 Cert.Kernel7Ideal.cfg0.N,
    fun c => (Cert.Kernel7Ideal.Gen.dats m 0 c).arrAt 10 Cert.Kernel7Ideal.cfg0.N,
    fun c => (Cert.Kernel7Ideal.Gen.dats m 0 c).arrAt 11 Cert.Kernel7Ideal.cfg0.N,
    Cert.Kernel7Ideal.Value.run_blocks m g, ?_⟩
  refine (θ_run _ _ _).mono (fun r h c => ?_) (Cert.Reference7Ideal.Value.run m' g')
  obtain ⟨h3, h4, h5, h6, h7, h8, h9, h10, h11, ha⟩ := h c
  obtain ⟨e0, e1, e2⟩ := hargs c
  rw [e0, e1, e2] at h3 h4 h5 h6 h7 h8 h9 h10 h11
  refine ⟨h3.trans ?_, h4.trans ?_, h5.trans ?_, h6.trans ?_, h7.trans ?_, h8.trans ?_, h9.trans ?_, h10.trans ?_, h11.trans ?_, ha⟩
  · exact (Cert.Reference7Ideal.Project.rows1024_eq _ _ _ 0 (by omega) Cert.Reference7Ideal.Gen.slices_S32x4x2864_S32x4x1024_0_0_0).trans (Cert.Kernel7Ideal.Project.array3 m c).symm
  · exact (Cert.Reference7Ideal.Project.rows128_eq _ _ _ 1024 (by omega) _).trans (Cert.Kernel7Ideal.Project.array4 m c).symm
  · exact (Cert.Reference7Ideal.Project.rows128_eq _ _ _ 1152 (by omega) _).trans (Cert.Kernel7Ideal.Project.array5 m c).symm
  · exact (Cert.Reference7Ideal.Project.rows128_eq _ _ _ 1280 (by omega) _).trans (Cert.Kernel7Ideal.Project.array6 m c).symm
  · exact (Cert.Reference7Ideal.Project.rows128_eq _ _ _ 1408 (by omega) _).trans (Cert.Kernel7Ideal.Project.array7 m c).symm
  · exact (Cert.Reference7Ideal.Project.rows128_eq _ _ _ 1536 (by omega) _).trans (Cert.Kernel7Ideal.Project.array8 m c).symm
  · exact (Cert.Reference7Ideal.Project.rows128_eq _ _ _ 1664 (by omega) _).trans (Cert.Kernel7Ideal.Project.array9 m c).symm
  · exact (Cert.Reference7Ideal.Project.rows48_eq _ _ _ 1792 (by omega) _).trans (Cert.Kernel7Ideal.Project.array10 m c).symm
  · exact (Cert.Reference7Ideal.Project.rows1024_eq _ _ _ 1840 (by omega) Cert.Reference7Ideal.Gen.slices_S32x4x2864_S32x4x1024_0_0_1840).trans (Cert.Kernel7Ideal.Project.array11 m c).symm

theorem projection_odd_sample_frame : Cert.quiescent_Reference7Ideal := fun m g _ =>
  (θ_run _ _ _).mono (fun r h => ⟨fun c => (h c).2.2.2.2.2.2.2.2.2, sem_eq_zero_of_no_sems rfl r.2⟩) (Cert.Reference7Ideal.Value.run m g)

/-- Both programs' odd layer's outputs for the samples are the same extended reals. -/
theorem algebraic_output_odd_sample : Cert.algebraic_Kernel8Ideal_Reference8Ideal := by
  intro m g m' g' _ hargs
  refine ⟨fun c => (Cert.Kernel8Ideal.Gen.dats m 0 c).arrAt 6 Cert.Kernel8Ideal.cfg0.N, Cert.Kernel8Ideal.Value.run_blocks m g, ?_⟩
  refine (θ_run _ _ _).mono (fun r h c => ?_) (Cert.Reference8Ideal.Value.run m' g')
  obtain ⟨h0, ha⟩ := h c
  obtain ⟨e0, e1, e2, e3, e4, e5⟩ := hargs c
  rw [e0, e1, e2, e3, e4, e5] at h0
  exact ⟨h0.trans ((Cert.Reference8Ideal.Out.rows_eq _ _ _ _ _ _).trans (Cert.Kernel8Ideal.Out.array m c).symm), ha⟩

theorem output_odd_sample_frame : Cert.quiescent_Reference8Ideal := fun m g _ =>
  (θ_run _ _ _).mono (fun r h => ⟨fun c => (h c).2, sem_eq_zero_of_no_sems rfl r.2⟩) (Cert.Reference8Ideal.Value.run m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.Kernel2.Gen.frame m g, fun m g _ => Cert.Kernel2Ideal.Gen.frame m g, projection_frame,
  fun m g _ => Cert.Kernel3.Gen.frame m g, fun m g _ => Cert.Kernel3Ideal.Gen.frame m g, projection_odd_frame,
  fun m g _ => Cert.Kernel4.Gen.frame m g, fun m g _ => Cert.Kernel4Ideal.Gen.frame m g, output_even_frame,
  fun m g _ => Cert.Kernel5.Gen.frame m g, fun m g _ => Cert.Kernel5Ideal.Gen.frame m g, output_odd_frame,
  fun m g _ => Cert.Kernel6.Gen.frame m g, fun m g _ => Cert.Kernel6Ideal.Gen.frame m g, projection_even_sample_frame,
  fun m g _ => Cert.Kernel7.Gen.frame m g, fun m g _ => Cert.Kernel7Ideal.Gen.frame m g, projection_odd_sample_frame,
  fun m g _ => Cert.Kernel8.Gen.frame m g, fun m g _ => Cert.Kernel8Ideal.Gen.frame m g, output_odd_sample_frame,
  trivial, algebraic, trivial, algebraic_projection, trivial, algebraic_projection_odd, trivial, algebraic_output_even, trivial, algebraic_output_odd, trivial, algebraic_projection_even_sample, trivial, algebraic_projection_odd_sample, trivial, algebraic_output_odd_sample⟩

end Cert.Proof

end
